-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S4096x8192 : Shape := ⟨2, ![4096, 8192]⟩
abbrev S2x256x2048 : Shape := ⟨3, ![2, 256, 2048]⟩
abbrev S256x2048 : Shape := ⟨2, ![256, 2048]⟩
abbrev S16x8x128 : Shape := ⟨3, ![16, 8, 128]⟩
abbrev S2 : Shape := ⟨1, ![2]⟩
abbrev S16 : Shape := ⟨1, ![16]⟩
abbrev S_ : Shape := ⟨0, ![]⟩
abbrev S256x256 : Shape := ⟨2, ![256, 256]⟩
abbrev S1x256x2048 : Shape := ⟨3, ![1, 256, 2048]⟩
abbrev S1 : Shape := ⟨1, ![1]⟩
abbrev S1x1x1 : Shape := ⟨3, ![1, 1, 1]⟩
abbrev S1x8x128 : Shape := ⟨3, ![1, 8, 128]⟩
abbrev S8x128 : Shape := ⟨2, ![8, 128]⟩
abbrev S1x16x8x128 : Shape := ⟨4, ![1, 16, 8, 128]⟩
abbrev S1x1x1x1 : Shape := ⟨4, ![1, 1, 1, 1]⟩

abbrev nBuf : Space → Nat
  | .hbm => 3
  | .vmem => 25
  | .smem => 0
  | _ => 0

abbrev bufTy : (tb : Table) → Fin (tcTables nBuf tb) → BufTy
  | .hbm, ⟨0, _⟩ => ⟨S4096x256, .bf16⟩
  | .hbm, ⟨1, _⟩ => ⟨S256x8192, .bf16⟩
  | .hbm, ⟨2, _⟩ => ⟨S4096x8192, .bf16⟩
  | .local _ .vmem, ⟨0, _⟩ => ⟨S4096x256, .bf16⟩
  | .local _ .vmem, ⟨1, _⟩ => ⟨S256x8192, .bf16⟩
  | .local _ .vmem, ⟨2, _⟩ => ⟨S2x256x2048, .bf16⟩
  | .local _ .vmem, ⟨3, _⟩ => ⟨S2x256x2048, .bf16⟩
  | .local _ .vmem, ⟨4, _⟩ => ⟨S2x256x2048, .bf16⟩
  | .local _ .vmem, ⟨5, _⟩ => ⟨S2x256x2048, .bf16⟩
  | .local _ .vmem, ⟨6, _⟩ => ⟨S2x256x2048, .bf16⟩
  | .local _ .vmem, ⟨7, _⟩ => ⟨S2x256x2048, .bf16⟩
  | .local _ .vmem, ⟨8, _⟩ => ⟨S2x256x2048, .bf16⟩
  | .local _ .vmem, ⟨9, _⟩ => ⟨S2x256x2048, .bf16⟩
  | .local _ .vmem, ⟨10, _⟩ => ⟨S2x256x2048, .bf16⟩
  | .local _ .vmem, ⟨11, _⟩ => ⟨S2x256x2048, .bf16⟩
  | .local _ .vmem, ⟨12, _⟩ => ⟨S2x256x2048, .bf16⟩
  | .local _ .vmem, ⟨13, _⟩ => ⟨S2x256x2048, .bf16⟩
  | .local _ .vmem, ⟨14, _⟩ => ⟨S256x2048, .i8⟩
  | .local _ .vmem, ⟨15, _⟩ => ⟨S256x2048, .i8⟩
  | .local _ .vmem, ⟨16, _⟩ => ⟨S256x2048, .i8⟩
  | .local _ .vmem, ⟨17, _⟩ => ⟨S256x2048, .i8⟩
  | .local _ .vmem, ⟨18, _⟩ => ⟨S2x256x2048, .i8⟩
  | .local _ .vmem, ⟨19, _⟩ => ⟨S2x256x2048, .i8⟩
  | .local _ .vmem, ⟨20, _⟩ => ⟨S2x256x2048, .i8⟩
  | .local _ .vmem, ⟨21, _⟩ => ⟨S2x256x2048, .i8⟩
  | .local _ .vmem, ⟨22, _⟩ => ⟨S16x8x128, .f32⟩
  | .local _ .vmem, ⟨23, _⟩ => ⟨S4096x256, .bf16⟩
  | .local _ .vmem, ⟨24, _⟩ => ⟨S256x8192, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  (ofTc nBuf bufTy 9 74 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_scratch12 : Ref sig .tc := ⟨.vmem, 14, rfl⟩
abbrev cc0_scratch13 : Ref sig .tc := ⟨.vmem, 15, rfl⟩
abbrev cc0_scratch14 : Ref sig .tc := ⟨.vmem, 16, rfl⟩
abbrev cc0_scratch15 : Ref sig .tc := ⟨.vmem, 17, rfl⟩
abbrev cc0_scratch16 : Ref sig .tc := ⟨.vmem, 18, rfl⟩
abbrev cc0_scratch17 : Ref sig .tc := ⟨.vmem, 19, rfl⟩
abbrev cc0_scratch18 : Ref sig .tc := ⟨.vmem, 20, rfl⟩
abbrev cc0_scratch19 : Ref sig .tc := ⟨.vmem, 21, rfl⟩
abbrev cc0_scratch20 : Ref sig .tc := ⟨.vmem, 22, rfl⟩
abbrev cc0_scratch51 : Ref sig .tc := ⟨.vmem, 23, rfl⟩
abbrev cc0_scratch52 : Ref sig .tc := ⟨.vmem, 24, rfl⟩
abbrev cc0_sem0_0 : DmaSem sig := 0
abbrev cc0_sem1_0 : DmaSem sig := 1
abbrev barrier0 : Sem sig := 8

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8 : BitVec 32 := 1#32
  let v11 : BitVec 32 := Scalar.muli v4 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v23 : BitVec 32 := Scalar.muli v2 c256_i32
  let v24 : Index := Scalar.indexCast v23
  let c0_17 : Index := 0#32
  ![v24.toNat, 0]
def k0_dev3 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_48 : BitVec 32 := 1#32
  let v59 : BitVec 32 := Scalar.muli v4 c1_i32_48
  let v60 : BitVec 32 := Scalar.addi c0_i32_49 v59
  v60.toNat
def k0_dev4 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_58 : BitVec 32 := 1#32
  let v69 : BitVec 32 := Scalar.muli v4 c1_i32_58
  let v70 : BitVec 32 := Scalar.addi c0_i32_59 v69
  v70.toNat
def k0_dev5 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_68 : BitVec 32 := 1#32
  let v79 : BitVec 32 := Scalar.muli v7 c1_i32_68
  let v80 : BitVec 32 := Scalar.addi c0_i32_69 v79
  v80.toNat
def k0_dev6 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_78 : BitVec 32 := 1#32
  let v89 : BitVec 32 := Scalar.muli v7 c1_i32_78
  let v90 : BitVec 32 := Scalar.addi c0_i32_79 v89
  v90.toNat
def k0_off2 (d0 : Dev nD) (c0_i32_84 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v99 : BitVec 32 := Scalar.addi v2 c32_i32
  let v100 : BitVec 32 := Scalar.subi v99 c0_i32_84
  let c1_i32_85 : BitVec 32 := 1#32
  let v101 : BitVec 32 := Scalar.subi v100 c1_i32_85
  let c16_i32_86 : BitVec 32 := 16#32
  let v102 : BitVec 32 := Scalar.remsi v101 c16_i32_86
  let c256_i32_87 : BitVec 32 := 256#32
  let v103 : BitVec 32 := Scalar.muli v102 c256_i32_87
  let v104 : Index := Scalar.indexCast v103
  let c0_88 : Index := 0#32
  ![v104.toNat, 0]
def k0_dev7 (d0 : Dev nD) : Nat :=
  let c0_i32_118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_117 : BitVec 32 := 1#32
  let v129 : BitVec 32 := Scalar.muli v7 c1_i32_117
  let v130 : BitVec 32 := Scalar.addi c0_i32_118 v129
  v130.toNat
def k0_dev8 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_123 : BitVec 32 := 1#32
  let v131 : BitVec 32 := Scalar.muli v4 c1_i32_123
  let v132 : BitVec 32 := Scalar.addi c0_i32_124 v131
  v132.toNat
def k0_dev9 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_164 : BitVec 32 := 1#32
  let v171 : BitVec 32 := Scalar.muli v7 c1_i32_164
  let v172 : BitVec 32 := Scalar.addi c0_i32_165 v171
  v172.toNat
def k0_dev10 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_170 : BitVec 32 := 1#32
  let v173 : BitVec 32 := Scalar.muli v4 c1_i32_170
  let v174 : BitVec 32 := Scalar.addi c0_i32_171 v173
  v174.toNat
def k0_off3 (d0 : Dev nD) (c0_i32_176 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v183 : BitVec 32 := Scalar.addi v2 c0_i32_176
  let c1_i32_177 : BitVec 32 := 1#32
  let v184 : BitVec 32 := Scalar.addi v183 c1_i32_177
  let c16_i32_178 : BitVec 32 := 16#32
  let v185 : BitVec 32 := Scalar.remsi v184 c16_i32_178
  let c256_i32_179 : BitVec 32 := 256#32
  let v186 : BitVec 32 := Scalar.muli v185 c256_i32_179
  let v187 : Index := Scalar.indexCast v186
  let c0_180 : Index := 0#32
  ![v187.toNat, 0]
def k0_dev11 (d0 : Dev nD) : Nat :=
  let c0_i32_211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_210 : BitVec 32 := 1#32
  let v212 : BitVec 32 := Scalar.muli v4 c1_i32_210
  let v213 : BitVec 32 := Scalar.addi c0_i32_211 v212
  v213.toNat
def k0_dev12 (d0 : Dev nD) : Nat :=
  let c0_i32_217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_216 : BitVec 32 := 1#32
  let v214 : BitVec 32 := Scalar.muli v7 c1_i32_216
  let v215 : BitVec 32 := Scalar.addi c0_i32_217 v214
  v215.toNat
def k0_dev13 (d0 : Dev nD) : Nat :=
  let c0_i32_257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_256 : BitVec 32 := 1#32
  let v253 : BitVec 32 := Scalar.muli v4 c1_i32_256
  let v254 : BitVec 32 := Scalar.addi c0_i32_257 v253
  v254.toNat
def k0_dev14 (d0 : Dev nD) : Nat :=
  let c0_i32_263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_262 : BitVec 32 := 1#32
  let v255 : BitVec 32 := Scalar.muli v7 c1_i32_262
  let v256 : BitVec 32 := Scalar.addi c0_i32_263 v255
  v256.toNat
def k0_dev15 (d0 : Dev nD) : Nat :=
  let c0_i32_304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_303 : BitVec 32 := 1#32
  let v295 : BitVec 32 := Scalar.muli v7 c1_i32_303
  let v296 : BitVec 32 := Scalar.addi c0_i32_304 v295
  v296.toNat
def k0_dev16 (d0 : Dev nD) : Nat :=
  let c0_i32_312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_311 : BitVec 32 := 1#32
  let v297 : BitVec 32 := Scalar.muli v4 c1_i32_311
  let v298 : BitVec 32 := Scalar.addi c0_i32_312 v297
  v298.toNat
def k0_dev17 (d0 : Dev nD) : Nat :=
  let c0_i32_353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_352 : BitVec 32 := 1#32
  let v337 : BitVec 32 := Scalar.muli v7 c1_i32_352
  let v338 : BitVec 32 := Scalar.addi c0_i32_353 v337
  v338.toNat
def k0_dev18 (d0 : Dev nD) : Nat :=
  let c0_i32_361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_360 : BitVec 32 := 1#32
  let v339 : BitVec 32 := Scalar.muli v4 c1_i32_360
  let v340 : BitVec 32 := Scalar.addi c0_i32_361 v339
  v340.toNat
def k0_dev19 (d0 : Dev nD) : Nat :=
  let c0_i32_401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_400 : BitVec 32 := 1#32
  let v378 : BitVec 32 := Scalar.muli v4 c1_i32_400
  let v379 : BitVec 32 := Scalar.addi c0_i32_401 v378
  v379.toNat
def k0_dev20 (d0 : Dev nD) : Nat :=
  let c0_i32_409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_408 : BitVec 32 := 1#32
  let v380 : BitVec 32 := Scalar.muli v7 c1_i32_408
  let v381 : BitVec 32 := Scalar.addi c0_i32_409 v380
  v381.toNat
def k0_dev21 (d0 : Dev nD) : Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_448 : BitVec 32 := 1#32
  let v419 : BitVec 32 := Scalar.muli v4 c1_i32_448
  let v420 : BitVec 32 := Scalar.addi c0_i32_449 v419
  v420.toNat
def k0_dev22 (d0 : Dev nD) : Nat :=
  let c0_i32_457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_456 : BitVec 32 := 1#32
  let v421 : BitVec 32 := Scalar.muli v7 c1_i32_456
  let v422 : BitVec 32 := Scalar.addi c0_i32_457 v421
  v422.toNat
def k0_dev23 (d0 : Dev nD) : Nat :=
  let c0_i32_498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_497 : BitVec 32 := 1#32
  let v461 : BitVec 32 := Scalar.muli v7 c1_i32_497
  let v462 : BitVec 32 := Scalar.addi c0_i32_498 v461
  v462.toNat
def k0_dev24 (d0 : Dev nD) : Nat :=
  let c0_i32_506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_505 : BitVec 32 := 1#32
  let v463 : BitVec 32 := Scalar.muli v4 c1_i32_505
  let v464 : BitVec 32 := Scalar.addi c0_i32_506 v463
  v464.toNat
def k0_dev25 (d0 : Dev nD) : Nat :=
  let c0_i32_547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_546 : BitVec 32 := 1#32
  let v503 : BitVec 32 := Scalar.muli v7 c1_i32_546
  let v504 : BitVec 32 := Scalar.addi c0_i32_547 v503
  v504.toNat
def k0_dev26 (d0 : Dev nD) : Nat :=
  let c0_i32_555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_554 : BitVec 32 := 1#32
  let v505 : BitVec 32 := Scalar.muli v4 c1_i32_554
  let v506 : BitVec 32 := Scalar.addi c0_i32_555 v505
  v506.toNat
def k0_dev27 (d0 : Dev nD) : Nat :=
  let c0_i32_595 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_594 : BitVec 32 := 1#32
  let v544 : BitVec 32 := Scalar.muli v4 c1_i32_594
  let v545 : BitVec 32 := Scalar.addi c0_i32_595 v544
  v545.toNat
def k0_dev28 (d0 : Dev nD) : Nat :=
  let c0_i32_603 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_602 : BitVec 32 := 1#32
  let v546 : BitVec 32 := Scalar.muli v7 c1_i32_602
  let v547 : BitVec 32 := Scalar.addi c0_i32_603 v546
  v547.toNat
def k0_dev29 (d0 : Dev nD) : Nat :=
  let c0_i32_643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_642 : BitVec 32 := 1#32
  let v585 : BitVec 32 := Scalar.muli v4 c1_i32_642
  let v586 : BitVec 32 := Scalar.addi c0_i32_643 v585
  v586.toNat
def k0_dev30 (d0 : Dev nD) : Nat :=
  let c0_i32_651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_650 : BitVec 32 := 1#32
  let v587 : BitVec 32 := Scalar.muli v7 c1_i32_650
  let v588 : BitVec 32 := Scalar.addi c0_i32_651 v587
  v588.toNat
def k0_dev31 (d0 : Dev nD) : Nat :=
  let c0_i32_691 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_690 : BitVec 32 := 1#32
  let v627 : BitVec 32 := Scalar.muli v7 c1_i32_690
  let v628 : BitVec 32 := Scalar.addi c0_i32_691 v627
  v628.toNat
def k0_dev32 (d0 : Dev nD) : Nat :=
  let c0_i32_699 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_698 : BitVec 32 := 1#32
  let v629 : BitVec 32 := Scalar.muli v4 c1_i32_698
  let v630 : BitVec 32 := Scalar.addi c0_i32_699 v629
  v630.toNat
def k0_dev33 (d0 : Dev nD) : Nat :=
  let c0_i32_740 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_739 : BitVec 32 := 1#32
  let v669 : BitVec 32 := Scalar.muli v7 c1_i32_739
  let v670 : BitVec 32 := Scalar.addi c0_i32_740 v669
  v670.toNat
def k0_dev34 (d0 : Dev nD) : Nat :=
  let c0_i32_748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_747 : BitVec 32 := 1#32
  let v671 : BitVec 32 := Scalar.muli v4 c1_i32_747
  let v672 : BitVec 32 := Scalar.addi c0_i32_748 v671
  v672.toNat
def k0_dev35 (d0 : Dev nD) : Nat :=
  let c0_i32_788 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_787 : BitVec 32 := 1#32
  let v710 : BitVec 32 := Scalar.muli v4 c1_i32_787
  let v711 : BitVec 32 := Scalar.addi c0_i32_788 v710
  v711.toNat
def k0_dev36 (d0 : Dev nD) : Nat :=
  let c0_i32_796 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_795 : BitVec 32 := 1#32
  let v712 : BitVec 32 := Scalar.muli v7 c1_i32_795
  let v713 : BitVec 32 := Scalar.addi c0_i32_796 v712
  v713.toNat
def k0_dev37 (d0 : Dev nD) : Nat :=
  let c0_i32_836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_835 : BitVec 32 := 1#32
  let v751 : BitVec 32 := Scalar.muli v4 c1_i32_835
  let v752 : BitVec 32 := Scalar.addi c0_i32_836 v751
  v752.toNat
def k0_dev38 (d0 : Dev nD) : Nat :=
  let c0_i32_844 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_843 : BitVec 32 := 1#32
  let v753 : BitVec 32 := Scalar.muli v7 c1_i32_843
  let v754 : BitVec 32 := Scalar.addi c0_i32_844 v753
  v754.toNat
def k0_dev39 (d0 : Dev nD) : Nat :=
  let c0_i32_884 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_883 : BitVec 32 := 1#32
  let v793 : BitVec 32 := Scalar.muli v7 c1_i32_883
  let v794 : BitVec 32 := Scalar.addi c0_i32_884 v793
  v794.toNat
def k0_dev40 (d0 : Dev nD) : Nat :=
  let c0_i32_892 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_891 : BitVec 32 := 1#32
  let v795 : BitVec 32 := Scalar.muli v4 c1_i32_891
  let v796 : BitVec 32 := Scalar.addi c0_i32_892 v795
  v796.toNat
def k0_dev41 (d0 : Dev nD) : Nat :=
  let c0_i32_933 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_932 : BitVec 32 := 1#32
  let v835 : BitVec 32 := Scalar.muli v7 c1_i32_932
  let v836 : BitVec 32 := Scalar.addi c0_i32_933 v835
  v836.toNat
def k0_dev42 (d0 : Dev nD) : Nat :=
  let c0_i32_941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_940 : BitVec 32 := 1#32
  let v837 : BitVec 32 := Scalar.muli v4 c1_i32_940
  let v838 : BitVec 32 := Scalar.addi c0_i32_941 v837
  v838.toNat
def k0_dev43 (d0 : Dev nD) : Nat :=
  let c0_i32_981 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_980 : BitVec 32 := 1#32
  let v876 : BitVec 32 := Scalar.muli v4 c1_i32_980
  let v877 : BitVec 32 := Scalar.addi c0_i32_981 v876
  v877.toNat
def k0_dev44 (d0 : Dev nD) : Nat :=
  let c0_i32_989 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_988 : BitVec 32 := 1#32
  let v878 : BitVec 32 := Scalar.muli v7 c1_i32_988
  let v879 : BitVec 32 := Scalar.addi c0_i32_989 v878
  v879.toNat
def k0_dev45 (d0 : Dev nD) : Nat :=
  let c0_i32_1029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1028 : BitVec 32 := 1#32
  let v917 : BitVec 32 := Scalar.muli v4 c1_i32_1028
  let v918 : BitVec 32 := Scalar.addi c0_i32_1029 v917
  v918.toNat
def k0_dev46 (d0 : Dev nD) : Nat :=
  let c0_i32_1037 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1036 : BitVec 32 := 1#32
  let v919 : BitVec 32 := Scalar.muli v7 c1_i32_1036
  let v920 : BitVec 32 := Scalar.addi c0_i32_1037 v919
  v920.toNat
def k0_dev47 (d0 : Dev nD) : Nat :=
  let c0_i32_1077 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1076 : BitVec 32 := 1#32
  let v959 : BitVec 32 := Scalar.muli v7 c1_i32_1076
  let v960 : BitVec 32 := Scalar.addi c0_i32_1077 v959
  v960.toNat
def k0_dev48 (d0 : Dev nD) : Nat :=
  let c0_i32_1085 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1084 : BitVec 32 := 1#32
  let v961 : BitVec 32 := Scalar.muli v4 c1_i32_1084
  let v962 : BitVec 32 := Scalar.addi c0_i32_1085 v961
  v962.toNat
def k0_dev49 (d0 : Dev nD) : Nat :=
  let c0_i32_1126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1125 : BitVec 32 := 1#32
  let v1001 : BitVec 32 := Scalar.muli v7 c1_i32_1125
  let v1002 : BitVec 32 := Scalar.addi c0_i32_1126 v1001
  v1002.toNat
def k0_dev50 (d0 : Dev nD) : Nat :=
  let c0_i32_1134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1133 : BitVec 32 := 1#32
  let v1003 : BitVec 32 := Scalar.muli v4 c1_i32_1133
  let v1004 : BitVec 32 := Scalar.addi c0_i32_1134 v1003
  v1004.toNat
def k0_dev51 (d0 : Dev nD) : Nat :=
  let c0_i32_1174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1173 : BitVec 32 := 1#32
  let v1042 : BitVec 32 := Scalar.muli v4 c1_i32_1173
  let v1043 : BitVec 32 := Scalar.addi c0_i32_1174 v1042
  v1043.toNat
def k0_dev52 (d0 : Dev nD) : Nat :=
  let c0_i32_1182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1181 : BitVec 32 := 1#32
  let v1044 : BitVec 32 := Scalar.muli v7 c1_i32_1181
  let v1045 : BitVec 32 := Scalar.addi c0_i32_1182 v1044
  v1045.toNat
def k0_dev53 (d0 : Dev nD) : Nat :=
  let c0_i32_1222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1221 : BitVec 32 := 1#32
  let v1083 : BitVec 32 := Scalar.muli v4 c1_i32_1221
  let v1084 : BitVec 32 := Scalar.addi c0_i32_1222 v1083
  v1084.toNat
def k0_dev54 (d0 : Dev nD) : Nat :=
  let c0_i32_1230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1229 : BitVec 32 := 1#32
  let v1085 : BitVec 32 := Scalar.muli v7 c1_i32_1229
  let v1086 : BitVec 32 := Scalar.addi c0_i32_1230 v1085
  v1086.toNat
def k0_dev55 (d0 : Dev nD) : Nat :=
  let c0_i32_1270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1269 : BitVec 32 := 1#32
  let v1125 : BitVec 32 := Scalar.muli v7 c1_i32_1269
  let v1126 : BitVec 32 := Scalar.addi c0_i32_1270 v1125
  v1126.toNat
def k0_dev56 (d0 : Dev nD) : Nat :=
  let c0_i32_1278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1277 : BitVec 32 := 1#32
  let v1127 : BitVec 32 := Scalar.muli v4 c1_i32_1277
  let v1128 : BitVec 32 := Scalar.addi c0_i32_1278 v1127
  v1128.toNat
def k0_dev57 (d0 : Dev nD) : Nat :=
  let c0_i32_1319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1318 : BitVec 32 := 1#32
  let v1167 : BitVec 32 := Scalar.muli v7 c1_i32_1318
  let v1168 : BitVec 32 := Scalar.addi c0_i32_1319 v1167
  v1168.toNat
def k0_dev58 (d0 : Dev nD) : Nat :=
  let c0_i32_1327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1326 : BitVec 32 := 1#32
  let v1169 : BitVec 32 := Scalar.muli v4 c1_i32_1326
  let v1170 : BitVec 32 := Scalar.addi c0_i32_1327 v1169
  v1170.toNat
def k0_dev59 (d0 : Dev nD) : Nat :=
  let c0_i32_1367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1366 : BitVec 32 := 1#32
  let v1208 : BitVec 32 := Scalar.muli v4 c1_i32_1366
  let v1209 : BitVec 32 := Scalar.addi c0_i32_1367 v1208
  v1209.toNat
def k0_dev60 (d0 : Dev nD) : Nat :=
  let c0_i32_1375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1374 : BitVec 32 := 1#32
  let v1210 : BitVec 32 := Scalar.muli v7 c1_i32_1374
  let v1211 : BitVec 32 := Scalar.addi c0_i32_1375 v1210
  v1211.toNat
def k0_dev61 (d0 : Dev nD) : Nat :=
  let c0_i32_1415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1414 : BitVec 32 := 1#32
  let v1249 : BitVec 32 := Scalar.muli v4 c1_i32_1414
  let v1250 : BitVec 32 := Scalar.addi c0_i32_1415 v1249
  v1250.toNat
def k0_dev62 (d0 : Dev nD) : Nat :=
  let c0_i32_1423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1422 : BitVec 32 := 1#32
  let v1251 : BitVec 32 := Scalar.muli v7 c1_i32_1422
  let v1252 : BitVec 32 := Scalar.addi c0_i32_1423 v1251
  v1252.toNat
def k0_dev63 (d0 : Dev nD) : Nat :=
  let c0_i32_1463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1462 : BitVec 32 := 1#32
  let v1291 : BitVec 32 := Scalar.muli v7 c1_i32_1462
  let v1292 : BitVec 32 := Scalar.addi c0_i32_1463 v1291
  v1292.toNat
def k0_dev64 (d0 : Dev nD) : Nat :=
  let c0_i32_1471 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1470 : BitVec 32 := 1#32
  let v1293 : BitVec 32 := Scalar.muli v4 c1_i32_1470
  let v1294 : BitVec 32 := Scalar.addi c0_i32_1471 v1293
  v1294.toNat
def k0_dev65 (d0 : Dev nD) : Nat :=
  let c0_i32_1512 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1511 : BitVec 32 := 1#32
  let v1333 : BitVec 32 := Scalar.muli v7 c1_i32_1511
  let v1334 : BitVec 32 := Scalar.addi c0_i32_1512 v1333
  v1334.toNat
def k0_dev66 (d0 : Dev nD) : Nat :=
  let c0_i32_1520 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1519 : BitVec 32 := 1#32
  let v1335 : BitVec 32 := Scalar.muli v4 c1_i32_1519
  let v1336 : BitVec 32 := Scalar.addi c0_i32_1520 v1335
  v1336.toNat
def k0_dev67 (d0 : Dev nD) : Nat :=
  let c0_i32_1560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1559 : BitVec 32 := 1#32
  let v1374 : BitVec 32 := Scalar.muli v4 c1_i32_1559
  let v1375 : BitVec 32 := Scalar.addi c0_i32_1560 v1374
  v1375.toNat
def k0_dev68 (d0 : Dev nD) : Nat :=
  let c0_i32_1568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1567 : BitVec 32 := 1#32
  let v1376 : BitVec 32 := Scalar.muli v7 c1_i32_1567
  let v1377 : BitVec 32 := Scalar.addi c0_i32_1568 v1376
  v1377.toNat
def k0_dev69 (d0 : Dev nD) : Nat :=
  let c0_i32_1608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1607 : BitVec 32 := 1#32
  let v1415 : BitVec 32 := Scalar.muli v4 c1_i32_1607
  let v1416 : BitVec 32 := Scalar.addi c0_i32_1608 v1415
  v1416.toNat
def k0_dev70 (d0 : Dev nD) : Nat :=
  let c0_i32_1616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1615 : BitVec 32 := 1#32
  let v1417 : BitVec 32 := Scalar.muli v7 c1_i32_1615
  let v1418 : BitVec 32 := Scalar.addi c0_i32_1616 v1417
  v1418.toNat
def k0_dev71 (d0 : Dev nD) : Nat :=
  let c0_i32_1656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1655 : BitVec 32 := 1#32
  let v1457 : BitVec 32 := Scalar.muli v7 c1_i32_1655
  let v1458 : BitVec 32 := Scalar.addi c0_i32_1656 v1457
  v1458.toNat
def k0_dev72 (d0 : Dev nD) : Nat :=
  let c0_i32_1664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1663 : BitVec 32 := 1#32
  let v1459 : BitVec 32 := Scalar.muli v4 c1_i32_1663
  let v1460 : BitVec 32 := Scalar.addi c0_i32_1664 v1459
  v1460.toNat
def k0_dev73 (d0 : Dev nD) : Nat :=
  let c0_i32_1705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1704 : BitVec 32 := 1#32
  let v1499 : BitVec 32 := Scalar.muli v7 c1_i32_1704
  let v1500 : BitVec 32 := Scalar.addi c0_i32_1705 v1499
  v1500.toNat
def k0_dev74 (d0 : Dev nD) : Nat :=
  let c0_i32_1713 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1712 : BitVec 32 := 1#32
  let v1501 : BitVec 32 := Scalar.muli v4 c1_i32_1712
  let v1502 : BitVec 32 := Scalar.addi c0_i32_1713 v1501
  v1502.toNat
def k0_dev75 (d0 : Dev nD) : Nat :=
  let c0_i32_1753 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1752 : BitVec 32 := 1#32
  let v1540 : BitVec 32 := Scalar.muli v4 c1_i32_1752
  let v1541 : BitVec 32 := Scalar.addi c0_i32_1753 v1540
  v1541.toNat
def k0_dev76 (d0 : Dev nD) : Nat :=
  let c0_i32_1761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1760 : BitVec 32 := 1#32
  let v1542 : BitVec 32 := Scalar.muli v7 c1_i32_1760
  let v1543 : BitVec 32 := Scalar.addi c0_i32_1761 v1542
  v1543.toNat
def k0_dev77 (d0 : Dev nD) : Nat :=
  let c0_i32_1801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1800 : BitVec 32 := 1#32
  let v1581 : BitVec 32 := Scalar.muli v4 c1_i32_1800
  let v1582 : BitVec 32 := Scalar.addi c0_i32_1801 v1581
  v1582.toNat
def k0_dev78 (d0 : Dev nD) : Nat :=
  let c0_i32_1809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1808 : BitVec 32 := 1#32
  let v1583 : BitVec 32 := Scalar.muli v7 c1_i32_1808
  let v1584 : BitVec 32 := Scalar.addi c0_i32_1809 v1583
  v1584.toNat
def k0_dev79 (d0 : Dev nD) : Nat :=
  let c0_i32_1849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1848 : BitVec 32 := 1#32
  let v1623 : BitVec 32 := Scalar.muli v7 c1_i32_1848
  let v1624 : BitVec 32 := Scalar.addi c0_i32_1849 v1623
  v1624.toNat
def k0_dev80 (d0 : Dev nD) : Nat :=
  let c0_i32_1857 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1856 : BitVec 32 := 1#32
  let v1625 : BitVec 32 := Scalar.muli v4 c1_i32_1856
  let v1626 : BitVec 32 := Scalar.addi c0_i32_1857 v1625
  v1626.toNat
def k0_dev81 (d0 : Dev nD) : Nat :=
  let c0_i32_1898 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1897 : BitVec 32 := 1#32
  let v1665 : BitVec 32 := Scalar.muli v7 c1_i32_1897
  let v1666 : BitVec 32 := Scalar.addi c0_i32_1898 v1665
  v1666.toNat
def k0_dev82 (d0 : Dev nD) : Nat :=
  let c0_i32_1906 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1905 : BitVec 32 := 1#32
  let v1667 : BitVec 32 := Scalar.muli v4 c1_i32_1905
  let v1668 : BitVec 32 := Scalar.addi c0_i32_1906 v1667
  v1668.toNat
def k0_dev83 (d0 : Dev nD) : Nat :=
  let c0_i32_1946 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1945 : BitVec 32 := 1#32
  let v1706 : BitVec 32 := Scalar.muli v4 c1_i32_1945
  let v1707 : BitVec 32 := Scalar.addi c0_i32_1946 v1706
  v1707.toNat
def k0_dev84 (d0 : Dev nD) : Nat :=
  let c0_i32_1954 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1953 : BitVec 32 := 1#32
  let v1708 : BitVec 32 := Scalar.muli v7 c1_i32_1953
  let v1709 : BitVec 32 := Scalar.addi c0_i32_1954 v1708
  v1709.toNat
def k0_dev85 (d0 : Dev nD) : Nat :=
  let c0_i32_1994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1993 : BitVec 32 := 1#32
  let v1747 : BitVec 32 := Scalar.muli v4 c1_i32_1993
  let v1748 : BitVec 32 := Scalar.addi c0_i32_1994 v1747
  v1748.toNat
def k0_dev86 (d0 : Dev nD) : Nat :=
  let c0_i32_2002 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2001 : BitVec 32 := 1#32
  let v1749 : BitVec 32 := Scalar.muli v7 c1_i32_2001
  let v1750 : BitVec 32 := Scalar.addi c0_i32_2002 v1749
  v1750.toNat
def k0_dev87 (d0 : Dev nD) : Nat :=
  let c0_i32_2042 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2041 : BitVec 32 := 1#32
  let v1789 : BitVec 32 := Scalar.muli v7 c1_i32_2041
  let v1790 : BitVec 32 := Scalar.addi c0_i32_2042 v1789
  v1790.toNat
def k0_dev88 (d0 : Dev nD) : Nat :=
  let c0_i32_2050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2049 : BitVec 32 := 1#32
  let v1791 : BitVec 32 := Scalar.muli v4 c1_i32_2049
  let v1792 : BitVec 32 := Scalar.addi c0_i32_2050 v1791
  v1792.toNat
def k0_dev89 (d0 : Dev nD) : Nat :=
  let c0_i32_2091 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2090 : BitVec 32 := 1#32
  let v1831 : BitVec 32 := Scalar.muli v7 c1_i32_2090
  let v1832 : BitVec 32 := Scalar.addi c0_i32_2091 v1831
  v1832.toNat
def k0_dev90 (d0 : Dev nD) : Nat :=
  let c0_i32_2099 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2098 : BitVec 32 := 1#32
  let v1833 : BitVec 32 := Scalar.muli v4 c1_i32_2098
  let v1834 : BitVec 32 := Scalar.addi c0_i32_2099 v1833
  v1834.toNat
def k0_dev91 (d0 : Dev nD) : Nat :=
  let c0_i32_2139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2138 : BitVec 32 := 1#32
  let v1872 : BitVec 32 := Scalar.muli v4 c1_i32_2138
  let v1873 : BitVec 32 := Scalar.addi c0_i32_2139 v1872
  v1873.toNat
def k0_dev92 (d0 : Dev nD) : Nat :=
  let c0_i32_2147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2146 : BitVec 32 := 1#32
  let v1874 : BitVec 32 := Scalar.muli v7 c1_i32_2146
  let v1875 : BitVec 32 := Scalar.addi c0_i32_2147 v1874
  v1875.toNat
def k0_dev93 (d0 : Dev nD) : Nat :=
  let c0_i32_2187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2186 : BitVec 32 := 1#32
  let v1913 : BitVec 32 := Scalar.muli v4 c1_i32_2186
  let v1914 : BitVec 32 := Scalar.addi c0_i32_2187 v1913
  v1914.toNat
def k0_dev94 (d0 : Dev nD) : Nat :=
  let c0_i32_2195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2194 : BitVec 32 := 1#32
  let v1915 : BitVec 32 := Scalar.muli v7 c1_i32_2194
  let v1916 : BitVec 32 := Scalar.addi c0_i32_2195 v1915
  v1916.toNat
def k0_dev95 (d0 : Dev nD) : Nat :=
  let c0_i32_2235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2234 : BitVec 32 := 1#32
  let v1955 : BitVec 32 := Scalar.muli v7 c1_i32_2234
  let v1956 : BitVec 32 := Scalar.addi c0_i32_2235 v1955
  v1956.toNat
def k0_dev96 (d0 : Dev nD) : Nat :=
  let c0_i32_2243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2242 : BitVec 32 := 1#32
  let v1957 : BitVec 32 := Scalar.muli v4 c1_i32_2242
  let v1958 : BitVec 32 := Scalar.addi c0_i32_2243 v1957
  v1958.toNat
def k0_dev97 (d0 : Dev nD) : Nat :=
  let c0_i32_2284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2283 : BitVec 32 := 1#32
  let v1997 : BitVec 32 := Scalar.muli v7 c1_i32_2283
  let v1998 : BitVec 32 := Scalar.addi c0_i32_2284 v1997
  v1998.toNat
def k0_dev98 (d0 : Dev nD) : Nat :=
  let c0_i32_2292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2291 : BitVec 32 := 1#32
  let v1999 : BitVec 32 := Scalar.muli v4 c1_i32_2291
  let v2000 : BitVec 32 := Scalar.addi c0_i32_2292 v1999
  v2000.toNat
def k0_dev99 (d0 : Dev nD) : Nat :=
  let c0_i32_2332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2331 : BitVec 32 := 1#32
  let v2038 : BitVec 32 := Scalar.muli v4 c1_i32_2331
  let v2039 : BitVec 32 := Scalar.addi c0_i32_2332 v2038
  v2039.toNat
def k0_dev100 (d0 : Dev nD) : Nat :=
  let c0_i32_2340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2339 : BitVec 32 := 1#32
  let v2040 : BitVec 32 := Scalar.muli v7 c1_i32_2339
  let v2041 : BitVec 32 := Scalar.addi c0_i32_2340 v2040
  v2041.toNat
def k0_dev101 (d0 : Dev nD) : Nat :=
  let c0_i32_2380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2379 : BitVec 32 := 1#32
  let v2079 : BitVec 32 := Scalar.muli v4 c1_i32_2379
  let v2080 : BitVec 32 := Scalar.addi c0_i32_2380 v2079
  v2080.toNat
def k0_dev102 (d0 : Dev nD) : Nat :=
  let c0_i32_2388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2387 : BitVec 32 := 1#32
  let v2081 : BitVec 32 := Scalar.muli v7 c1_i32_2387
  let v2082 : BitVec 32 := Scalar.addi c0_i32_2388 v2081
  v2082.toNat
def k0_dev103 (d0 : Dev nD) : Nat :=
  let c0_i32_2428 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2427 : BitVec 32 := 1#32
  let v2121 : BitVec 32 := Scalar.muli v7 c1_i32_2427
  let v2122 : BitVec 32 := Scalar.addi c0_i32_2428 v2121
  v2122.toNat
def k0_dev104 (d0 : Dev nD) : Nat :=
  let c0_i32_2436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2435 : BitVec 32 := 1#32
  let v2123 : BitVec 32 := Scalar.muli v4 c1_i32_2435
  let v2124 : BitVec 32 := Scalar.addi c0_i32_2436 v2123
  v2124.toNat
def k0_dev105 (d0 : Dev nD) : Nat :=
  let c0_i32_2477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2476 : BitVec 32 := 1#32
  let v2163 : BitVec 32 := Scalar.muli v7 c1_i32_2476
  let v2164 : BitVec 32 := Scalar.addi c0_i32_2477 v2163
  v2164.toNat
def k0_dev106 (d0 : Dev nD) : Nat :=
  let c0_i32_2485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2484 : BitVec 32 := 1#32
  let v2165 : BitVec 32 := Scalar.muli v4 c1_i32_2484
  let v2166 : BitVec 32 := Scalar.addi c0_i32_2485 v2165
  v2166.toNat
def k0_dev107 (d0 : Dev nD) : Nat :=
  let c0_i32_2525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2524 : BitVec 32 := 1#32
  let v2204 : BitVec 32 := Scalar.muli v4 c1_i32_2524
  let v2205 : BitVec 32 := Scalar.addi c0_i32_2525 v2204
  v2205.toNat
def k0_dev108 (d0 : Dev nD) : Nat :=
  let c0_i32_2533 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2532 : BitVec 32 := 1#32
  let v2206 : BitVec 32 := Scalar.muli v7 c1_i32_2532
  let v2207 : BitVec 32 := Scalar.addi c0_i32_2533 v2206
  v2207.toNat
def k0_dev109 (d0 : Dev nD) : Nat :=
  let c0_i32_2573 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2572 : BitVec 32 := 1#32
  let v2245 : BitVec 32 := Scalar.muli v4 c1_i32_2572
  let v2246 : BitVec 32 := Scalar.addi c0_i32_2573 v2245
  v2246.toNat
def k0_dev110 (d0 : Dev nD) : Nat :=
  let c0_i32_2581 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2580 : BitVec 32 := 1#32
  let v2247 : BitVec 32 := Scalar.muli v7 c1_i32_2580
  let v2248 : BitVec 32 := Scalar.addi c0_i32_2581 v2247
  v2248.toNat
def k0_dev111 (d0 : Dev nD) : Nat :=
  let c0_i32_2626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2625 : BitVec 32 := 1#32
  let v2287 : BitVec 32 := Scalar.muli v4 c1_i32_2625
  let v2288 : BitVec 32 := Scalar.addi c0_i32_2626 v2287
  v2288.toNat
def k0_dev112 (d0 : Dev nD) : Nat :=
  let c0_i32_2672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2671 : BitVec 32 := 1#32
  let v2327 : BitVec 32 := Scalar.muli v4 c1_i32_2671
  let v2328 : BitVec 32 := Scalar.addi c0_i32_2672 v2327
  v2328.toNat
def k0_dev113 (d0 : Dev nD) : Nat :=
  let c0_i32_2717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2716 : BitVec 32 := 1#32
  let v2366 : BitVec 32 := Scalar.muli v7 c1_i32_2716
  let v2367 : BitVec 32 := Scalar.addi c0_i32_2717 v2366
  v2367.toNat
def k0_dev114 (d0 : Dev nD) : Nat :=
  let c0_i32_2762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2761 : BitVec 32 := 1#32
  let v2405 : BitVec 32 := Scalar.muli v7 c1_i32_2761
  let v2406 : BitVec 32 := Scalar.addi c0_i32_2762 v2405
  v2406.toNat
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2566 : Index := Scalar.indexCast v2
  let c0_2917 : Index := 0#32
  let c0_2918 : Index := 0#32
  ![v2566.toNat, 0, 0]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2919 : BitVec 32 := 0#32
  let v2570 : BitVec 1 := Scalar.cmpi .ne v2 c0_i32_2919
  let v2571 : BitVec 32 := Scalar.extui v2570
  let c0_i32_2920 : BitVec 32 := 0#32
  let v2572 : BitVec 1 := Scalar.cmpi .ne v2571 c0_i32_2920
  v2572

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6425 : BitVec 32 := 0#32
  let c0_i32_6426 : BitVec 32 := 0#32
  ![v2.toNat, 0, 0]
def k0_dev115 : Nat :=
  let c0_i32_6424 : BitVec 32 := 0#32
  let c0_i32_6422 : BitVec 32 := 0#32
  let c1_i32_6423 : BitVec 32 := 1#32
  let v5893 : BitVec 32 := Scalar.muli c0_i32_6422 c1_i32_6423
  let v5894 : BitVec 32 := Scalar.addi c0_i32_6424 v5893
  v5894.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2921 : BitVec 32 := 1#32
  let v2573 : BitVec 1 := Scalar.cmpi .ne v2 c1_i32_2921
  let v2574 : BitVec 32 := Scalar.extui v2573
  let c0_i32_2922 : BitVec 32 := 0#32
  let v2575 : BitVec 1 := Scalar.cmpi .ne v2574 c0_i32_2922
  v2575

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6425 : BitVec 32 := 0#32
  let c0_i32_6426 : BitVec 32 := 0#32
  ![v2.toNat, 0, 0]
def k0_dev116 : Nat :=
  let c0_i32_6424 : BitVec 32 := 0#32
  let c1_i32_6422 : BitVec 32 := 1#32
  let c1_i32_6423 : BitVec 32 := 1#32
  let v5893 : BitVec 32 := Scalar.muli c1_i32_6422 c1_i32_6423
  let v5894 : BitVec 32 := Scalar.addi c0_i32_6424 v5893
  v5894.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2923 : BitVec 32 := 2#32
  let v2576 : BitVec 1 := Scalar.cmpi .ne v2 c2_i32_2923
  let v2577 : BitVec 32 := Scalar.extui v2576
  let c0_i32_2924 : BitVec 32 := 0#32
  let v2578 : BitVec 1 := Scalar.cmpi .ne v2577 c0_i32_2924
  v2578

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6425 : BitVec 32 := 0#32
  let c0_i32_6426 : BitVec 32 := 0#32
  ![v2.toNat, 0, 0]
def k0_dev117 : Nat :=
  let c0_i32_6424 : BitVec 32 := 0#32
  let c2_i32_6422 : BitVec 32 := 2#32
  let c1_i32_6423 : BitVec 32 := 1#32
  let v5893 : BitVec 32 := Scalar.muli c2_i32_6422 c1_i32_6423
  let v5894 : BitVec 32 := Scalar.addi c0_i32_6424 v5893
  v5894.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2925 : BitVec 32 := 3#32
  let v2579 : BitVec 1 := Scalar.cmpi .ne v2 c3_i32_2925
  let v2580 : BitVec 32 := Scalar.extui v2579
  let c0_i32_2926 : BitVec 32 := 0#32
  let v2581 : BitVec 1 := Scalar.cmpi .ne v2580 c0_i32_2926
  v2581

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6425 : BitVec 32 := 0#32
  let c0_i32_6426 : BitVec 32 := 0#32
  ![v2.toNat, 0, 0]
def k0_dev118 : Nat :=
  let c0_i32_6424 : BitVec 32 := 0#32
  let c3_i32_6422 : BitVec 32 := 3#32
  let c1_i32_6423 : BitVec 32 := 1#32
  let v5893 : BitVec 32 := Scalar.muli c3_i32_6422 c1_i32_6423
  let v5894 : BitVec 32 := Scalar.addi c0_i32_6424 v5893
  v5894.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2927 : BitVec 32 := 4#32
  let v2582 : BitVec 1 := Scalar.cmpi .ne v2 c4_i32_2927
  let v2583 : BitVec 32 := Scalar.extui v2582
  let c0_i32_2928 : BitVec 32 := 0#32
  let v2584 : BitVec 1 := Scalar.cmpi .ne v2583 c0_i32_2928
  v2584

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6425 : BitVec 32 := 0#32
  let c0_i32_6426 : BitVec 32 := 0#32
  ![v2.toNat, 0, 0]
def k0_dev119 : Nat :=
  let c0_i32_6424 : BitVec 32 := 0#32
  let c4_i32_6422 : BitVec 32 := 4#32
  let c1_i32_6423 : BitVec 32 := 1#32
  let v5893 : BitVec 32 := Scalar.muli c4_i32_6422 c1_i32_6423
  let v5894 : BitVec 32 := Scalar.addi c0_i32_6424 v5893
  v5894.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2929 : BitVec 32 := 5#32
  let v2585 : BitVec 1 := Scalar.cmpi .ne v2 c5_i32_2929
  let v2586 : BitVec 32 := Scalar.extui v2585
  let c0_i32_2930 : BitVec 32 := 0#32
  let v2587 : BitVec 1 := Scalar.cmpi .ne v2586 c0_i32_2930
  v2587

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6425 : BitVec 32 := 0#32
  let c0_i32_6426 : BitVec 32 := 0#32
  ![v2.toNat, 0, 0]
def k0_dev120 : Nat :=
  let c0_i32_6424 : BitVec 32 := 0#32
  let c5_i32_6422 : BitVec 32 := 5#32
  let c1_i32_6423 : BitVec 32 := 1#32
  let v5893 : BitVec 32 := Scalar.muli c5_i32_6422 c1_i32_6423
  let v5894 : BitVec 32 := Scalar.addi c0_i32_6424 v5893
  v5894.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2931 : BitVec 32 := 6#32
  let v2588 : BitVec 1 := Scalar.cmpi .ne v2 c6_i32_2931
  let v2589 : BitVec 32 := Scalar.extui v2588
  let c0_i32_2932 : BitVec 32 := 0#32
  let v2590 : BitVec 1 := Scalar.cmpi .ne v2589 c0_i32_2932
  v2590

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6425 : BitVec 32 := 0#32
  let c0_i32_6426 : BitVec 32 := 0#32
  ![v2.toNat, 0, 0]
def k0_dev121 : Nat :=
  let c0_i32_6424 : BitVec 32 := 0#32
  let c6_i32_6422 : BitVec 32 := 6#32
  let c1_i32_6423 : BitVec 32 := 1#32
  let v5893 : BitVec 32 := Scalar.muli c6_i32_6422 c1_i32_6423
  let v5894 : BitVec 32 := Scalar.addi c0_i32_6424 v5893
  v5894.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2933 : BitVec 32 := 7#32
  let v2591 : BitVec 1 := Scalar.cmpi .ne v2 c7_i32_2933
  let v2592 : BitVec 32 := Scalar.extui v2591
  let c0_i32_2934 : BitVec 32 := 0#32
  let v2593 : BitVec 1 := Scalar.cmpi .ne v2592 c0_i32_2934
  v2593

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6425 : BitVec 32 := 0#32
  let c0_i32_6426 : BitVec 32 := 0#32
  ![v2.toNat, 0, 0]
def k0_dev122 : Nat :=
  let c0_i32_6424 : BitVec 32 := 0#32
  let c7_i32_6422 : BitVec 32 := 7#32
  let c1_i32_6423 : BitVec 32 := 1#32
  let v5893 : BitVec 32 := Scalar.muli c7_i32_6422 c1_i32_6423
  let v5894 : BitVec 32 := Scalar.addi c0_i32_6424 v5893
  v5894.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2935 : BitVec 32 := 8#32
  let v2594 : BitVec 1 := Scalar.cmpi .ne v2 c8_i32_2935
  let v2595 : BitVec 32 := Scalar.extui v2594
  let c0_i32_2936 : BitVec 32 := 0#32
  let v2596 : BitVec 1 := Scalar.cmpi .ne v2595 c0_i32_2936
  v2596

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6425 : BitVec 32 := 0#32
  let c0_i32_6426 : BitVec 32 := 0#32
  ![v2.toNat, 0, 0]
def k0_dev123 : Nat :=
  let c0_i32_6424 : BitVec 32 := 0#32
  let c8_i32_6422 : BitVec 32 := 8#32
  let c1_i32_6423 : BitVec 32 := 1#32
  let v5893 : BitVec 32 := Scalar.muli c8_i32_6422 c1_i32_6423
  let v5894 : BitVec 32 := Scalar.addi c0_i32_6424 v5893
  v5894.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2937 : BitVec 32 := 9#32
  let v2597 : BitVec 1 := Scalar.cmpi .ne v2 c9_i32_2937
  let v2598 : BitVec 32 := Scalar.extui v2597
  let c0_i32_2938 : BitVec 32 := 0#32
  let v2599 : BitVec 1 := Scalar.cmpi .ne v2598 c0_i32_2938
  v2599

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6425 : BitVec 32 := 0#32
  let c0_i32_6426 : BitVec 32 := 0#32
  ![v2.toNat, 0, 0]
def k0_dev124 : Nat :=
  let c0_i32_6424 : BitVec 32 := 0#32
  let c9_i32_6422 : BitVec 32 := 9#32
  let c1_i32_6423 : BitVec 32 := 1#32
  let v5893 : BitVec 32 := Scalar.muli c9_i32_6422 c1_i32_6423
  let v5894 : BitVec 32 := Scalar.addi c0_i32_6424 v5893
  v5894.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2939 : BitVec 32 := 10#32
  let v2600 : BitVec 1 := Scalar.cmpi .ne v2 c10_i32_2939
  let v2601 : BitVec 32 := Scalar.extui v2600
  let c0_i32_2940 : BitVec 32 := 0#32
  let v2602 : BitVec 1 := Scalar.cmpi .ne v2601 c0_i32_2940
  v2602

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6425 : BitVec 32 := 0#32
  let c0_i32_6426 : BitVec 32 := 0#32
  ![v2.toNat, 0, 0]
def k0_dev125 : Nat :=
  let c0_i32_6424 : BitVec 32 := 0#32
  let c10_i32_6422 : BitVec 32 := 10#32
  let c1_i32_6423 : BitVec 32 := 1#32
  let v5893 : BitVec 32 := Scalar.muli c10_i32_6422 c1_i32_6423
  let v5894 : BitVec 32 := Scalar.addi c0_i32_6424 v5893
  v5894.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2941 : BitVec 32 := 11#32
  let v2603 : BitVec 1 := Scalar.cmpi .ne v2 c11_i32_2941
  let v2604 : BitVec 32 := Scalar.extui v2603
  let c0_i32_2942 : BitVec 32 := 0#32
  let v2605 : BitVec 1 := Scalar.cmpi .ne v2604 c0_i32_2942
  v2605

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6425 : BitVec 32 := 0#32
  let c0_i32_6426 : BitVec 32 := 0#32
  ![v2.toNat, 0, 0]
def k0_dev126 : Nat :=
  let c0_i32_6424 : BitVec 32 := 0#32
  let c11_i32_6422 : BitVec 32 := 11#32
  let c1_i32_6423 : BitVec 32 := 1#32
  let v5893 : BitVec 32 := Scalar.muli c11_i32_6422 c1_i32_6423
  let v5894 : BitVec 32 := Scalar.addi c0_i32_6424 v5893
  v5894.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2943 : BitVec 32 := 12#32
  let v2606 : BitVec 1 := Scalar.cmpi .ne v2 c12_i32_2943
  let v2607 : BitVec 32 := Scalar.extui v2606
  let c0_i32_2944 : BitVec 32 := 0#32
  let v2608 : BitVec 1 := Scalar.cmpi .ne v2607 c0_i32_2944
  v2608

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6425 : BitVec 32 := 0#32
  let c0_i32_6426 : BitVec 32 := 0#32
  ![v2.toNat, 0, 0]
def k0_dev127 : Nat :=
  let c0_i32_6424 : BitVec 32 := 0#32
  let c12_i32_6422 : BitVec 32 := 12#32
  let c1_i32_6423 : BitVec 32 := 1#32
  let v5893 : BitVec 32 := Scalar.muli c12_i32_6422 c1_i32_6423
  let v5894 : BitVec 32 := Scalar.addi c0_i32_6424 v5893
  v5894.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2945 : BitVec 32 := 13#32
  let v2609 : BitVec 1 := Scalar.cmpi .ne v2 c13_i32_2945
  let v2610 : BitVec 32 := Scalar.extui v2609
  let c0_i32_2946 : BitVec 32 := 0#32
  let v2611 : BitVec 1 := Scalar.cmpi .ne v2610 c0_i32_2946
  v2611

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6425 : BitVec 32 := 0#32
  let c0_i32_6426 : BitVec 32 := 0#32
  ![v2.toNat, 0, 0]
def k0_dev128 : Nat :=
  let c0_i32_6424 : BitVec 32 := 0#32
  let c13_i32_6422 : BitVec 32 := 13#32
  let c1_i32_6423 : BitVec 32 := 1#32
  let v5893 : BitVec 32 := Scalar.muli c13_i32_6422 c1_i32_6423
  let v5894 : BitVec 32 := Scalar.addi c0_i32_6424 v5893
  v5894.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2947 : BitVec 32 := 14#32
  let v2612 : BitVec 1 := Scalar.cmpi .ne v2 c14_i32_2947
  let v2613 : BitVec 32 := Scalar.extui v2612
  let c0_i32_2948 : BitVec 32 := 0#32
  let v2614 : BitVec 1 := Scalar.cmpi .ne v2613 c0_i32_2948
  v2614

def k0_off33 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6425 : BitVec 32 := 0#32
  let c0_i32_6426 : BitVec 32 := 0#32
  ![v2.toNat, 0, 0]
def k0_dev129 : Nat :=
  let c0_i32_6424 : BitVec 32 := 0#32
  let c14_i32_6422 : BitVec 32 := 14#32
  let c1_i32_6423 : BitVec 32 := 1#32
  let v5893 : BitVec 32 := Scalar.muli c14_i32_6422 c1_i32_6423
  let v5894 : BitVec 32 := Scalar.addi c0_i32_6424 v5893
  v5894.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v2615 : BitVec 1 := Scalar.cmpi .ne v2 c15_i32
  let v2616 : BitVec 32 := Scalar.extui v2615
  let c0_i32_2949 : BitVec 32 := 0#32
  let v2617 : BitVec 1 := Scalar.cmpi .ne v2616 c0_i32_2949
  v2617

def k0_off35 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6425 : BitVec 32 := 0#32
  let c0_i32_6426 : BitVec 32 := 0#32
  ![v2.toNat, 0, 0]
def k0_dev130 : Nat :=
  let c0_i32_6424 : BitVec 32 := 0#32
  let c15_i32_6422 : BitVec 32 := 15#32
  let c1_i32_6423 : BitVec 32 := 1#32
  let v5893 : BitVec 32 := Scalar.muli c15_i32_6422 c1_i32_6423
  let v5894 : BitVec 32 := Scalar.addi c0_i32_6424 v5893
  v5894.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2950 : BitVec 32 := 0#32
  let v2618 : BitVec 1 := Scalar.cmpi .ne v2 c0_i32_2950
  let v2619 : BitVec 32 := Scalar.extui v2618
  let c0_i32_2951 : BitVec 32 := 0#32
  let v2620 : BitVec 1 := Scalar.cmpi .ne v2619 c0_i32_2951
  v2620

def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6426 : BitVec 32 := 0#32
  let c0_i32_6427 : BitVec 32 := 0#32
  ![v2.toNat, 0, 0]
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2952 : BitVec 32 := 1#32
  let v2621 : BitVec 1 := Scalar.cmpi .ne v2 c1_i32_2952
  let v2622 : BitVec 32 := Scalar.extui v2621
  let c0_i32_2953 : BitVec 32 := 0#32
  let v2623 : BitVec 1 := Scalar.cmpi .ne v2622 c0_i32_2953
  v2623

def k0_off38 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6426 : BitVec 32 := 0#32
  let c0_i32_6427 : BitVec 32 := 0#32
  ![v2.toNat, 0, 0]
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2954 : BitVec 32 := 2#32
  let v2624 : BitVec 1 := Scalar.cmpi .ne v2 c2_i32_2954
  let v2625 : BitVec 32 := Scalar.extui v2624
  let c0_i32_2955 : BitVec 32 := 0#32
  let v2626 : BitVec 1 := Scalar.cmpi .ne v2625 c0_i32_2955
  v2626

def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6426 : BitVec 32 := 0#32
  let c0_i32_6427 : BitVec 32 := 0#32
  ![v2.toNat, 0, 0]
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2956 : BitVec 32 := 3#32
  let v2627 : BitVec 1 := Scalar.cmpi .ne v2 c3_i32_2956
  let v2628 : BitVec 32 := Scalar.extui v2627
  let c0_i32_2957 : BitVec 32 := 0#32
  let v2629 : BitVec 1 := Scalar.cmpi .ne v2628 c0_i32_2957
  v2629

def k0_off40 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6426 : BitVec 32 := 0#32
  let c0_i32_6427 : BitVec 32 := 0#32
  ![v2.toNat, 0, 0]
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2958 : BitVec 32 := 4#32
  let v2630 : BitVec 1 := Scalar.cmpi .ne v2 c4_i32_2958
  let v2631 : BitVec 32 := Scalar.extui v2630
  let c0_i32_2959 : BitVec 32 := 0#32
  let v2632 : BitVec 1 := Scalar.cmpi .ne v2631 c0_i32_2959
  v2632

def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6426 : BitVec 32 := 0#32
  let c0_i32_6427 : BitVec 32 := 0#32
  ![v2.toNat, 0, 0]
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2960 : BitVec 32 := 5#32
  let v2633 : BitVec 1 := Scalar.cmpi .ne v2 c5_i32_2960
  let v2634 : BitVec 32 := Scalar.extui v2633
  let c0_i32_2961 : BitVec 32 := 0#32
  let v2635 : BitVec 1 := Scalar.cmpi .ne v2634 c0_i32_2961
  v2635

def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6426 : BitVec 32 := 0#32
  let c0_i32_6427 : BitVec 32 := 0#32
  ![v2.toNat, 0, 0]
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2962 : BitVec 32 := 6#32
  let v2636 : BitVec 1 := Scalar.cmpi .ne v2 c6_i32_2962
  let v2637 : BitVec 32 := Scalar.extui v2636
  let c0_i32_2963 : BitVec 32 := 0#32
  let v2638 : BitVec 1 := Scalar.cmpi .ne v2637 c0_i32_2963
  v2638

def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6426 : BitVec 32 := 0#32
  let c0_i32_6427 : BitVec 32 := 0#32
  ![v2.toNat, 0, 0]
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2964 : BitVec 32 := 7#32
  let v2639 : BitVec 1 := Scalar.cmpi .ne v2 c7_i32_2964
  let v2640 : BitVec 32 := Scalar.extui v2639
  let c0_i32_2965 : BitVec 32 := 0#32
  let v2641 : BitVec 1 := Scalar.cmpi .ne v2640 c0_i32_2965
  v2641

def k0_off44 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6426 : BitVec 32 := 0#32
  let c0_i32_6427 : BitVec 32 := 0#32
  ![v2.toNat, 0, 0]
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2966 : BitVec 32 := 8#32
  let v2642 : BitVec 1 := Scalar.cmpi .ne v2 c8_i32_2966
  let v2643 : BitVec 32 := Scalar.extui v2642
  let c0_i32_2967 : BitVec 32 := 0#32
  let v2644 : BitVec 1 := Scalar.cmpi .ne v2643 c0_i32_2967
  v2644

def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6426 : BitVec 32 := 0#32
  let c0_i32_6427 : BitVec 32 := 0#32
  ![v2.toNat, 0, 0]
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2968 : BitVec 32 := 9#32
  let v2645 : BitVec 1 := Scalar.cmpi .ne v2 c9_i32_2968
  let v2646 : BitVec 32 := Scalar.extui v2645
  let c0_i32_2969 : BitVec 32 := 0#32
  let v2647 : BitVec 1 := Scalar.cmpi .ne v2646 c0_i32_2969
  v2647

def k0_off46 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6426 : BitVec 32 := 0#32
  let c0_i32_6427 : BitVec 32 := 0#32
  ![v2.toNat, 0, 0]
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2970 : BitVec 32 := 10#32
  let v2648 : BitVec 1 := Scalar.cmpi .ne v2 c10_i32_2970
  let v2649 : BitVec 32 := Scalar.extui v2648
  let c0_i32_2971 : BitVec 32 := 0#32
  let v2650 : BitVec 1 := Scalar.cmpi .ne v2649 c0_i32_2971
  v2650

def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6426 : BitVec 32 := 0#32
  let c0_i32_6427 : BitVec 32 := 0#32
  ![v2.toNat, 0, 0]
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2972 : BitVec 32 := 11#32
  let v2651 : BitVec 1 := Scalar.cmpi .ne v2 c11_i32_2972
  let v2652 : BitVec 32 := Scalar.extui v2651
  let c0_i32_2973 : BitVec 32 := 0#32
  let v2653 : BitVec 1 := Scalar.cmpi .ne v2652 c0_i32_2973
  v2653

def k0_off48 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6426 : BitVec 32 := 0#32
  let c0_i32_6427 : BitVec 32 := 0#32
  ![v2.toNat, 0, 0]
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2974 : BitVec 32 := 12#32
  let v2654 : BitVec 1 := Scalar.cmpi .ne v2 c12_i32_2974
  let v2655 : BitVec 32 := Scalar.extui v2654
  let c0_i32_2975 : BitVec 32 := 0#32
  let v2656 : BitVec 1 := Scalar.cmpi .ne v2655 c0_i32_2975
  v2656

def k0_off49 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6426 : BitVec 32 := 0#32
  let c0_i32_6427 : BitVec 32 := 0#32
  ![v2.toNat, 0, 0]
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2976 : BitVec 32 := 13#32
  let v2657 : BitVec 1 := Scalar.cmpi .ne v2 c13_i32_2976
  let v2658 : BitVec 32 := Scalar.extui v2657
  let c0_i32_2977 : BitVec 32 := 0#32
  let v2659 : BitVec 1 := Scalar.cmpi .ne v2658 c0_i32_2977
  v2659

def k0_off50 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6426 : BitVec 32 := 0#32
  let c0_i32_6427 : BitVec 32 := 0#32
  ![v2.toNat, 0, 0]
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2978 : BitVec 32 := 14#32
  let v2660 : BitVec 1 := Scalar.cmpi .ne v2 c14_i32_2978
  let v2661 : BitVec 32 := Scalar.extui v2660
  let c0_i32_2979 : BitVec 32 := 0#32
  let v2662 : BitVec 1 := Scalar.cmpi .ne v2661 c0_i32_2979
  v2662

def k0_off51 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6426 : BitVec 32 := 0#32
  let c0_i32_6427 : BitVec 32 := 0#32
  ![v2.toNat, 0, 0]
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2980 : BitVec 32 := 15#32
  let v2663 : BitVec 1 := Scalar.cmpi .ne v2 c15_i32_2980
  let v2664 : BitVec 32 := Scalar.extui v2663
  let c0_i32_2981 : BitVec 32 := 0#32
  let v2665 : BitVec 1 := Scalar.cmpi .ne v2664 c0_i32_2981
  v2665

def k0_off52 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6426 : BitVec 32 := 0#32
  let c0_i32_6427 : BitVec 32 := 0#32
  ![v2.toNat, 0, 0]
def k0_dev131 (d0 : Dev nD) : Nat :=
  let c0_i32_3036 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3035 : BitVec 32 := 1#32
  let v2765 : BitVec 32 := Scalar.muli v4 c1_i32_3035
  let v2766 : BitVec 32 := Scalar.addi c0_i32_3036 v2765
  v2766.toNat
def k0_off53 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c256_i32_3039 : BitVec 32 := 256#32
  let v2773 : BitVec 32 := Scalar.muli v4 c256_i32_3039
  let c0_i32_3042 : BitVec 32 := 0#32
  ![v2773.toNat, 0]
def k0_dev132 (d0 : Dev nD) : Nat :=
  let c0_i32_3049 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3048 : BitVec 32 := 1#32
  let v2779 : BitVec 32 := Scalar.muli v4 c1_i32_3048
  let v2780 : BitVec 32 := Scalar.addi c0_i32_3049 v2779
  v2780.toNat
def k0_off54 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c256_i32_3052 : BitVec 32 := 256#32
  let v2787 : BitVec 32 := Scalar.muli v4 c256_i32_3052
  let c2048_i32 : BitVec 32 := 2048#32
  ![v2787.toNat, 2048]
def k0_dev133 (d0 : Dev nD) : Nat :=
  let c0_i32_3061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3060 : BitVec 32 := 1#32
  let v2793 : BitVec 32 := Scalar.muli v7 c1_i32_3060
  let v2794 : BitVec 32 := Scalar.addi c0_i32_3061 v2793
  v2794.toNat
def k0_off55 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c256_i32_3064 : BitVec 32 := 256#32
  let v2801 : BitVec 32 := Scalar.muli v7 c256_i32_3064
  let c4096_i32 : BitVec 32 := 4096#32
  ![v2801.toNat, 4096]
def k0_dev134 (d0 : Dev nD) : Nat :=
  let c0_i32_3073 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3072 : BitVec 32 := 1#32
  let v2807 : BitVec 32 := Scalar.muli v7 c1_i32_3072
  let v2808 : BitVec 32 := Scalar.addi c0_i32_3073 v2807
  v2808.toNat
def k0_off56 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c256_i32_3076 : BitVec 32 := 256#32
  let v2815 : BitVec 32 := Scalar.muli v7 c256_i32_3076
  let c6144_i32 : BitVec 32 := 6144#32
  ![v2815.toNat, 6144]
def k0_off57 (d0 : Dev nD) (c0_i32_3107 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_3106 : BitVec 32 := 16#32
  let v2846 : BitVec 32 := Scalar.addi v2 c16_i32_3106
  let v2847 : BitVec 32 := Scalar.subi v2846 c0_i32_3107
  let c16_i32_3108 : BitVec 32 := 16#32
  let v2848 : BitVec 32 := Scalar.remsi v2847 c16_i32_3108
  let c256_i32_3109 : BitVec 32 := 256#32
  let v2849 : BitVec 32 := Scalar.muli v2848 c256_i32_3109
  let c0_i32_3112 : BitVec 32 := 0#32
  ![v2849.toNat, 0]
def k0_dev135 (d0 : Dev nD) : Nat :=
  let c0_i32_3120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3119 : BitVec 32 := 1#32
  let v2855 : BitVec 32 := Scalar.muli v4 c1_i32_3119
  let v2856 : BitVec 32 := Scalar.addi c0_i32_3120 v2855
  v2856.toNat
def k0_off58 (d0 : Dev nD) (c0_i32_3151 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_3150 : BitVec 32 := 16#32
  let v2890 : BitVec 32 := Scalar.addi v2 c16_i32_3150
  let v2891 : BitVec 32 := Scalar.subi v2890 c0_i32_3151
  let c16_i32_3152 : BitVec 32 := 16#32
  let v2892 : BitVec 32 := Scalar.remsi v2891 c16_i32_3152
  let c256_i32_3153 : BitVec 32 := 256#32
  let v2893 : BitVec 32 := Scalar.muli v2892 c256_i32_3153
  let c2048_i32_3156 : BitVec 32 := 2048#32
  ![v2893.toNat, 2048]
def k0_dev136 (d0 : Dev nD) : Nat :=
  let c0_i32_3164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3163 : BitVec 32 := 1#32
  let v2899 : BitVec 32 := Scalar.muli v4 c1_i32_3163
  let v2900 : BitVec 32 := Scalar.addi c0_i32_3164 v2899
  v2900.toNat
def k0_off59 (d0 : Dev nD) (c0_i32_3194 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2934 : BitVec 32 := Scalar.addi v2 c0_i32_3194
  let c16_i32_3195 : BitVec 32 := 16#32
  let v2935 : BitVec 32 := Scalar.remsi v2934 c16_i32_3195
  let c256_i32_3196 : BitVec 32 := 256#32
  let v2936 : BitVec 32 := Scalar.muli v2935 c256_i32_3196
  let c4096_i32_3199 : BitVec 32 := 4096#32
  ![v2936.toNat, 4096]
def k0_dev137 (d0 : Dev nD) : Nat :=
  let c0_i32_3207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3206 : BitVec 32 := 1#32
  let v2942 : BitVec 32 := Scalar.muli v7 c1_i32_3206
  let v2943 : BitVec 32 := Scalar.addi c0_i32_3207 v2942
  v2943.toNat
def k0_off60 (d0 : Dev nD) (c0_i32_3237 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2977 : BitVec 32 := Scalar.addi v2 c0_i32_3237
  let c16_i32_3238 : BitVec 32 := 16#32
  let v2978 : BitVec 32 := Scalar.remsi v2977 c16_i32_3238
  let c256_i32_3239 : BitVec 32 := 256#32
  let v2979 : BitVec 32 := Scalar.muli v2978 c256_i32_3239
  let c6144_i32_3242 : BitVec 32 := 6144#32
  ![v2979.toNat, 6144]
def k0_dev138 (d0 : Dev nD) : Nat :=
  let c0_i32_3250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3249 : BitVec 32 := 1#32
  let v2985 : BitVec 32 := Scalar.muli v7 c1_i32_3249
  let v2986 : BitVec 32 := Scalar.addi c0_i32_3250 v2985
  v2986.toNat
def k0_dev139 (d0 : Dev nD) : Nat :=
  let c0_i32_3276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3275 : BitVec 32 := 1#32
  let v3009 : BitVec 32 := Scalar.muli v7 c1_i32_3275
  let v3010 : BitVec 32 := Scalar.addi c0_i32_3276 v3009
  v3010.toNat
def k0_dev140 (d0 : Dev nD) : Nat :=
  let c0_i32_3299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3298 : BitVec 32 := 1#32
  let v3029 : BitVec 32 := Scalar.muli v4 c1_i32_3298
  let v3030 : BitVec 32 := Scalar.addi c0_i32_3299 v3029
  v3030.toNat
def k0_dev141 (d0 : Dev nD) : Nat :=
  let c0_i32_3325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3324 : BitVec 32 := 1#32
  let v3053 : BitVec 32 := Scalar.muli v7 c1_i32_3324
  let v3054 : BitVec 32 := Scalar.addi c0_i32_3325 v3053
  v3054.toNat
def k0_dev142 (d0 : Dev nD) : Nat :=
  let c0_i32_3348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3347 : BitVec 32 := 1#32
  let v3073 : BitVec 32 := Scalar.muli v4 c1_i32_3347
  let v3074 : BitVec 32 := Scalar.addi c0_i32_3348 v3073
  v3074.toNat
def k0_dev143 (d0 : Dev nD) : Nat :=
  let c0_i32_3374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3373 : BitVec 32 := 1#32
  let v3097 : BitVec 32 := Scalar.muli v4 c1_i32_3373
  let v3098 : BitVec 32 := Scalar.addi c0_i32_3374 v3097
  v3098.toNat
def k0_dev144 (d0 : Dev nD) : Nat :=
  let c0_i32_3396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3395 : BitVec 32 := 1#32
  let v3116 : BitVec 32 := Scalar.muli v7 c1_i32_3395
  let v3117 : BitVec 32 := Scalar.addi c0_i32_3396 v3116
  v3117.toNat
def k0_dev145 (d0 : Dev nD) : Nat :=
  let c0_i32_3422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3421 : BitVec 32 := 1#32
  let v3140 : BitVec 32 := Scalar.muli v4 c1_i32_3421
  let v3141 : BitVec 32 := Scalar.addi c0_i32_3422 v3140
  v3141.toNat
def k0_dev146 (d0 : Dev nD) : Nat :=
  let c0_i32_3444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3443 : BitVec 32 := 1#32
  let v3159 : BitVec 32 := Scalar.muli v7 c1_i32_3443
  let v3160 : BitVec 32 := Scalar.addi c0_i32_3444 v3159
  v3160.toNat
def k0_dev147 (d0 : Dev nD) : Nat :=
  let c0_i32_3470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3469 : BitVec 32 := 1#32
  let v3183 : BitVec 32 := Scalar.muli v7 c1_i32_3469
  let v3184 : BitVec 32 := Scalar.addi c0_i32_3470 v3183
  v3184.toNat
def k0_dev148 (d0 : Dev nD) : Nat :=
  let c0_i32_3502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3501 : BitVec 32 := 1#32
  let v3212 : BitVec 32 := Scalar.muli v4 c1_i32_3501
  let v3213 : BitVec 32 := Scalar.addi c0_i32_3502 v3212
  v3213.toNat
def k0_dev149 (d0 : Dev nD) : Nat :=
  let c0_i32_3528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3527 : BitVec 32 := 1#32
  let v3236 : BitVec 32 := Scalar.muli v7 c1_i32_3527
  let v3237 : BitVec 32 := Scalar.addi c0_i32_3528 v3236
  v3237.toNat
def k0_dev150 (d0 : Dev nD) : Nat :=
  let c0_i32_3560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3559 : BitVec 32 := 1#32
  let v3265 : BitVec 32 := Scalar.muli v4 c1_i32_3559
  let v3266 : BitVec 32 := Scalar.addi c0_i32_3560 v3265
  v3266.toNat
def k0_dev151 (d0 : Dev nD) : Nat :=
  let c0_i32_3586 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3585 : BitVec 32 := 1#32
  let v3289 : BitVec 32 := Scalar.muli v4 c1_i32_3585
  let v3290 : BitVec 32 := Scalar.addi c0_i32_3586 v3289
  v3290.toNat
def k0_dev152 (d0 : Dev nD) : Nat :=
  let c0_i32_3616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3615 : BitVec 32 := 1#32
  let v3316 : BitVec 32 := Scalar.muli v7 c1_i32_3615
  let v3317 : BitVec 32 := Scalar.addi c0_i32_3616 v3316
  v3317.toNat
def k0_dev153 (d0 : Dev nD) : Nat :=
  let c0_i32_3642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3641 : BitVec 32 := 1#32
  let v3340 : BitVec 32 := Scalar.muli v4 c1_i32_3641
  let v3341 : BitVec 32 := Scalar.addi c0_i32_3642 v3340
  v3341.toNat
def k0_dev154 (d0 : Dev nD) : Nat :=
  let c0_i32_3672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3671 : BitVec 32 := 1#32
  let v3367 : BitVec 32 := Scalar.muli v7 c1_i32_3671
  let v3368 : BitVec 32 := Scalar.addi c0_i32_3672 v3367
  v3368.toNat
def k0_dev155 (d0 : Dev nD) : Nat :=
  let c0_i32_3698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3697 : BitVec 32 := 1#32
  let v3391 : BitVec 32 := Scalar.muli v7 c1_i32_3697
  let v3392 : BitVec 32 := Scalar.addi c0_i32_3698 v3391
  v3392.toNat
def k0_dev156 (d0 : Dev nD) : Nat :=
  let c0_i32_3730 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3729 : BitVec 32 := 1#32
  let v3420 : BitVec 32 := Scalar.muli v4 c1_i32_3729
  let v3421 : BitVec 32 := Scalar.addi c0_i32_3730 v3420
  v3421.toNat
def k0_dev157 (d0 : Dev nD) : Nat :=
  let c0_i32_3756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3755 : BitVec 32 := 1#32
  let v3444 : BitVec 32 := Scalar.muli v7 c1_i32_3755
  let v3445 : BitVec 32 := Scalar.addi c0_i32_3756 v3444
  v3445.toNat
def k0_dev158 (d0 : Dev nD) : Nat :=
  let c0_i32_3788 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3787 : BitVec 32 := 1#32
  let v3473 : BitVec 32 := Scalar.muli v4 c1_i32_3787
  let v3474 : BitVec 32 := Scalar.addi c0_i32_3788 v3473
  v3474.toNat
def k0_dev159 (d0 : Dev nD) : Nat :=
  let c0_i32_3814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3813 : BitVec 32 := 1#32
  let v3497 : BitVec 32 := Scalar.muli v4 c1_i32_3813
  let v3498 : BitVec 32 := Scalar.addi c0_i32_3814 v3497
  v3498.toNat
def k0_dev160 (d0 : Dev nD) : Nat :=
  let c0_i32_3844 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3843 : BitVec 32 := 1#32
  let v3524 : BitVec 32 := Scalar.muli v7 c1_i32_3843
  let v3525 : BitVec 32 := Scalar.addi c0_i32_3844 v3524
  v3525.toNat
def k0_dev161 (d0 : Dev nD) : Nat :=
  let c0_i32_3870 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3869 : BitVec 32 := 1#32
  let v3548 : BitVec 32 := Scalar.muli v4 c1_i32_3869
  let v3549 : BitVec 32 := Scalar.addi c0_i32_3870 v3548
  v3549.toNat
def k0_dev162 (d0 : Dev nD) : Nat :=
  let c0_i32_3900 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3899 : BitVec 32 := 1#32
  let v3575 : BitVec 32 := Scalar.muli v7 c1_i32_3899
  let v3576 : BitVec 32 := Scalar.addi c0_i32_3900 v3575
  v3576.toNat
def k0_dev163 (d0 : Dev nD) : Nat :=
  let c0_i32_3926 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3925 : BitVec 32 := 1#32
  let v3599 : BitVec 32 := Scalar.muli v7 c1_i32_3925
  let v3600 : BitVec 32 := Scalar.addi c0_i32_3926 v3599
  v3600.toNat
def k0_dev164 (d0 : Dev nD) : Nat :=
  let c0_i32_3958 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3957 : BitVec 32 := 1#32
  let v3628 : BitVec 32 := Scalar.muli v4 c1_i32_3957
  let v3629 : BitVec 32 := Scalar.addi c0_i32_3958 v3628
  v3629.toNat
def k0_dev165 (d0 : Dev nD) : Nat :=
  let c0_i32_3984 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3983 : BitVec 32 := 1#32
  let v3652 : BitVec 32 := Scalar.muli v7 c1_i32_3983
  let v3653 : BitVec 32 := Scalar.addi c0_i32_3984 v3652
  v3653.toNat
def k0_dev166 (d0 : Dev nD) : Nat :=
  let c0_i32_4016 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4015 : BitVec 32 := 1#32
  let v3681 : BitVec 32 := Scalar.muli v4 c1_i32_4015
  let v3682 : BitVec 32 := Scalar.addi c0_i32_4016 v3681
  v3682.toNat
def k0_dev167 (d0 : Dev nD) : Nat :=
  let c0_i32_4042 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4041 : BitVec 32 := 1#32
  let v3705 : BitVec 32 := Scalar.muli v4 c1_i32_4041
  let v3706 : BitVec 32 := Scalar.addi c0_i32_4042 v3705
  v3706.toNat
def k0_dev168 (d0 : Dev nD) : Nat :=
  let c0_i32_4072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4071 : BitVec 32 := 1#32
  let v3732 : BitVec 32 := Scalar.muli v7 c1_i32_4071
  let v3733 : BitVec 32 := Scalar.addi c0_i32_4072 v3732
  v3733.toNat
def k0_dev169 (d0 : Dev nD) : Nat :=
  let c0_i32_4098 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4097 : BitVec 32 := 1#32
  let v3756 : BitVec 32 := Scalar.muli v4 c1_i32_4097
  let v3757 : BitVec 32 := Scalar.addi c0_i32_4098 v3756
  v3757.toNat
def k0_dev170 (d0 : Dev nD) : Nat :=
  let c0_i32_4128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4127 : BitVec 32 := 1#32
  let v3783 : BitVec 32 := Scalar.muli v7 c1_i32_4127
  let v3784 : BitVec 32 := Scalar.addi c0_i32_4128 v3783
  v3784.toNat
def k0_dev171 (d0 : Dev nD) : Nat :=
  let c0_i32_4154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4153 : BitVec 32 := 1#32
  let v3807 : BitVec 32 := Scalar.muli v7 c1_i32_4153
  let v3808 : BitVec 32 := Scalar.addi c0_i32_4154 v3807
  v3808.toNat
def k0_dev172 (d0 : Dev nD) : Nat :=
  let c0_i32_4186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4185 : BitVec 32 := 1#32
  let v3836 : BitVec 32 := Scalar.muli v4 c1_i32_4185
  let v3837 : BitVec 32 := Scalar.addi c0_i32_4186 v3836
  v3837.toNat
def k0_dev173 (d0 : Dev nD) : Nat :=
  let c0_i32_4212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4211 : BitVec 32 := 1#32
  let v3860 : BitVec 32 := Scalar.muli v7 c1_i32_4211
  let v3861 : BitVec 32 := Scalar.addi c0_i32_4212 v3860
  v3861.toNat
def k0_dev174 (d0 : Dev nD) : Nat :=
  let c0_i32_4244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4243 : BitVec 32 := 1#32
  let v3889 : BitVec 32 := Scalar.muli v4 c1_i32_4243
  let v3890 : BitVec 32 := Scalar.addi c0_i32_4244 v3889
  v3890.toNat
def k0_dev175 (d0 : Dev nD) : Nat :=
  let c0_i32_4270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4269 : BitVec 32 := 1#32
  let v3913 : BitVec 32 := Scalar.muli v4 c1_i32_4269
  let v3914 : BitVec 32 := Scalar.addi c0_i32_4270 v3913
  v3914.toNat
def k0_dev176 (d0 : Dev nD) : Nat :=
  let c0_i32_4300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4299 : BitVec 32 := 1#32
  let v3940 : BitVec 32 := Scalar.muli v7 c1_i32_4299
  let v3941 : BitVec 32 := Scalar.addi c0_i32_4300 v3940
  v3941.toNat
def k0_dev177 (d0 : Dev nD) : Nat :=
  let c0_i32_4326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4325 : BitVec 32 := 1#32
  let v3964 : BitVec 32 := Scalar.muli v4 c1_i32_4325
  let v3965 : BitVec 32 := Scalar.addi c0_i32_4326 v3964
  v3965.toNat
def k0_dev178 (d0 : Dev nD) : Nat :=
  let c0_i32_4356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4355 : BitVec 32 := 1#32
  let v3991 : BitVec 32 := Scalar.muli v7 c1_i32_4355
  let v3992 : BitVec 32 := Scalar.addi c0_i32_4356 v3991
  v3992.toNat
def k0_dev179 (d0 : Dev nD) : Nat :=
  let c0_i32_4382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4381 : BitVec 32 := 1#32
  let v4015 : BitVec 32 := Scalar.muli v7 c1_i32_4381
  let v4016 : BitVec 32 := Scalar.addi c0_i32_4382 v4015
  v4016.toNat
def k0_dev180 (d0 : Dev nD) : Nat :=
  let c0_i32_4414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4413 : BitVec 32 := 1#32
  let v4044 : BitVec 32 := Scalar.muli v4 c1_i32_4413
  let v4045 : BitVec 32 := Scalar.addi c0_i32_4414 v4044
  v4045.toNat
def k0_dev181 (d0 : Dev nD) : Nat :=
  let c0_i32_4440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4439 : BitVec 32 := 1#32
  let v4068 : BitVec 32 := Scalar.muli v7 c1_i32_4439
  let v4069 : BitVec 32 := Scalar.addi c0_i32_4440 v4068
  v4069.toNat
def k0_dev182 (d0 : Dev nD) : Nat :=
  let c0_i32_4472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4471 : BitVec 32 := 1#32
  let v4097 : BitVec 32 := Scalar.muli v4 c1_i32_4471
  let v4098 : BitVec 32 := Scalar.addi c0_i32_4472 v4097
  v4098.toNat
def k0_dev183 (d0 : Dev nD) : Nat :=
  let c0_i32_4498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4497 : BitVec 32 := 1#32
  let v4121 : BitVec 32 := Scalar.muli v4 c1_i32_4497
  let v4122 : BitVec 32 := Scalar.addi c0_i32_4498 v4121
  v4122.toNat
def k0_dev184 (d0 : Dev nD) : Nat :=
  let c0_i32_4528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4527 : BitVec 32 := 1#32
  let v4148 : BitVec 32 := Scalar.muli v7 c1_i32_4527
  let v4149 : BitVec 32 := Scalar.addi c0_i32_4528 v4148
  v4149.toNat
def k0_dev185 (d0 : Dev nD) : Nat :=
  let c0_i32_4554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4553 : BitVec 32 := 1#32
  let v4172 : BitVec 32 := Scalar.muli v4 c1_i32_4553
  let v4173 : BitVec 32 := Scalar.addi c0_i32_4554 v4172
  v4173.toNat
def k0_dev186 (d0 : Dev nD) : Nat :=
  let c0_i32_4584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4583 : BitVec 32 := 1#32
  let v4199 : BitVec 32 := Scalar.muli v7 c1_i32_4583
  let v4200 : BitVec 32 := Scalar.addi c0_i32_4584 v4199
  v4200.toNat
def k0_dev187 (d0 : Dev nD) : Nat :=
  let c0_i32_4610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4609 : BitVec 32 := 1#32
  let v4223 : BitVec 32 := Scalar.muli v7 c1_i32_4609
  let v4224 : BitVec 32 := Scalar.addi c0_i32_4610 v4223
  v4224.toNat
def k0_dev188 (d0 : Dev nD) : Nat :=
  let c0_i32_4642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4641 : BitVec 32 := 1#32
  let v4252 : BitVec 32 := Scalar.muli v4 c1_i32_4641
  let v4253 : BitVec 32 := Scalar.addi c0_i32_4642 v4252
  v4253.toNat
def k0_dev189 (d0 : Dev nD) : Nat :=
  let c0_i32_4668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4667 : BitVec 32 := 1#32
  let v4276 : BitVec 32 := Scalar.muli v7 c1_i32_4667
  let v4277 : BitVec 32 := Scalar.addi c0_i32_4668 v4276
  v4277.toNat
def k0_dev190 (d0 : Dev nD) : Nat :=
  let c0_i32_4700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4699 : BitVec 32 := 1#32
  let v4305 : BitVec 32 := Scalar.muli v4 c1_i32_4699
  let v4306 : BitVec 32 := Scalar.addi c0_i32_4700 v4305
  v4306.toNat
def k0_dev191 (d0 : Dev nD) : Nat :=
  let c0_i32_4726 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4725 : BitVec 32 := 1#32
  let v4329 : BitVec 32 := Scalar.muli v4 c1_i32_4725
  let v4330 : BitVec 32 := Scalar.addi c0_i32_4726 v4329
  v4330.toNat
def k0_dev192 (d0 : Dev nD) : Nat :=
  let c0_i32_4756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4755 : BitVec 32 := 1#32
  let v4356 : BitVec 32 := Scalar.muli v7 c1_i32_4755
  let v4357 : BitVec 32 := Scalar.addi c0_i32_4756 v4356
  v4357.toNat
def k0_dev193 (d0 : Dev nD) : Nat :=
  let c0_i32_4782 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4781 : BitVec 32 := 1#32
  let v4380 : BitVec 32 := Scalar.muli v4 c1_i32_4781
  let v4381 : BitVec 32 := Scalar.addi c0_i32_4782 v4380
  v4381.toNat
def k0_dev194 (d0 : Dev nD) : Nat :=
  let c0_i32_4812 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4811 : BitVec 32 := 1#32
  let v4407 : BitVec 32 := Scalar.muli v7 c1_i32_4811
  let v4408 : BitVec 32 := Scalar.addi c0_i32_4812 v4407
  v4408.toNat
def k0_dev195 (d0 : Dev nD) : Nat :=
  let c0_i32_4838 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4837 : BitVec 32 := 1#32
  let v4431 : BitVec 32 := Scalar.muli v7 c1_i32_4837
  let v4432 : BitVec 32 := Scalar.addi c0_i32_4838 v4431
  v4432.toNat
def k0_dev196 (d0 : Dev nD) : Nat :=
  let c0_i32_4870 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4869 : BitVec 32 := 1#32
  let v4460 : BitVec 32 := Scalar.muli v4 c1_i32_4869
  let v4461 : BitVec 32 := Scalar.addi c0_i32_4870 v4460
  v4461.toNat
def k0_dev197 (d0 : Dev nD) : Nat :=
  let c0_i32_4896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4895 : BitVec 32 := 1#32
  let v4484 : BitVec 32 := Scalar.muli v7 c1_i32_4895
  let v4485 : BitVec 32 := Scalar.addi c0_i32_4896 v4484
  v4485.toNat
def k0_dev198 (d0 : Dev nD) : Nat :=
  let c0_i32_4928 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4927 : BitVec 32 := 1#32
  let v4513 : BitVec 32 := Scalar.muli v4 c1_i32_4927
  let v4514 : BitVec 32 := Scalar.addi c0_i32_4928 v4513
  v4514.toNat
def k0_dev199 (d0 : Dev nD) : Nat :=
  let c0_i32_4954 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4953 : BitVec 32 := 1#32
  let v4537 : BitVec 32 := Scalar.muli v4 c1_i32_4953
  let v4538 : BitVec 32 := Scalar.addi c0_i32_4954 v4537
  v4538.toNat
def k0_dev200 (d0 : Dev nD) : Nat :=
  let c0_i32_4984 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4983 : BitVec 32 := 1#32
  let v4564 : BitVec 32 := Scalar.muli v7 c1_i32_4983
  let v4565 : BitVec 32 := Scalar.addi c0_i32_4984 v4564
  v4565.toNat
def k0_dev201 (d0 : Dev nD) : Nat :=
  let c0_i32_5010 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5009 : BitVec 32 := 1#32
  let v4588 : BitVec 32 := Scalar.muli v4 c1_i32_5009
  let v4589 : BitVec 32 := Scalar.addi c0_i32_5010 v4588
  v4589.toNat
def k0_dev202 (d0 : Dev nD) : Nat :=
  let c0_i32_5040 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5039 : BitVec 32 := 1#32
  let v4615 : BitVec 32 := Scalar.muli v7 c1_i32_5039
  let v4616 : BitVec 32 := Scalar.addi c0_i32_5040 v4615
  v4616.toNat
def k0_dev203 (d0 : Dev nD) : Nat :=
  let c0_i32_5066 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5065 : BitVec 32 := 1#32
  let v4639 : BitVec 32 := Scalar.muli v7 c1_i32_5065
  let v4640 : BitVec 32 := Scalar.addi c0_i32_5066 v4639
  v4640.toNat
def k0_dev204 (d0 : Dev nD) : Nat :=
  let c0_i32_5098 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5097 : BitVec 32 := 1#32
  let v4668 : BitVec 32 := Scalar.muli v4 c1_i32_5097
  let v4669 : BitVec 32 := Scalar.addi c0_i32_5098 v4668
  v4669.toNat
def k0_dev205 (d0 : Dev nD) : Nat :=
  let c0_i32_5124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5123 : BitVec 32 := 1#32
  let v4692 : BitVec 32 := Scalar.muli v7 c1_i32_5123
  let v4693 : BitVec 32 := Scalar.addi c0_i32_5124 v4692
  v4693.toNat
def k0_dev206 (d0 : Dev nD) : Nat :=
  let c0_i32_5156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5155 : BitVec 32 := 1#32
  let v4721 : BitVec 32 := Scalar.muli v4 c1_i32_5155
  let v4722 : BitVec 32 := Scalar.addi c0_i32_5156 v4721
  v4722.toNat
def k0_dev207 (d0 : Dev nD) : Nat :=
  let c0_i32_5182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5181 : BitVec 32 := 1#32
  let v4745 : BitVec 32 := Scalar.muli v4 c1_i32_5181
  let v4746 : BitVec 32 := Scalar.addi c0_i32_5182 v4745
  v4746.toNat
def k0_dev208 (d0 : Dev nD) : Nat :=
  let c0_i32_5212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5211 : BitVec 32 := 1#32
  let v4772 : BitVec 32 := Scalar.muli v7 c1_i32_5211
  let v4773 : BitVec 32 := Scalar.addi c0_i32_5212 v4772
  v4773.toNat
def k0_dev209 (d0 : Dev nD) : Nat :=
  let c0_i32_5238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5237 : BitVec 32 := 1#32
  let v4796 : BitVec 32 := Scalar.muli v4 c1_i32_5237
  let v4797 : BitVec 32 := Scalar.addi c0_i32_5238 v4796
  v4797.toNat
def k0_dev210 (d0 : Dev nD) : Nat :=
  let c0_i32_5268 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5267 : BitVec 32 := 1#32
  let v4823 : BitVec 32 := Scalar.muli v7 c1_i32_5267
  let v4824 : BitVec 32 := Scalar.addi c0_i32_5268 v4823
  v4824.toNat
def k0_dev211 (d0 : Dev nD) : Nat :=
  let c0_i32_5294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5293 : BitVec 32 := 1#32
  let v4847 : BitVec 32 := Scalar.muli v7 c1_i32_5293
  let v4848 : BitVec 32 := Scalar.addi c0_i32_5294 v4847
  v4848.toNat
def k0_dev212 (d0 : Dev nD) : Nat :=
  let c0_i32_5326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5325 : BitVec 32 := 1#32
  let v4876 : BitVec 32 := Scalar.muli v4 c1_i32_5325
  let v4877 : BitVec 32 := Scalar.addi c0_i32_5326 v4876
  v4877.toNat
def k0_dev213 (d0 : Dev nD) : Nat :=
  let c0_i32_5352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5351 : BitVec 32 := 1#32
  let v4900 : BitVec 32 := Scalar.muli v7 c1_i32_5351
  let v4901 : BitVec 32 := Scalar.addi c0_i32_5352 v4900
  v4901.toNat
def k0_dev214 (d0 : Dev nD) : Nat :=
  let c0_i32_5384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5383 : BitVec 32 := 1#32
  let v4929 : BitVec 32 := Scalar.muli v4 c1_i32_5383
  let v4930 : BitVec 32 := Scalar.addi c0_i32_5384 v4929
  v4930.toNat
def k0_dev215 (d0 : Dev nD) : Nat :=
  let c0_i32_5410 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5409 : BitVec 32 := 1#32
  let v4953 : BitVec 32 := Scalar.muli v4 c1_i32_5409
  let v4954 : BitVec 32 := Scalar.addi c0_i32_5410 v4953
  v4954.toNat
def k0_dev216 (d0 : Dev nD) : Nat :=
  let c0_i32_5440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5439 : BitVec 32 := 1#32
  let v4980 : BitVec 32 := Scalar.muli v7 c1_i32_5439
  let v4981 : BitVec 32 := Scalar.addi c0_i32_5440 v4980
  v4981.toNat
def k0_dev217 (d0 : Dev nD) : Nat :=
  let c0_i32_5466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5465 : BitVec 32 := 1#32
  let v5004 : BitVec 32 := Scalar.muli v4 c1_i32_5465
  let v5005 : BitVec 32 := Scalar.addi c0_i32_5466 v5004
  v5005.toNat
def k0_dev218 (d0 : Dev nD) : Nat :=
  let c0_i32_5496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5495 : BitVec 32 := 1#32
  let v5031 : BitVec 32 := Scalar.muli v7 c1_i32_5495
  let v5032 : BitVec 32 := Scalar.addi c0_i32_5496 v5031
  v5032.toNat
def k0_dev219 (d0 : Dev nD) : Nat :=
  let c0_i32_5522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5521 : BitVec 32 := 1#32
  let v5055 : BitVec 32 := Scalar.muli v7 c1_i32_5521
  let v5056 : BitVec 32 := Scalar.addi c0_i32_5522 v5055
  v5056.toNat
def k0_dev220 (d0 : Dev nD) : Nat :=
  let c0_i32_5554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5553 : BitVec 32 := 1#32
  let v5084 : BitVec 32 := Scalar.muli v4 c1_i32_5553
  let v5085 : BitVec 32 := Scalar.addi c0_i32_5554 v5084
  v5085.toNat
def k0_dev221 (d0 : Dev nD) : Nat :=
  let c0_i32_5580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5579 : BitVec 32 := 1#32
  let v5108 : BitVec 32 := Scalar.muli v7 c1_i32_5579
  let v5109 : BitVec 32 := Scalar.addi c0_i32_5580 v5108
  v5109.toNat
def k0_dev222 (d0 : Dev nD) : Nat :=
  let c0_i32_5612 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5611 : BitVec 32 := 1#32
  let v5137 : BitVec 32 := Scalar.muli v4 c1_i32_5611
  let v5138 : BitVec 32 := Scalar.addi c0_i32_5612 v5137
  v5138.toNat
def k0_dev223 (d0 : Dev nD) : Nat :=
  let c0_i32_5638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5637 : BitVec 32 := 1#32
  let v5161 : BitVec 32 := Scalar.muli v4 c1_i32_5637
  let v5162 : BitVec 32 := Scalar.addi c0_i32_5638 v5161
  v5162.toNat
def k0_dev224 (d0 : Dev nD) : Nat :=
  let c0_i32_5668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5667 : BitVec 32 := 1#32
  let v5188 : BitVec 32 := Scalar.muli v7 c1_i32_5667
  let v5189 : BitVec 32 := Scalar.addi c0_i32_5668 v5188
  v5189.toNat
def k0_dev225 (d0 : Dev nD) : Nat :=
  let c0_i32_5694 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5693 : BitVec 32 := 1#32
  let v5212 : BitVec 32 := Scalar.muli v4 c1_i32_5693
  let v5213 : BitVec 32 := Scalar.addi c0_i32_5694 v5212
  v5213.toNat
def k0_dev226 (d0 : Dev nD) : Nat :=
  let c0_i32_5724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5723 : BitVec 32 := 1#32
  let v5239 : BitVec 32 := Scalar.muli v7 c1_i32_5723
  let v5240 : BitVec 32 := Scalar.addi c0_i32_5724 v5239
  v5240.toNat
def k0_dev227 (d0 : Dev nD) : Nat :=
  let c0_i32_5750 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5749 : BitVec 32 := 1#32
  let v5263 : BitVec 32 := Scalar.muli v7 c1_i32_5749
  let v5264 : BitVec 32 := Scalar.addi c0_i32_5750 v5263
  v5264.toNat
def k0_dev228 (d0 : Dev nD) : Nat :=
  let c0_i32_5782 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5781 : BitVec 32 := 1#32
  let v5292 : BitVec 32 := Scalar.muli v4 c1_i32_5781
  let v5293 : BitVec 32 := Scalar.addi c0_i32_5782 v5292
  v5293.toNat
def k0_dev229 (d0 : Dev nD) : Nat :=
  let c0_i32_5808 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5807 : BitVec 32 := 1#32
  let v5316 : BitVec 32 := Scalar.muli v7 c1_i32_5807
  let v5317 : BitVec 32 := Scalar.addi c0_i32_5808 v5316
  v5317.toNat
def k0_dev230 (d0 : Dev nD) : Nat :=
  let c0_i32_5840 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5839 : BitVec 32 := 1#32
  let v5345 : BitVec 32 := Scalar.muli v4 c1_i32_5839
  let v5346 : BitVec 32 := Scalar.addi c0_i32_5840 v5345
  v5346.toNat
def k0_dev231 (d0 : Dev nD) : Nat :=
  let c0_i32_5866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5865 : BitVec 32 := 1#32
  let v5369 : BitVec 32 := Scalar.muli v4 c1_i32_5865
  let v5370 : BitVec 32 := Scalar.addi c0_i32_5866 v5369
  v5370.toNat
def k0_dev232 (d0 : Dev nD) : Nat :=
  let c0_i32_5896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5895 : BitVec 32 := 1#32
  let v5396 : BitVec 32 := Scalar.muli v7 c1_i32_5895
  let v5397 : BitVec 32 := Scalar.addi c0_i32_5896 v5396
  v5397.toNat
def k0_dev233 (d0 : Dev nD) : Nat :=
  let c0_i32_5922 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5921 : BitVec 32 := 1#32
  let v5420 : BitVec 32 := Scalar.muli v4 c1_i32_5921
  let v5421 : BitVec 32 := Scalar.addi c0_i32_5922 v5420
  v5421.toNat
def k0_dev234 (d0 : Dev nD) : Nat :=
  let c0_i32_5952 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5951 : BitVec 32 := 1#32
  let v5447 : BitVec 32 := Scalar.muli v7 c1_i32_5951
  let v5448 : BitVec 32 := Scalar.addi c0_i32_5952 v5447
  v5448.toNat
def k0_dev235 (d0 : Dev nD) : Nat :=
  let c0_i32_5978 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5977 : BitVec 32 := 1#32
  let v5471 : BitVec 32 := Scalar.muli v7 c1_i32_5977
  let v5472 : BitVec 32 := Scalar.addi c0_i32_5978 v5471
  v5472.toNat
def k0_dev236 (d0 : Dev nD) : Nat :=
  let c0_i32_6010 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6009 : BitVec 32 := 1#32
  let v5500 : BitVec 32 := Scalar.muli v4 c1_i32_6009
  let v5501 : BitVec 32 := Scalar.addi c0_i32_6010 v5500
  v5501.toNat
def k0_dev237 (d0 : Dev nD) : Nat :=
  let c0_i32_6036 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6035 : BitVec 32 := 1#32
  let v5524 : BitVec 32 := Scalar.muli v7 c1_i32_6035
  let v5525 : BitVec 32 := Scalar.addi c0_i32_6036 v5524
  v5525.toNat
def k0_dev238 (d0 : Dev nD) : Nat :=
  let c0_i32_6068 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6067 : BitVec 32 := 1#32
  let v5553 : BitVec 32 := Scalar.muli v4 c1_i32_6067
  let v5554 : BitVec 32 := Scalar.addi c0_i32_6068 v5553
  v5554.toNat
def k0_dev239 (d0 : Dev nD) : Nat :=
  let c0_i32_6094 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6093 : BitVec 32 := 1#32
  let v5577 : BitVec 32 := Scalar.muli v4 c1_i32_6093
  let v5578 : BitVec 32 := Scalar.addi c0_i32_6094 v5577
  v5578.toNat
def k0_dev240 (d0 : Dev nD) : Nat :=
  let c0_i32_6124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6123 : BitVec 32 := 1#32
  let v5604 : BitVec 32 := Scalar.muli v7 c1_i32_6123
  let v5605 : BitVec 32 := Scalar.addi c0_i32_6124 v5604
  v5605.toNat
def k0_dev241 (d0 : Dev nD) : Nat :=
  let c0_i32_6150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6149 : BitVec 32 := 1#32
  let v5628 : BitVec 32 := Scalar.muli v4 c1_i32_6149
  let v5629 : BitVec 32 := Scalar.addi c0_i32_6150 v5628
  v5629.toNat
def k0_dev242 (d0 : Dev nD) : Nat :=
  let c0_i32_6180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6179 : BitVec 32 := 1#32
  let v5655 : BitVec 32 := Scalar.muli v7 c1_i32_6179
  let v5656 : BitVec 32 := Scalar.addi c0_i32_6180 v5655
  v5656.toNat
abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x4096, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .f32⟩
  | .hbm, ⟨25, _⟩ => ⟨S4096x8192, .f32⟩
  | .hbm, ⟨26, _⟩ => ⟨S4096x8192, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Proof.Body.lean ====
/-
# The kernel's body as a list of commands

The body of the ring kernel, told once: the buffers, semaphores and slices as functions of the ring
number, the commands (start a transfer, wait for one, add a chunk, …) as functions of ring and step, and
the body as the run of a computed list of commands.
-/
module

public import proofs.«01_k».proof.Proof.Gen.KernelIdeal
public import Idealize.ShloMosaic.Lib.Pipeline.Launch
public import Idealize.ShloMosaic.Lib.Pipeline.Kit
public import Idealize.ShloMosaic.Lib.Tactic

public section

noncomputable section

namespace Cert.Ring

open Cert.KernelIdeal Cert.KernelIdeal.Gen
open Idealize.ShloMosaic
open Idealize.ShloMosaic.TcCoe
open Idealize.SL Idealize.SL.Sem

variable {F : FTy → Type} [FloatOps F]

/-- A program of the kernel's body. -/
abbrev Pg (F : FTy → Type) [FloatOps F] := Prog (TpuEff nD τ sig (Elt F) Λ₀ .tc) PUnit

/-! ## Buffers -/

/-- The accumulators of ring `r`. -/
@[expose] def accM : Fin 4 → Memref sig .tc .vmem S2x256x2048 .bf16
  | 0 => Memref.whole cc0_scratch0 | 1 => Memref.whole cc0_scratch1 | 2 => Memref.whole cc0_scratch2 | 3 => Memref.whole cc0_scratch3
/-- The landing buffers of the reduce-scatter, ring `r`. -/
@[expose] def rcvM : Fin 4 → Memref sig .tc .vmem S2x256x2048 .bf16
  | 0 => Memref.whole cc0_scratch4 | 1 => Memref.whole cc0_scratch5 | 2 => Memref.whole cc0_scratch6 | 3 => Memref.whole cc0_scratch7
/-- The dequantised chunks of ring `r`. -/
@[expose] def deqM : Fin 4 → Memref sig .tc .vmem S2x256x2048 .bf16
  | 0 => Memref.whole cc0_scratch8 | 1 => Memref.whole cc0_scratch9 | 2 => Memref.whole cc0_scratch10 | 3 => Memref.whole cc0_scratch11
/-- The own quantised chunk of ring `r`. -/
@[expose] def ownM : Fin 4 → Memref sig .tc .vmem S256x2048 .i8
  | 0 => Memref.whole cc0_scratch12 | 1 => Memref.whole cc0_scratch13 | 2 => Memref.whole cc0_scratch14 | 3 => Memref.whole cc0_scratch15
/-- The landing buffers of the all-gather, ring `r`. -/
@[expose] def qrcM : Fin 4 → Memref sig .tc .vmem S2x256x2048 .i8
  | 0 => Memref.whole cc0_scratch16 | 1 => Memref.whole cc0_scratch17 | 2 => Memref.whole cc0_scratch18 | 3 => Memref.whole cc0_scratch19
/-- The maxima of all devices. -/
abbrev amM : Memref sig .tc .vmem S16x8x128 .f32 := Memref.whole cc0_scratch20
abbrev xbM : Memref sig .tc .vmem S4096x256 .bf16 := Memref.whole cc0_scratch51
abbrev wbM : Memref sig .tc .vmem S256x8192 .bf16 := Memref.whole cc0_scratch52
abbrev outM : Memref sig .tc .hbm S4096x8192 .bf16 := Memref.whole main_v1

theorem accW : ∀ r, (accM r).IsWhole | 0 => Memref.isWhole_whole _ | 1 => Memref.isWhole_whole _ | 2 => Memref.isWhole_whole _ | 3 => Memref.isWhole_whole _
theorem rcvW : ∀ r, (rcvM r).IsWhole | 0 => Memref.isWhole_whole _ | 1 => Memref.isWhole_whole _ | 2 => Memref.isWhole_whole _ | 3 => Memref.isWhole_whole _
theorem deqW : ∀ r, (deqM r).IsWhole | 0 => Memref.isWhole_whole _ | 1 => Memref.isWhole_whole _ | 2 => Memref.isWhole_whole _ | 3 => Memref.isWhole_whole _
theorem ownW : ∀ r, (ownM r).IsWhole | 0 => Memref.isWhole_whole _ | 1 => Memref.isWhole_whole _ | 2 => Memref.isWhole_whole _ | 3 => Memref.isWhole_whole _
theorem qrcW : ∀ r, (qrcM r).IsWhole | 0 => Memref.isWhole_whole _ | 1 => Memref.isWhole_whole _ | 2 => Memref.isWhole_whole _ | 3 => Memref.isWhole_whole _

theorem row_inb (s : Fin 2) : ∀ a, (![s.val, 0, 0] : Fin 3 → ℕ) a + S1x256x2048.size a ≤ S2x256x2048.size a := by
  revert s; decide
/-- Slot `s` of a two-slot buffer. -/
abbrev row (s : Fin 2) : Rect S2x256x2048 := Rect.unit (s := S2x256x2048) ![s.val, 0, 0] S1x256x2048.size (row_inb s)
theorem row_words (s : Fin 2) : (row s).WholeWords (EltTy.packing .bf16) := by
  match s with
  | 0 => exact wordsbf16_S2x256x2048_S1x256x2048_0_0_0
  | 1 => exact wordsbf16_S2x256x2048_S1x256x2048_1_0_0
theorem row_words8 (s : Fin 2) : (row s).WholeWords (EltTy.packing .i8) := by
  match s with
  | 0 => exact wordsi8_S2x256x2048_S1x256x2048_0_0_0
  | 1 => exact wordsi8_S2x256x2048_S1x256x2048_1_0_0
/-- The slot of step `u`. -/
abbrev par (u : ℕ) : Fin 2 := ⟨u % 2, Nat.mod_lt _ (by decide)⟩
/-- Slot `s` of a two-slot buffer as a matrix. -/
abbrev slotM {dt : EltTy} (M : Memref sig .tc .vmem S2x256x2048 dt) (s : Fin 2) : Memref sig .tc .vmem S256x2048 dt :=
  (M.slice (row s) (fun _ => rfl)).squeeze S256x2048 squeezes_S1x256x2048_S256x2048

/-! ## Semaphores -/

@[expose] def rsS : Fin 4 → DmaSems sig S2 | 0 => cc0_scratch21 | 1 => cc0_scratch22 | 2 => cc0_scratch23 | 3 => cc0_scratch24
@[expose] def rsR : Fin 4 → DmaSems sig S2 | 0 => cc0_scratch25 | 1 => cc0_scratch26 | 2 => cc0_scratch27 | 3 => cc0_scratch28
@[expose] def agS : Fin 4 → DmaSems sig S2 | 0 => cc0_scratch29 | 1 => cc0_scratch30 | 2 => cc0_scratch31 | 3 => cc0_scratch32
@[expose] def agR : Fin 4 → DmaSems sig S2 | 0 => cc0_scratch33 | 1 => cc0_scratch34 | 2 => cc0_scratch35 | 3 => cc0_scratch36
@[expose] def ouS : Fin 4 → DmaSems sig S2 | 0 => cc0_scratch37 | 1 => cc0_scratch38 | 2 => cc0_scratch39 | 3 => cc0_scratch40
@[expose] def crS : Fin 4 → Sems sig S_ | 0 => cc0_scratch43 | 1 => cc0_scratch44 | 2 => cc0_scratch45 | 3 => cc0_scratch46
@[expose] def cqS : Fin 4 → Sems sig S_ | 0 => cc0_scratch47 | 1 => cc0_scratch48 | 2 => cc0_scratch49 | 3 => cc0_scratch50

theorem sem_inb (s : Fin 2) : ∀ a, (![s.val] : Fin 1 → ℕ) a + S1.size a ≤ S2.size a := by revert s; decide
/-- The semaphore of slot `s`. -/
abbrev dsem (A : DmaSems sig S2) (s : Fin 2) := ((A.slice (Rect.unit (s := S2) ![s.val] S1.size (sem_inb s))).squeeze S_ squeezes_S1_S_).sem
theorem sem16_inb (d : Fin 16) : ∀ a, (![d.val] : Fin 1 → ℕ) a + S1.size a ≤ S16.size a := by revert d; decide
/-- The semaphore of device `d` among sixteen. -/
abbrev dsem16 (A : DmaSems sig S16) (d : Fin 16) := ((A.slice (Rect.unit (s := S16) ![d.val] S1.size (sem16_inb d))).squeeze S_ squeezes_S1_S_).sem
abbrev barS := (SemArray.scalar (sig.barrier 0 rfl) : Sems sig S_).sem

/-! ## Devices and offsets -/

/-- The right neighbour. -/
abbrev rgt (c : Dev nD) : Dev nD := ⟨k0_dev3 c, k0_dev3_lt c⟩
/-- The left neighbour. -/
abbrev lft (c : Dev nD) : Dev nD := ⟨k0_dev7 c, k0_dev7_lt c⟩
/-- Where ring `r` sends to. -/
@[expose] def nxt (r : Fin 4) (c : Dev nD) : Dev nD := match r with | 0 => rgt c | 1 => rgt c | 2 => lft c | 3 => lft c
/-- Where ring `r` receives from. -/
@[expose] def prv (r : Fin 4) (c : Dev nD) : Dev nD := match r with | 0 => lft c | 1 => lft c | 2 => rgt c | 3 => rgt c

abbrev mm (a : Vec F S256x256 .bf16) (b : Vec F S256x2048 .bf16) : FVec F S256x2048 .bf16 :=
  truncf .bf16 (matmul dot_S256x256_S256x2048_S256x2048_1_0_0_1_n_n none a b (constant S256x2048 .f32 0x00000000#32)) bitsLt_bf16_f32

theorem col_inb (r : Fin 4) : ∀ a, (![0, 2048 * r.val] : Fin 2 → ℕ) a + S256x2048.size a ≤ S256x8192.size a := by revert r; decide
abbrev colR (r : Fin 4) : Rect S256x8192 := Rect.unit (s := S256x8192) ![0, 2048 * r.val] S256x2048.size (col_inb r)

/-- Where ring `r` reads the rows of `x` that it multiplies at step `u`. -/
@[expose] def xOff (r : Fin 4) (u : Fin 15) (c : Dev nD) : Fin 2 → ℕ := match r with
  | 0 => k0_off2 c (BitVec.ofNat 32 u.val) | 1 => k0_off2 c (BitVec.ofNat 32 u.val)
  | 2 => k0_off3 c (BitVec.ofNat 32 u.val) | 3 => k0_off3 c (BitVec.ofNat 32 u.val)
theorem xOff_inb (r : Fin 4) (u : Fin 15) (c : Dev nD) : ∀ a, xOff r u c a + S256x256.size a ≤ S4096x256.size a := by
  match r with
  | 0 => exact k0_off2_inb c u
  | 1 => exact k0_off2_inb c u
  | 2 => exact k0_off3_inb c u
  | 3 => exact k0_off3_inb c u
abbrev xRect (r : Fin 4) (u : Fin 15) (c : Dev nD) : Rect S4096x256 := Rect.unit (s := S4096x256) (xOff r u c) S256x256.size (xOff_inb r u c)
abbrev xRect0 (c : Dev nD) : Rect S4096x256 := Rect.unit (s := S4096x256) (k0_off1 c) S256x256.size (k0_off1_inb c)

/-- Where ring `r` writes its own chunk to. -/
@[expose] def oOff0 (r : Fin 4) (c : Dev nD) : Fin 2 → ℕ := match r with
  | 0 => k0_off53 c | 1 => k0_off54 c | 2 => k0_off55 c | 3 => k0_off56 c
theorem oOff0_inb (r : Fin 4) (c : Dev nD) : ∀ a, oOff0 r c a + S256x2048.size a ≤ S4096x8192.size a := by
  match r with
  | 0 => exact k0_off53_inb c
  | 1 => exact k0_off54_inb c
  | 2 => exact k0_off55_inb c
  | 3 => exact k0_off56_inb c
abbrev oRect0 (r : Fin 4) (c : Dev nD) : Rect S4096x8192 := Rect.unit (s := S4096x8192) (oOff0 r c) S256x2048.size (oOff0_inb r c)
theorem oRect0_words (r : Fin 4) (c : Dev nD) : (oRect0 r c).WholeWords (EltTy.packing .bf16) := by
  match r with
  | 0 => exact k0_off53_wordsbf16 c
  | 1 => exact k0_off54_wordsbf16 c
  | 2 => exact k0_off55_wordsbf16 c
  | 3 => exact k0_off56_wordsbf16 c
/-- Where ring `r` writes the chunk that arrives at step `t` to. -/
@[expose] def oOff (r : Fin 4) (t : Fin 15) (c : Dev nD) : Fin 2 → ℕ := match r with
  | 0 => k0_off57 c (BitVec.ofNat 32 t.val) | 1 => k0_off58 c (BitVec.ofNat 32 t.val)
  | 2 => k0_off59 c (BitVec.ofNat 32 t.val) | 3 => k0_off60 c (BitVec.ofNat 32 t.val)
theorem oOff_inb (r : Fin 4) (t : Fin 15) (c : Dev nD) : ∀ a, oOff r t c a + S256x2048.size a ≤ S4096x8192.size a := by
  match r with
  | 0 => exact k0_off57_inb c t
  | 1 => exact k0_off58_inb c t
  | 2 => exact k0_off59_inb c t
  | 3 => exact k0_off60_inb c t
abbrev oRect (r : Fin 4) (t : Fin 15) (c : Dev nD) : Rect S4096x8192 := Rect.unit (s := S4096x8192) (oOff r t c) S256x2048.size (oOff_inb r t c)
theorem oRect_words (r : Fin 4) (t : Fin 15) (c : Dev nD) : (oRect r t c).WholeWords (EltTy.packing .bf16) := by
  match r with
  | 0 => exact k0_off57_wordsbf16 c t
  | 1 => exact k0_off58_wordsbf16 c t
  | 2 => exact k0_off59_wordsbf16 c t
  | 3 => exact k0_off60_wordsbf16 c t
/-- The output's rows `R`. -/
abbrev outS (R : Fin 2 → ℕ) (h : ∀ a, R a + S256x2048.size a ≤ S4096x8192.size a) : Memref sig .tc .hbm S256x2048 .bf16 :=
  outM.slice (Rect.unit (s := S4096x8192) R S256x2048.size h) (fun _ => rfl)

theorem am_inb (d : Fin 16) : ∀ a, (![d.val, 0, 0] : Fin 3 → ℕ) a + S1x8x128.size a ≤ S16x8x128.size a := by revert d; decide
abbrev amRect (d : Fin 16) : Rect S16x8x128 := Rect.unit (s := S16x8x128) ![d.val, 0, 0] S1x8x128.size (am_inb d)
/-- The maxima's slot `d`. -/
abbrev amS (d : Fin 16) : Memref sig .tc .vmem S8x128 .f32 := (amM.slice (amRect d) (fun _ => rfl)).squeeze S8x128 squeezes_S1x8x128_S8x128

/-! ## Commands -/

/-- Load slot `s`. -/
abbrev ldSlot {dt : EltTy} (M : Memref sig .tc .vmem S2x256x2048 dt) (s : Fin 2) (k : Vec F S1x256x2048 dt → Pg F) : Pg F :=
  .op (.load M (row s).toLoadRect (View.loadsAt_vmem h_S1x256x2048)) k

/-- Store a matrix to slot `s` (the target is read before). -/
abbrev stSlot (M : Memref sig .tc .vmem S2x256x2048 .bf16) (hM : M.IsWhole) (s : Fin 2) (v : FVec F S256x2048 .bf16) (k : Pg F) : Pg F :=
  ldSlot M s fun _ =>
  .op (.store M (row s) (shapeCast S1x256x2048 v shapeCasts_S256x2048_S1x256x2048) Finset.univ
    (View.stores_vmem h_S1x256x2048 (hM.storeExact_slice rfl _ (match s with | 0 => packedbf16_S2x256x2048_S1x256x2048_0_0_0 | 1 => packedbf16_S2x256x2048_S1x256x2048_1_0_0)) (fun _ => rfl)) (.inl rfl)) fun _ => k

abbrev wholeX : Rect S4096x256 := Rect.unit (s := S4096x256) ![0, 0] S4096x256.size inb_S4096x256_S4096x256_0_0
abbrev wholeW : Rect S256x8192 := Rect.unit (s := S256x8192) ![0, 0] S256x8192.size inb_S256x8192_S256x8192_0_0
abbrev wholeQ : Rect S256x2048 := Rect.unit (s := S256x2048) ![0, 0] S256x2048.size inb_S256x2048_S256x2048_0_0
abbrev wholeA : Rect S16x8x128 := Rect.unit (s := S16x8x128) ![0, 0, 0] S16x8x128.size inb_S16x8x128_S16x8x128_0_0_0

/-- Signal one unit to semaphore `s` of device `d`. -/
@[expose] def sigC (d : Dev nD) (s : Fin sig.nSem) (k : Pg F) : Pg F := Prog.bind (semSignalWord d s 1#32) fun _ => k
@[expose] def waitC (s : Fin sig.nSem) (n : BitVec 32) (k : Pg F) : Pg F := Prog.bind (semWaitWord s n) fun _ => k

@[expose] def barSigC (c : Dev nD) (k : Pg F) : Pg F := sigC (lft c) barS (sigC (rgt c) barS k)

/-- Both operands to the kernel's own buffers. -/
@[expose] def copyInC (x0 : Memref sig .tc .vmem S4096x256 .bf16) (x1 : Memref sig .tc .vmem S256x8192 .bf16) (k : Pg F) : Pg F :=
  .op (.load x0 wholeX.toLoadRect (View.loadsAt_vmem h_S4096x256)) fun v =>
  .op (.load xbM wholeX.toLoadRect (View.loadsAt_vmem h_S4096x256)) fun _ =>
  .op (.store xbM wholeX (shapeCast S4096x256 (shapeCast S4096x256 v shapeCasts_S4096x256_S4096x256) shapeCasts_S4096x256_S4096x256) Finset.univ (View.stores_vmem h_S4096x256 ((Memref.isWhole_whole _).storeExact_slice rfl _ packedbf16_S4096x256_S4096x256_0_0) (fun _ => rfl)) (.inl rfl)) fun _ =>
  .op (.load x1 wholeW.toLoadRect (View.loadsAt_vmem h_S256x8192)) fun w =>
  .op (.load wbM wholeW.toLoadRect (View.loadsAt_vmem h_S256x8192)) fun _ =>
  .op (.store wbM wholeW (shapeCast S256x8192 (shapeCast S256x8192 w shapeCasts_S256x8192_S256x8192) shapeCasts_S256x8192_S256x8192) Finset.univ (View.stores_vmem h_S256x8192 ((Memref.isWhole_whole _).storeExact_slice rfl _ packedbf16_S256x8192_S256x8192_0_0) (fun _ => rfl)) (.inl rfl)) fun _ => k

/-- The product of a block of rows of `x` with ring `r`'s columns of `w`. -/
abbrev gemmC (R : Fin 2 → ℕ) (hR : ∀ a, R a + S256x256.size a ≤ S4096x256.size a) (r : Fin 4) (k : FVec F S256x2048 .bf16 → Pg F) : Pg F :=
  .op (.load xbM (Rect.unit (s := S4096x256) R S256x256.size hR).toLoadRect (View.loadsAt_vmem h_S256x256)) fun a =>
  .op (.load wbM (colR r).toLoadRect (View.loadsAt_vmem h_S256x2048)) fun b => k (mm a b)

/-- The first chunk of ring `r`. -/
@[expose] def acc0C (c : Dev nD) (r : Fin 4) (k : Pg F) : Pg F :=
  gemmC (k0_off1 c) (k0_off1_inb c) r fun g => stSlot (accM r) (accW r) 0 g k

/-- Start message `u` of the reduce-scatter on ring `r`. -/
@[expose] def rsStartC (c : Dev nD) (r : Fin 4) (u : ℕ) (k : Pg F) : Pg F :=
  .op (.enqueueDma (slotM (accM r) (par u)) (.remote (Dev.tc (nxt r c)) (slotM (rcvM r) (par u)) (.dma (dsem (rsS r) (par u)))) (.dma (dsem (rsR r) (par u)))
    (((accW r).wordExact_slice rfl _ (row_words _)).reshape _ _) (((rcvW r).wordExact_slice rfl _ (row_words _)).reshape _ _) ⟨⟨rfl, Or.inl rfl⟩, trivial⟩) fun _ => k

/-- Receive message `u` of the reduce-scatter on ring `r`, add the own product, and store. -/
@[expose] def rsRecvC (c : Dev nD) (r : Fin 4) (u : Fin 15) (k : Pg F) : Pg F :=
  gemmC (xOff r u c) (xOff_inb r u c) r fun g =>
  .op (.waitDma2 (dsem (rsS r) (par u)) (slotM (rcvM r) (par u)) (slotM (accM r) (par u))
    (((rcvW r).wordExact_slice rfl _ (row_words _)).reshape _ _) (((accW r).wordExact_slice rfl _ (row_words _)).reshape _ _)) fun _ =>
  .op (.waitDma2 (dsem (rsR r) (par u)) (slotM (accM r) (par u)) (slotM (rcvM r) (par u))
    (((accW r).wordExact_slice rfl _ (row_words _)).reshape _ _) (((rcvW r).wordExact_slice rfl _ (row_words _)).reshape _ _)) fun _ =>
  ldSlot (rcvM r) (par u) fun v =>
  stSlot (accM r) (accW r) (par (u + 1)) (addf (shapeCast S256x2048 v shapeCasts_S1x256x2048_S256x2048) g) k

@[expose] def credC (c : Dev nD) (r : Fin 4) (k : Pg F) : Pg F := sigC (prv r c) (crS r).sem k
@[expose] def credWaitC (r : Fin 4) (k : Pg F) : Pg F := waitC (crS r).sem 1#32 k
@[expose] def cqC (c : Dev nD) (r : Fin 4) (k : Pg F) : Pg F := sigC (prv r c) (cqS r).sem k
@[expose] def cqWaitC (r : Fin 4) (k : Pg F) : Pg F := waitC (cqS r).sem 1#32 k

/-- The largest entry of a chunk. -/
abbrev chunkMax (v : Vec F S1x256x2048 .bf16) : F .f32 :=
  extractAt ![0, 0, 0] (shapeCast S1x1x1 (multiReduction .maximumf [1, 2] S1
    (shapeCast S1x256x2048 (extf .f32 (shapeCast S256x2048 v shapeCasts_S1x256x2048_S256x2048) bitsLt_bf16_f32) shapeCasts_S256x2048_S1x256x2048)
    0xFF800000#32 reduces_S1x256x2048_S1 (.inl rfl) rfl) shapeCasts_S1_S1x1x1) inpos_S1x1x1_p0_0_0

/-- The largest entry of the own chunks, to the own slot of the maxima. -/
@[expose] def amLocalC (c : Dev nD) (k : Pg F) : Pg F :=
  ldSlot (accM 0) 1 fun v0 => ldSlot (accM 1) 1 fun v1 => ldSlot (accM 2) 1 fun v2 => ldSlot (accM 3) 1 fun v3 =>
  .op (.load amM (Rect.unit (s := S16x8x128) (k0_off4 c) S1x8x128.size (k0_off4_inb c)).toLoadRect (View.loadsAt_vmem h_S1x8x128)) fun _ =>
  .op (.store amM (Rect.unit (s := S16x8x128) (k0_off4 c) S1x8x128.size (k0_off4_inb c))
    (shapeCast S1x8x128 (broadcast S1x8x128 (Scalar.maximumf (Scalar.maximumf (Scalar.maximumf (Scalar.maximumf (Scalar.ofBits .f32 0x00000000#32) (chunkMax v0)) (chunkMax v1)) (chunkMax v2)) (chunkMax v3))) shapeCasts_S1x8x128_S1x8x128)
    Finset.univ (View.stores_vmem_bits_univ h_S1x8x128 rfl) (.inl rfl)) fun _ => k

/-- The scale's divisor from all maxima. -/
abbrev allMax (v : Vec F S16x8x128 .f32) : F .f32 :=
  extractAt ![0, 0, 0, 0] (shapeCast S1x1x1x1 (multiReduction .maximumf [1, 2, 3] S1 (shapeCast S1x16x8x128 v shapeCasts_S16x8x128_S1x16x8x128)
    0xFF800000#32 reduces_S1x16x8x128_S1 (.inl rfl) rfl) shapeCasts_S1_S1x1x1x1) inpos_S1x1x1x1_p0_0_0_0

@[expose] def amReadC (k : Vec F S16x8x128 .f32 → Pg F) : Pg F :=
  .op (.load amM wholeA.toLoadRect (View.loadsAt_vmem h_S16x8x128)) k

/-- A chunk quantised. -/
abbrev quant (inv : F .f32) (v : Vec F S1x256x2048 .bf16) : IVec S256x2048 8 :=
  fptosi 8 (minimumf (broadcast S256x2048 (Scalar.ofBits (F := F) .f32 0x42FE0000#32)) (maximumf (broadcast S256x2048 (Scalar.ofBits .f32 0x00000000#32))
    (roundeven (mulf (maximumf (extf .f32 (shapeCast S256x2048 v shapeCasts_S1x256x2048_S256x2048) bitsLt_bf16_f32) (broadcast S256x2048 (Scalar.ofBits .f32 0x00000000#32))) (broadcast S256x2048 inv)))))
/-- A chunk dequantised. -/
abbrev dequant (sc : F .f32) (q : IVec S256x2048 8) : FVec F S256x2048 .bf16 :=
  truncf .bf16 (mulf (sitofp .f32 q) (broadcast S256x2048 sc)) bitsLt_bf16_f32

/-- Quantise the own chunk of ring `r`. -/
@[expose] def quantC (A : F .f32) (r : Fin 4) (k : Pg F) : Pg F :=
  ldSlot (accM r) 1 fun v =>
  .op (.load (ownM r) wholeQ.toLoadRect (View.loadsAt_vmem h_S256x2048)) fun _ =>
  .op (.store (ownM r) wholeQ (shapeCast S256x2048 (quant (F := F) (Scalar.divf (Scalar.ofBits .f32 0x42FE0000#32) A) v) shapeCasts_S256x2048_S256x2048) Finset.univ
    (View.stores_vmem h_S256x2048 ((ownW r).storeExact_slice rfl _ packedi8_S256x2048_S256x2048_0_0) (fun _ => rfl)) (.inl rfl)) fun _ =>
  stSlot (accM r) (accW r) 0 (dequant (Scalar.divf A (Scalar.ofBits .f32 0x42FE0000#32)) (quant (F := F) (Scalar.divf (Scalar.ofBits .f32 0x42FE0000#32) A) v)) k

/-- The source of message `t` of the all-gather. -/
@[expose] def agSrc (r : Fin 4) : ℕ → Memref sig .tc .vmem S256x2048 .i8
  | 0 => ownM r
  | t + 1 => slotM (qrcM r) (par t)
theorem agSrc_words (r : Fin 4) : ∀ t, (agSrc r t).view.WordExact
  | 0 => (ownW r).wordExact
  | t + 1 => ((qrcW r).wordExact_slice rfl _ (row_words8 _)).reshape _ _

/-- Start message `t` of the all-gather on ring `r`. -/
@[expose] def agStartC (c : Dev nD) (r : Fin 4) (t : ℕ) (k : Pg F) : Pg F :=
  .op (.enqueueDma (agSrc r t) (.remote (Dev.tc (nxt r c)) (slotM (qrcM r) (par t)) (.dma (dsem (agS r) (par t)))) (.dma (dsem (agR r) (par t)))
    (agSrc_words r t) (((qrcW r).wordExact_slice rfl _ (row_words8 _)).reshape _ _) ⟨⟨rfl, Or.inl rfl⟩, trivial⟩) fun _ => k

/-- Wait for both ends of message `t` of the all-gather on ring `r`. -/
@[expose] def agWaitC (c : Dev nD) (r : Fin 4) (t : ℕ) (k : Pg F) : Pg F :=
  .op (.waitDma2 (dsem (agS r) (par t)) (slotM (qrcM r) (par t)) (agSrc r t) (((qrcW r).wordExact_slice rfl _ (row_words8 _)).reshape _ _) (agSrc_words r t)) fun _ =>
  .op (.waitDma2 (dsem (agR r) (par t)) (agSrc r t) (slotM (qrcM r) (par t)) (agSrc_words r t) (((qrcW r).wordExact_slice rfl _ (row_words8 _)).reshape _ _)) fun _ => k

/-- Start to write the own chunk of ring `r` to the result. -/
@[expose] def put0C (c : Dev nD) (r : Fin 4) (k : Pg F) : Pg F :=
  .op (.enqueueDma (slotM (accM r) 0) (.here (outS (oOff0 r c) (oOff0_inb r c))) (.dma (dsem (ouS r) 0))
    (((accW r).wordExact_slice rfl _ (row_words _)).reshape _ _) ((Memref.isWhole_whole _).wordExact_slice rfl _ (oRect0_words r c)) ⟨Or.inl rfl, trivial⟩) fun _ => k
@[expose] def put0WaitC (c : Dev nD) (r : Fin 4) (k : Pg F) : Pg F :=
  .op (.waitDma2 (dsem (ouS r) 0) (slotM (accM r) 0) (outS (oOff0 r c) (oOff0_inb r c))
    (((accW r).wordExact_slice rfl _ (row_words _)).reshape _ _) ((Memref.isWhole_whole _).wordExact_slice rfl _ (oRect0_words r c))) fun _ => k
/-- Start to write the chunk of step `t` of ring `r` to the result. -/
@[expose] def putC (c : Dev nD) (r : Fin 4) (t : Fin 15) (k : Pg F) : Pg F :=
  .op (.enqueueDma (slotM (deqM r) (par t)) (.here (outS (oOff r t c) (oOff_inb r t c))) (.dma (dsem (ouS r) (par t)))
    (((deqW r).wordExact_slice rfl _ (row_words _)).reshape _ _) ((Memref.isWhole_whole _).wordExact_slice rfl _ (oRect_words r t c)) ⟨Or.inl rfl, trivial⟩) fun _ => k
@[expose] def putWaitC (c : Dev nD) (r : Fin 4) (t : Fin 15) (k : Pg F) : Pg F :=
  .op (.waitDma2 (dsem (ouS r) (par t)) (slotM (deqM r) (par t)) (outS (oOff r t c) (oOff_inb r t c))
    (((deqW r).wordExact_slice rfl _ (row_words _)).reshape _ _) ((Memref.isWhole_whole _).wordExact_slice rfl _ (oRect_words r t c))) fun _ => k

/-- Dequantise the chunk that arrived at step `t` on ring `r`: load, run `m`, store. -/
@[expose] def deqC (A : F .f32) (r : Fin 4) (t : ℕ) (m : Pg F → Pg F) (k : Pg F) : Pg F :=
  ldSlot (qrcM r) (par t) fun v => m <|
  stSlot (deqM r) (deqW r) (par t) (dequant (F := F) (Scalar.divf A (Scalar.ofBits .f32 0x42FE0000#32)) (shapeCast S256x2048 v shapeCasts_S1x256x2048_S256x2048)) k

/-- The transfer of the own maximum to device `d`. -/
abbrev amSendP (c : Dev nD) (d : Fin 16) : Pg F :=
  .op (.enqueueDma (amS c) (.remote (Dev.tc (d : Dev nD)) (amS c) (.dma (dsem16 cc0_scratch41 d))) (.dma (dsem16 cc0_scratch42 c))
    ((View.wordExact_bits rfl).reshape _ _) ((View.wordExact_bits rfl).reshape _ _) ⟨⟨rfl, Or.inl rfl⟩, trivial⟩) fun _ => .ret ⟨⟩
/-- The waits for the maxima to and from device `d`. -/
abbrev amWaitP (c : Dev nD) (d : Fin 16) : Pg F :=
  .op (.waitDma2 (dsem16 cc0_scratch41 d) (amS d) (amS c) ((View.wordExact_bits rfl).reshape _ _) ((View.wordExact_bits rfl).reshape _ _)) fun _ =>
  .op (.waitDma2 (dsem16 cc0_scratch42 d) (amS c) (amS d) ((View.wordExact_bits rfl).reshape _ _) ((View.wordExact_bits rfl).reshape _ _)) fun _ => .ret ⟨⟩

/-- Send the own maximum to device `d`, if it is another one. -/
@[expose] def amSendC (c : Dev nD) (d : Fin 16) (k : Pg F) : Pg F := if d ≠ c then Prog.bind (amSendP c d) fun _ => k else k
/-- Wait for the maxima to and from device `d`, if it is another one. -/
@[expose] def amWaitC (c : Dev nD) (d : Fin 16) (k : Pg F) : Pg F := if d ≠ c then Prog.bind (amWaitP c d) fun _ => k else k

/-! ## The body -/

/-- A list of commands, run before `k`. -/
@[expose] def runs : List (Pg F → Pg F) → Pg F → Pg F
  | [], k => k
  | m :: ms, k => m (runs ms k)

abbrev rings : List (Fin 4) := [0, 1, 2, 3]

/-- Step `u` of the reduce-scatter on ring `r`. -/
@[expose] def rsStep (c : Dev nD) (r : Fin 4) (u : Fin 15) (k : Pg F) : Pg F :=
  rsRecvC c r u <| (if u.val ≤ 12 then credC c r else id) <|
    if u.val + 1 ≤ 14 then (if 2 ≤ u.val + 1 then credWaitC r else id) (rsStartC c r (u.val + 1) k) else k

/-- Step `t` of the all-gather on ring `r`. -/
@[expose] def agStep (c : Dev nD) (A : F .f32) (r : Fin 4) (t : Fin 15) (k : Pg F) : Pg F :=
  agWaitC c r t.val <| (if 1 ≤ t.val ∧ t.val ≤ 13 then cqC c r else id) <|
    deqC A r t.val (if t.val = 0 then put0WaitC c r else if h : 2 ≤ t.val then putWaitC c r ⟨t.val - 2, by omega⟩ else id) <|
    putC c r t <|
    if t.val + 1 ≤ 14 then (if 2 ≤ t.val + 1 then cqWaitC r else id) (agStartC c r (t.val + 1) k) else k

abbrev steps : List (Fin 15) := [0, 1, 2, 3, 4, 5, 6, 7, 8, 9, 10, 11, 12, 13, 14]
abbrev devs16 : List (Fin 16) := [0, 1, 2, 3, 4, 5, 6, 7, 8, 9, 10, 11, 12, 13, 14, 15]

/-- The all-gather, given the maximum. -/
@[expose] def agPart (c : Dev nD) (A : F .f32) (k : Pg F) : Pg F :=
  runs (rings.map (quantC A)) <|
  runs (rings.map fun r => fun k => agStartC c r 0 (put0C c r k)) <|
  runs (steps.map fun t => runs (rings.map fun r => agStep c A r t)) <|
  runs (rings.map fun r => fun k => putWaitC c r 13 (putWaitC c r 14 k)) k

/-- The reduce-scatter. -/
@[expose] def rsPart (c : Dev nD) (x0 : Memref sig .tc .vmem S4096x256 .bf16) (x1 : Memref sig .tc .vmem S256x8192 .bf16) (k : Pg F) : Pg F :=
  barSigC c <| copyInC x0 x1 <| waitC barS 2#32 <|
  runs (rings.map (acc0C c)) <| runs (rings.map fun r => rsStartC c r 0) <|
  runs (steps.map fun u => runs (rings.map fun r => rsStep c r u)) k

/-- The maxima's exchange. -/
@[expose] def amPart (c : Dev nD) (k : F .f32 → Pg F) : Pg F :=
  amLocalC c <| runs (devs16.map (amSendC c)) <| runs (devs16.map (amWaitC c)) <| amReadC fun v => k (allMax v)

/-- The body on device `c`. -/
@[expose] def prog (x0 : Memref sig .tc .vmem S4096x256 .bf16) (x1 : Memref sig .tc .vmem S256x8192 .bf16) (c : Dev nD) : Pg F :=
  rsPart c x0 x1 <| amPart c fun A => agPart c A (.ret ⟨⟩)

end Cert.Ring
-- ==== Proof.Schedule.lean ====
/-
# The protocol of the fused ring all-reduce: cells, values, rounds

Every semaphore the kernel talks through is a cell named by a device and a `Kind`. The contents that travel
are functions of the devices' operands. A slot that a neighbour writes to is handed over by a release count
(`Lib/Release.lean`), so that a credit carries only facts that stay true; a credit cell is one round of thirteen
units.
-/
module

public import proofs.«01_k».proof.Proof.Body
public import Idealize.ShloMosaic.Lib.Release
public import Idealize.ShloMosaic.Lib.ShareLeaves
import Mathlib.Tactic.DeriveFintype

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv)

variable {F : FTy → Type} [FloatOps F]

/-! ## Cells -/

/-- The kernel's semaphores on one device: the barrier; the send and the receive of a ring's slot in phase `q`; the
    copies to the result; the maximum sent to and received from a device; the credits of a ring in phase `q`. -/
inductive Kind
  | bar
  | sd (q : Fin 2) (r : Fin 4) (s : Fin 2)
  | rv (q : Fin 2) (r : Fin 4) (s : Fin 2)
  | ou (r : Fin 4) (s : Fin 2)
  | am (d : Fin 16)
  | ar (d : Fin 16)
  | cr (q : Fin 2) (r : Fin 4)
  deriving DecidableEq, Fintype

/-- The semaphore of a kind. -/
def semOf : Kind → SemLoc sig
  | .bar => .reg barS
  | .sd q r s => .dma (dsem (if q = 0 then rsS r else agS r) s)
  | .rv q r s => .dma (dsem (if q = 0 then rsR r else agR r) s)
  | .ou r s => .dma (dsem (ouS r) s)
  | .am d => .dma (dsem16 cc0_scratch41 d)
  | .ar d => .dma (dsem16 cc0_scratch42 d)
  | .cr q r => .reg (if q = 0 then (crS r).sem else (cqS r).sem)

/-- The kind of a semaphore. -/
def kindOf : SemLoc sig → Option Kind
  | .reg s => if s.val < 4 then some (.cr 0 ⟨s.val % 4, Nat.mod_lt _ (by decide)⟩)
      else if s.val < 8 then some (.cr 1 ⟨s.val % 4, Nat.mod_lt _ (by decide)⟩) else some .bar
  | .dma s =>
      let n := s.val
      let r : Fin 4 := ⟨(n - 2) % 8 / 2, by omega⟩
      let b : Fin 2 := ⟨n % 2, by omega⟩
      if n < 2 then none else if n < 10 then some (.sd 0 r b) else if n < 18 then some (.rv 0 r b)
      else if n < 26 then some (.sd 1 r b) else if n < 34 then some (.rv 1 r b) else if n < 42 then some (.ou r b)
      else if n < 58 then some (.am ⟨(n - 42) % 16, by omega⟩) else some (.ar ⟨(n - 58) % 16, by omega⟩)

theorem kindOf_semOf : ∀ k : Kind, kindOf (semOf k) = some k := by
  intro k
  cases k with
  | bar => rfl
  | sd q r s => revert q r s; decide +kernel
  | rv q r s => revert q r s; decide +kernel
  | ou r s => revert r s; decide +kernel
  | am d => revert d; decide +kernel
  | ar d => revert d; decide +kernel
  | cr q r => revert q r; decide +kernel

theorem semOf_inj {k k' : Kind} (h : semOf k = semOf k') : k = k' :=
  Option.some.inj ((kindOf_semOf k).symm.trans ((congrArg kindOf h).trans (kindOf_semOf k')))

/-- The cell of a kind on a device. -/
abbrev cell (c : Dev nD) (k : Kind) : GSem nD τ sig := ((c : Thread nD τ), semOf k)

theorem nxt_prv : ∀ (r : Fin 4) (c : Dev nD), nxt r (prv r c) = c := by decide +kernel
theorem prv_nxt : ∀ (r : Fin 4) (c : Dev nD), prv r (nxt r c) = c := by decide +kernel

/-! ## Algebra -/

/-- A slot that another device writes to is named by the cell its arrival is counted at. -/
abbrev Key : Type := Dev nD × Kind
abbrev UO : Type := URounds (GSem nD τ sig) ℕ × USlots Key
abbrev UU : Type := UR sig nD τ × UO

local notation "𝕄" => MT nD τ sig ℕ (Elt F) ℕ UU ℕ

abbrev EP : Emb (UR sig nD τ) (MT nD τ sig ℕ (Elt F) ℕ UU ℕ) := embL
abbrev EO : Emb UO (MT nD τ sig ℕ (Elt F) ℕ UU ℕ) := embR
abbrev ER : Emb (URounds (GSem nD τ sig) ℕ) (MT nD τ sig ℕ (Elt F) ℕ UU ℕ) := (Emb.inl : Emb _ UO).trans EO
abbrev ES : Emb (USlots Key) (MT nD τ sig ℕ (Elt F) ℕ UU ℕ) := (Emb.inr : Emb _ UO).trans EO

/-! ## The values that travel -/

/-- Device operands. -/
structure Ops (F : FTy → Type) [FloatOps F] where
  x : Dev nD → (cc0_scratch51 : Ref sig .tc).ty.Contents (Elt F)
  w : Dev nD → (cc0_scratch52 : Ref sig .tc).ty.Contents (Elt F)

variable (o : Ops F)

/-- A chunk as a one-row slot. -/
abbrev up (v : Vec F S256x2048 .bf16) : Vec F S1x256x2048 .bf16 := shapeCast S1x256x2048 v shapeCasts_S256x2048_S1x256x2048

/-- The product of rows of `x` with a ring's columns of `w`, on device `c`. -/
def prod (c : Dev nD) (R : Fin 2 → ℕ) (hR : ∀ a, R a + S256x256.size a ≤ S4096x256.size a) (r : Fin 4) : FVec F S256x2048 .bf16 :=
  mm (xbM.view.readAt (Elt F) (Rect.unit (s := S4096x256) R S256x256.size hR).toLoadRect (o.x c))
    (wbM.view.readAt (Elt F) (colR r).toLoadRect (o.w c))

/-- A step's number as a position. -/
abbrev stp (u : ℕ) : Fin 15 := ⟨u % 15, Nat.mod_lt _ (by decide)⟩

/-- The partial sum that device `c` sends in step `u` of the reduce-scatter. -/
def accV (r : Fin 4) : ℕ → Dev nD → FVec F S256x2048 .bf16
  | 0, c => prod o c (k0_off1 c) (k0_off1_inb c) r
  | u + 1, c => addf (accV r u (prv r c)) (prod o c (xOff r (stp u) c) (xOff_inb r (stp u) c) r)

/-- The largest entry of device `c`'s reduced chunks, in each element. -/
def amV (c : Dev nD) : Vec F S1x8x128 .f32 :=
  shapeCast S1x8x128 (broadcast S1x8x128 (Scalar.maximumf (Scalar.maximumf (Scalar.maximumf (Scalar.maximumf (Scalar.ofBits .f32 0x00000000#32)
    (chunkMax (up (accV o 0 15 c)))) (chunkMax (up (accV o 1 15 c)))) (chunkMax (up (accV o 2 15 c)))) (chunkMax (up (accV o 3 15 c))))) shapeCasts_S1x8x128_S1x8x128

/-- That maximum as a slot of the maxima. -/
def amW (c : Dev nD) : Vec F S8x128 .f32 := shapeCast S8x128 (amV o c) (by decide)

/-- All maxima. -/
def amAll : Vec F S16x8x128 .f32 := fun i => amV o ⟨(i 0).val, (i 0).isLt⟩ (fun a => match a with | 0 => ⟨0, by decide⟩ | 1 => i 1 | 2 => i 2)

/-- The divisor of the scale. -/
def mx : F .f32 := allMax (amAll o)

/-- The quantised chunk that device `c` sends in step `t` of the all-gather. -/
def quV (r : Fin 4) : ℕ → Dev nD → IVec S256x2048 8
  | 0, c => quant (F := F) (Scalar.divf (Scalar.ofBits .f32 0x42FE0000#32) (mx o)) (up (accV o r 15 c))
  | t + 1, c => quV r t (prv r c)

/-- The chunk dequantised. -/
def deV (r : Fin 4) (t : ℕ) (c : Dev nD) : FVec F S256x2048 .bf16 :=
  dequant (Scalar.divf (mx o) (Scalar.ofBits .f32 0x42FE0000#32)) (quV o r t c)

/-! ## Amounts -/

abbrev NB : ℕ := (slotM (accM 0) 0).view.dmaCredit
abbrev NQ : ℕ := (slotM (qrcM 0) 0).view.dmaCredit
abbrev NA : ℕ := (amS 0).view.dmaCredit

theorem NB_pos : 0 < NB := View.dmaCredit_pos _ (by decide)
theorem NQ_pos : 0 < NQ := View.dmaCredit_pos _ (by decide)
theorem NA_pos : 0 < NA := View.dmaCredit_pos _ (by decide)

theorem acc_amount (r : Fin 4) (s : Fin 2) : (slotM (accM r) s).view.dmaCredit = NB := by fin_cases r <;> rfl
theorem rcv_amount (r : Fin 4) (s : Fin 2) : (slotM (rcvM r) s).view.dmaCredit = NB := by fin_cases r <;> rfl
theorem qrc_amount (r : Fin 4) (s : Fin 2) : (slotM (qrcM r) s).view.dmaCredit = NQ := by fin_cases r <;> rfl
theorem src_amount (r : Fin 4) : ∀ t, (agSrc r t).view.dmaCredit = NQ
  | 0 => by fin_cases r <;> rfl
  | t + 1 => qrc_amount r _
theorem am_amount (d : Fin 16) : (amS d).view.dmaCredit = NA := rfl
theorem out_amount (R : Fin 2 → ℕ) (h) : (outS R h).view.dmaCredit = NB := rfl

/-- The amount of a message of phase `q`. -/
def NM (q : Fin 2) : ℕ := if q = 0 then NB else NQ
theorem NM_pos (q : Fin 2) : 0 < NM q := by unfold NM; split; exacts [NB_pos, NQ_pos]

/-! ## Facts that stay true -/

/-- A pair of facts about the two slots after `n` messages: the slot of message `n` has seen `n / 2` of them, the other
    one `(n + 1) / 2`. -/
def two (P : Fin 2 → ℕ → sProp 𝕄) (n : ℕ) : sProp 𝕄 := iprop(P (par n) (n / 2) ∗ P (par (n + 1)) ((n + 1) / 2))

theorem par_add_two (n : ℕ) : par (n + 2) = par n := Fin.ext (by simp)

omit [FloatOps F] in
theorem two_succ (P : Fin 2 → ℕ → sProp 𝕄) (n : ℕ) : two P (n + 1) = iprop(P (par (n + 1)) ((n + 1) / 2) ∗ P (par n) (n / 2 + 1)) := by
  unfold two; rw [show n + 1 + 1 = n + 2 from rfl, par_add_two, show (n + 2) / 2 = n / 2 + 1 by omega]

/-- A slot free for message `k` of those that land in it, and its cell's round open. -/
def freeS (e : Key) (k : ℕ) : sProp 𝕄 := iprop(released ES e (k + 1) ∗ reached ER (cell e.1 e.2) k)
omit [FloatOps F] in
instance freeS_persistent (e : Key) (k : ℕ) : BI.Persistent (freeS (F := F) e k) := by unfold freeS; infer_instance
omit [FloatOps F] in
instance freeS_storable (e : Key) (k : ℕ) : BI.Storable (upEmb : UEmb _ 𝕄) (freeS (F := F) e k) := by unfold freeS; infer_instance

/-- Device `e` has freed the slots of ring `r` in phase `q` for all messages up to `n + 1`. -/
def relAt (q : Fin 2) (r : Fin 4) (e : Dev nD) (n : ℕ) : sProp 𝕄 := two (fun s k => freeS (e, .rv q r s) k) n
omit [FloatOps F] in
instance relAt_persistent (q r e n) : BI.Persistent (relAt (F := F) q r e n) := by unfold relAt two; infer_instance
omit [FloatOps F] in
instance relAt_storable (q r e n) : BI.Storable (upEmb : UEmb _ 𝕄) (relAt (F := F) q r e n) := by unfold relAt two; infer_instance

/-- Device `e` has freed its slots for the maxima. -/
def amFree (e : Dev nD) : sProp 𝕄 := bigSep Finset.univ fun d : Fin 16 => released ES ((e, .ar d) : Key) 1
omit [FloatOps F] in
instance amFree_persistent (e) : BI.Persistent (amFree (F := F) e) := by unfold amFree; infer_instance
omit [FloatOps F] in
instance amFree_storable (e) : BI.Storable (upEmb : UEmb _ 𝕄) (amFree (F := F) e) := by unfold amFree; infer_instance

/-- What device `c` has heard of the `n` devices before it on ring `r`. -/
def hrd (r : Fin 4) : ℕ → Dev nD → sProp 𝕄
  | 0, _ => iprop(emp)
  | n + 1, c => iprop(amFree (prv r c) ∗ hrd r n (prv r c))
omit [FloatOps F] in
theorem hrd_inst (r : Fin 4) : ∀ n c, BI.Persistent (hrd (F := F) r n c) ∧ BI.Storable (upEmb : UEmb _ 𝕄) (hrd (F := F) r n c)
  | 0, _ => by unfold hrd; exact ⟨inferInstance, inferInstance⟩
  | n + 1, c => by
    have h := hrd_inst r n (prv r c)
    have := h.1; have := h.2
    unfold hrd; exact ⟨inferInstance, inferInstance⟩
omit [FloatOps F] in
instance hrd_persistent (r n c) : BI.Persistent (hrd (F := F) r n c) := (hrd_inst r n c).1
omit [FloatOps F] in
instance hrd_storable (r n c) : BI.Storable (upEmb : UEmb _ 𝕄) (hrd (F := F) r n c) := (hrd_inst r n c).2

/-! ## The schedule -/

/-- The maxima's slot `d` of device `c`, written, at share `s`. -/
def amPts (c : Dev nD) (d : Fin 16) (s : PosShare TreeShare) : sProp 𝕄 :=
  (amS d).view.loc (c : Thread nD τ) ↦[(amS d).view.set]{s} (amAll o)
instance amPts_storable (c d s) : BI.Storable (upEmb : UEmb _ 𝕄) (amPts o c d s) := by unfold amPts; infer_instance

/-- What a send of phase `q` gives back: its source. -/
def sdPay (q : Fin 2) (r : Fin 4) (u : ℕ) (c : Dev nD) : sProp 𝕄 :=
  if q = 0 then owns (c : Thread nD τ) (slotM (accM r) (par u)) fullShare (accV o r u c)
  else owns (c : Thread nD τ) (agSrc r u) fullShare (quV o r u c)
/-- What an arrival of phase `q` brings. -/
def rvPay (q : Fin 2) (r : Fin 4) (u : ℕ) (c : Dev nD) : sProp 𝕄 :=
  if q = 0 then iprop(owns (c : Thread nD τ) (slotM (rcvM r) (par u)) fullShare (accV o r u (prv r c)) ∗ hrd r (u + 1) c)
  else owns (c : Thread nD τ) (slotM (qrcM r) (par u)) fullShare (quV o r u (prv r c))
/-- What the copy of the own chunk to the result gives back. -/
def ou0Pay (r : Fin 4) (c : Dev nD) : sProp 𝕄 :=
  iprop(owns (c : Thread nD τ) (outS (oOff0 r c) (oOff0_inb r c)) fullShare (deV o r 0 c) ∗ owns (c : Thread nD τ) (slotM (accM r) 0) fullShare (deV o r 0 c))
/-- What the copy of the chunk of step `t` to the result gives back. -/
def ouPay (r : Fin 4) (t : ℕ) (c : Dev nD) : sProp 𝕄 :=
  iprop(owns (c : Thread nD τ) (outS (oOff r (stp t) c) (oOff_inb r (stp t) c)) fullShare (deV o r (t + 1) c)
    ∗ owns (c : Thread nD τ) (slotM (deqM r) (par t)) fullShare (deV o r (t + 1) c))
/-- What a barrier signal brings: the signaller's slots are free, from the right for the rings to the right (duty 0),
    from the left for the rings to the left (duty 1). -/
def barPay (d : ℕ) (c : Dev nD) : sProp 𝕄 :=
  if d = 0 then iprop((relAt 0 0 (rgt c) 0 ∗ relAt 0 1 (rgt c) 0) ∗ (relAt 1 0 (rgt c) 0 ∗ relAt 1 1 (rgt c) 0))
  else iprop((relAt 0 2 (lft c) 0 ∗ relAt 0 3 (lft c) 0) ∗ (relAt 1 2 (lft c) 0 ∗ relAt 1 3 (lft c) 0))

instance sdPay_storable (q r u c) : BI.Storable (upEmb : UEmb _ 𝕄) (sdPay o q r u c) := by unfold sdPay; split <;> infer_instance
instance rvPay_storable (q r u c) : BI.Storable (upEmb : UEmb _ 𝕄) (rvPay o q r u c) := by unfold rvPay; split <;> infer_instance
instance ou0Pay_storable (r c) : BI.Storable (upEmb : UEmb _ 𝕄) (ou0Pay o r c) := by unfold ou0Pay; infer_instance
instance ouPay_storable (r t c) : BI.Storable (upEmb : UEmb _ 𝕄) (ouPay o r t c) := by unfold ouPay; infer_instance
omit [FloatOps F] in
instance barPay_storable (d c) : BI.Storable (upEmb : UEmb _ 𝕄) (barPay (F := F) d c) := by unfold barPay; split <;> infer_instance

/-- The duties of round `n` of kind `k` on device `c`. -/
def dut (c : Dev nD) (n : ℕ) : Kind → Finset ℕ
  | .bar => if n = 0 then {0, 1} else ∅
  | .sd _ _ s => if 2 * n + s.val < 15 then {0} else ∅
  | .rv _ _ s => if 2 * n + s.val < 15 then {0} else ∅
  | .ou _ s => if n + 2 * s.val < 9 then {0} else ∅
  | .am d => if n = 0 ∧ d ≠ c then {0} else ∅
  | .ar d => if n = 0 ∧ d ≠ c then {0} else ∅
  | .cr _ _ => if n = 0 then Finset.range 13 else ∅

def amo : Kind → ℕ
  | .bar => 1 | .sd q _ _ => NM q | .rv q _ _ => NM q | .ou _ _ => NB | .am _ => NA | .ar _ => NA | .cr _ _ => 1

theorem amo_pos : ∀ k, 0 < amo k
  | .bar => Nat.one_pos | .sd q _ _ => NM_pos q | .rv q _ _ => NM_pos q | .ou _ _ => NB_pos | .am _ => NA_pos | .ar _ => NA_pos | .cr _ _ => Nat.one_pos

/-- What duty `d` of round `n` of kind `k` hands to device `c`. -/
def pay (c : Dev nD) (n d : ℕ) : Kind → sProp 𝕄
  | .bar => barPay d c
  | .sd q r s => sdPay o q r (2 * n + s.val) c
  | .rv q r s => rvPay o q r (2 * n + s.val) c
  | .ou r s => if s = 0 then if n = 0 then ou0Pay o r c else ouPay o r (2 * (n - 1)) c else ouPay o r (2 * n + 1) c
  | .am e => amPts o c c (ShareLeaves.leaf 4 fullShare e)
  | .ar e => amPts o c e fullShare
  | .cr q r => relAt q r (nxt r c) (d + 1)

instance pay_storable (c n d) : ∀ k, BI.Storable (upEmb : UEmb _ 𝕄) (pay o c n d k)
  | .bar => by unfold pay; infer_instance
  | .sd _ _ _ => by unfold pay; infer_instance
  | .rv _ _ _ => by unfold pay; infer_instance
  | .ou _ _ => by unfold pay; (repeat' split) <;> infer_instance
  | .am _ => by unfold pay; infer_instance
  | .ar _ => by unfold pay; infer_instance
  | .cr _ _ => by unfold pay; infer_instance

/-- The schedule. -/
def Rd : Rounds.Schedule (GSem nD τ sig) ℕ 𝕄 where
  duties g n := if g.1.2 = .tc then (match kindOf g.2 with | some k => dut g.1.1 n k | none => ∅) else ∅
  amount g _ _ := match kindOf g.2 with | some k => amo k | none => 1
  payload g n d := match kindOf g.2 with | some k => pay o g.1.1 n d k | none => iprop(emp)
  amount_pos g _ _ _ := by split; exacts [amo_pos _, Nat.one_pos]

instance Rd_storable (g n d) : BI.Storable (upEmb : UEmb _ 𝕄) ((Rd o).payload g n d) := by
  show BI.Storable upEmb (match kindOf g.2 with | some k => pay o g.1.1 n d k | none => iprop(emp))
  split <;> infer_instance

theorem Rd_duties (c : Dev nD) (k : Kind) (n : ℕ) : (Rd o).duties (cell c k) n = dut c n k := by
  show (if ((c : Thread nD τ)).2 = .tc then (match kindOf (semOf k) with | some k => dut c n k | none => ∅) else ∅) = _
  rw [if_pos rfl, kindOf_semOf]
theorem Rd_amount (c : Dev nD) (k : Kind) (n d : ℕ) : (Rd o).amount (cell c k) n d = amo k := by
  show (match kindOf (semOf k) with | some k => amo k | none => 1) = _
  rw [kindOf_semOf]
theorem Rd_payload (c : Dev nD) (k : Kind) (n d : ℕ) : (Rd o).payload (cell c k) n d = pay o c n d k := by
  show (match kindOf (semOf k) with | some k => pay o c n d k | none => iprop(emp)) = _
  rw [kindOf_semOf]

theorem Rd_expect (c : Dev nD) (k : Kind) (n : ℕ) : (Rd o).expect (cell c k) n = (dut c n k).card * amo k := by
  unfold Schedule.expect Schedule.amountOf
  rw [Rd_duties, Finset.sum_congr rfl fun d _ => Rd_amount o c k n d, Finset.sum_const, smul_eq_mul]

theorem Rd_rest (c : Dev nD) (k : Kind) (n : ℕ) (h : dut c n k = {0}) :
    bigSep ((Rd o).duties (cell c k) n \ ∅) (fun d => (Rd o).payload (cell c k) n d) = pay o c n 0 k := by
  rw [Finset.sdiff_empty, Rd_duties, h, bigSep_singleton, Rd_payload]

/-! ## What the devices pay each other, in program order -/

/-- A payment to another device. -/
inductive Pay
  | bar (b : Fin 2)
  | st (q : Fin 2) (r : Fin 4) (u : Fin 15)
  | cr (q : Fin 2) (r : Fin 4) (k : Fin 13)
  | am (d : Fin 16)
  deriving DecidableEq, Fintype

/-- A credit's number. -/
abbrev cn (k : ℕ) : Fin 13 := ⟨k % 13, Nat.mod_lt _ (by decide)⟩

/-- Its place in the program. -/
def ix : Pay → ℕ
  | .bar b => 1 + b.val
  | .st q r u => 4 + 144 * q.val + 8 * u.val + 2 * r.val
  | .cr q r k => 3 + 144 * q.val + 8 * (k.val + 1 + q.val) + 2 * r.val
  | .am d => 131 + d.val

/-- The cell it goes to. -/
def tgt (c : Dev nD) : Pay → GSem nD τ sig
  | .bar b => cell (if b = 0 then lft c else rgt c) .bar
  | .st q r u => cell (nxt r c) (.rv q r (par u.val))
  | .cr q r _ => cell (prv r c) (.cr q r)
  | .am d => cell d (.ar c)

/-- Its amount. -/
def amt (c : Dev nD) : Pay → ℕ
  | .bar _ => 1
  | .st q _ _ => NM q
  | .cr _ _ _ => 1
  | .am d => if d = c then 0 else NA

def due (c : Dev nD) (p : Pay) : CellTallies nD τ sig ℕ := tallyAt (tgt c p) (ix p) (amt c p)

/-- What device `c` still owes at place `n`. -/
def owed (c : Dev nD) (n : ℕ) : CellTallies nD τ sig ℕ := ∑ p ∈ Finset.univ.filter (fun p => n ≤ ix p), due c p

theorem ix_inj {p p' : Pay} (h : ix p = ix p') : p = p' := by
  cases p <;> cases p' <;> simp only [ix] at h <;> first
    | (exfalso; omega)
    | (congr 1 <;> (apply Fin.ext; omega))

theorem owed_pop (c : Dev nD) (p : Pay) : owed c (ix p) = owed c (ix p + 1) + due c p := by
  unfold owed
  rw [show (Finset.univ.filter fun p' => ix p ≤ ix p') = insert p (Finset.univ.filter fun p' => ix p + 1 ≤ ix p') by
    ext p'; simp only [Finset.mem_filter, Finset.mem_univ, true_and, Finset.mem_insert]
    constructor
    · intro h
      by_cases he : ix p = ix p'
      · exact .inl (ix_inj he.symm)
      · exact .inr (by omega)
    · rintro (rfl | h); exacts [le_refl _, by omega]]
  rw [Finset.sum_insert (by simp), add_comm]

theorem owed_skip (c : Dev nD) {n n' : ℕ} (h : ∀ p, n ≤ ix p ↔ n' ≤ ix p) : owed c n = owed c n' := by
  unfold owed; rw [Finset.filter_congr fun p _ => h p]

/-! ## Levels -/

def L (g : GSem nD τ sig) : Finset ℕ := if g.1.2 = .tc then Finset.range 300 else ∅
def lv (_ : GSem nD τ sig) (i : ℕ) : ℕ := i
theorem L_of_ne (g : GSem nD τ sig) (h : g.1.2 ≠ .tc) : L g = ∅ := if_neg h

theorem ix_lt (p : Pay) : ix p < 300 := by cases p <;> simp only [ix] <;> omega

theorem tgt_tc (c : Dev nD) (p : Pay) : (tgt c p).1.2 = .tc := by cases p <;> rfl

theorem owed_pos {c : Dev nD} {n : ℕ} {g : GSem nD τ sig} {i : ℕ} (h : 0 < owed c n g i) : g.1.2 = .tc ∧ i < 300 ∧ n ≤ i := by
  obtain ⟨p, hp, h⟩ := Pipeline.sum_pos_exists h
  obtain ⟨rfl, rfl⟩ := Pipeline.tallyAt_pos h
  exact ⟨tgt_tc c p, ix_lt p, (Finset.mem_filter.mp hp).2⟩

omit [FloatOps F] in
/-- A device may wait for what is paid at a place it has passed. -/
theorem mayWait (c : Dev nD) (sm : SemLoc sig) {i n : ℕ} (hi : i < n) (hi' : i < 300) :
    (levAts L lv : sProp 𝕄) ⊢ MayWait (c : Thread nD τ) sm i (owed c n) :=
  Pipeline.mayWait_of_levAts (by unfold L; rw [if_pos rfl]; exact Finset.mem_range.mpr hi') fun g i' h => by
    obtain ⟨h1, h2, h3⟩ := owed_pos h
    exact ⟨by unfold L; rw [if_pos h1]; exact Finset.mem_range.mpr h2, by unfold lv; omega⟩

/-! ## The facts all devices share -/

/-- What a slot holds while free. -/
def slotOf (e : Key) : sProp 𝕄 := match e.2 with
  | .rv q r s => if q = 0 then iprop(∃ v, owns (e.1 : Thread nD τ) (slotM (rcvM r) s) fullShare v)
      else iprop(∃ v, owns (e.1 : Thread nD τ) (slotM (qrcM r) s) fullShare v)
  | .ar d => iprop(∃ v, owns (e.1 : Thread nD τ) (amS d) fullShare v)
  | _ => iprop(emp)
omit [FloatOps F] in
instance slotOf_storable (e : Key) : BI.Storable (upEmb : UEmb _ 𝕄) (slotOf (F := F) e) := by
  unfold slotOf; (repeat' split) <;> infer_instance

variable (κ : Dev nD × Kind → ℕ) (ν : Key → ℕ)

/-- The cells' and the slots' invariants, round 0 of every cell, and the levels. -/
def ctx : sProp 𝕄 :=
  iprop(bigSep Finset.univ (fun e : Dev nD × Kind => iprop(cellInv ER (Rd o) (κ e) (cell e.1 e.2) ∗ reached ER (cell e.1 e.2) 0))
    ∗ bigSep Finset.univ (fun e : Key => slotInv ES (ν e) e (slotOf e)) ∗ levAts L lv)
instance ctx_persistent : BI.Persistent (ctx o κ ν) := by unfold ctx; infer_instance

omit [FloatOps F] in
private theorem at_cell (P : Dev nD × Kind → sProp 𝕄) (e : Dev nD × Kind) : bigSep Finset.univ P ⊢ P e := bigSep_elim (Finset.mem_univ e)

theorem ctx_cell (c : Dev nD) (k : Kind) : ctx o κ ν ⊢ cellInv ER (Rd o) (κ (c, k)) (cell c k) := by
  unfold ctx; iintro ⟨H, -⟩
  ihave H := (at_cell (fun e : Dev nD × Kind => iprop(cellInv ER (Rd o) (κ e) (cell e.1 e.2) ∗ reached ER (cell e.1 e.2) 0)) (c, k)) $$ H
  icases H with ⟨H, -⟩; iexact H
theorem ctx_reached (c : Dev nD) (k : Kind) : ctx o κ ν ⊢ reached ER (cell c k) 0 := by
  unfold ctx; iintro ⟨H, -⟩
  ihave H := (at_cell (fun e : Dev nD × Kind => iprop(cellInv ER (Rd o) (κ e) (cell e.1 e.2) ∗ reached ER (cell e.1 e.2) 0)) (c, k)) $$ H
  icases H with ⟨-, H⟩; iexact H
theorem ctx_slot (e : Key) : ctx o κ ν ⊢ slotInv ES (ν e) e (slotOf e) := by
  unfold ctx; iintro ⟨-, H, -⟩
  iapply (at_cell (fun e : Key => slotInv ES (ν e) e (slotOf e)) e); iexact H
theorem ctx_lev : ctx o κ ν ⊢ levAts L lv := by
  unfold ctx; iintro ⟨-, -, H⟩; iexact H

end Cert.Ring
-- ==== Proof.Slots.lean ====
/-
# Memory commands of the ring all-reduce

Rules for the loads and stores of the body, in terms of what a slot holds.
-/
module

public import proofs.«01_k».proof.Proof.Schedule
public import Idealize.ShloMosaic.Lib.Pipeline.Value

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv)

variable {F : FTy → Type} [FloatOps F]

local notation "𝕄" => MT nD τ sig ℕ (Elt F) ℕ UU ℕ

abbrev 𝒱₀ : Variants := Variants.none

/-- The weakest precondition of a piece of the body on device `c`. -/
abbrev WP (c : Dev nD) (k : Pg F) (Q : PUnit.{1} → sProp (MT nD τ sig ℕ (Elt F) ℕ UU ℕ)) : sProp 𝕄 :=
  wp frame (wpE (defs₀ (F := F)) 𝒱₀ (c : Thread nD τ) none) Set.univ k Q

variable {c : Dev nD} {Q : PUnit.{1} → sProp (MT nD τ sig ℕ (Elt F) ℕ UU ℕ)}

theorem slot_set {dt : EltTy} (M : Memref sig .tc .vmem S2x256x2048 dt) (s : Fin 2) : (slotM M s).view.set = (M.access (row s)).set :=
  View.set_reshape _ _

/-- A slot's content as a loaded row. -/
abbrev upE {α : Type} (v : S256x2048.Idx → α) : S1x256x2048.Idx → α := shapeCast S1x256x2048 v shapeCasts_S256x2048_S1x256x2048

theorem ld_slot {dt : EltTy} (M : Memref sig .tc .vmem S2x256x2048 dt) (s : Fin 2) (v : S256x2048.Idx → Elt F dt) (k : Vec F S1x256x2048 dt → Pg F) :
    (owns (c : Thread nD τ) (slotM M s) fullShare v : sProp 𝕄)
      ⊢ iprop((owns (c : Thread nD τ) (slotM M s) fullShare v -∗ WP c (k (upE v)) Q) -∗ WP c (ldSlot M s k) Q) := by
  unfold owns
  iintro ⟨%f, %hf, H⟩ Hk
  iapply (wp_load_rect 𝒱₀ (c : Thread nD τ) none Set.univ (m := M) (r := row s) (S := (slotM M s).view.set) (f := f) (slot_set M s).symm.subset) $$ [H]
  · iexact H
  iintro H
  have he : upE v = (M.access (row s)).read (Elt F) f := by
    rw [← hf]; exact shapeCast_shapeCast ((M.access (row s)).read (Elt F) f) shapeCasts_S1x256x2048_S256x2048 shapeCasts_S256x2048_S1x256x2048
  rw [← he]
  iapply Hk
  iexists f
  isplitr; · ipureintro; exact hf
  iexact H

theorem st_slot (M : Memref sig .tc .vmem S2x256x2048 .bf16) (hM : M.IsWhole) (s : Fin 2) (v₀ : S256x2048.Idx → Elt F .bf16)
    (v : FVec F S256x2048 .bf16) (k : Pg F) :
    (owns (c : Thread nD τ) (slotM M s) fullShare v₀ : sProp 𝕄)
      ⊢ iprop((owns (c : Thread nD τ) (slotM M s) fullShare v -∗ WP c k Q) -∗ WP c (stSlot M hM s v k) Q) := by
  iintro H Hk
  iapply (ld_slot M s v₀) $$ H
  unfold owns
  iintro ⟨%f, %hf, H⟩
  iapply (wp_store 𝒱₀ (c : Thread nD τ) none Set.univ (m := M) (r := row s) (Mk := Finset.univ) (S := (slotM M s).view.set) (f := f) (slot_set M s).symm.subset) $$ [H]
  · iexact H
  iintro H
  iapply Hk
  iexists _
  isplitr
  swap; · iexact H
  ipureintro
  show shapeCast S256x2048 ((M.access (row s)).read (Elt F) ((M.access (row s)).write (Elt F) f (upE v) Finset.univ)) _ = v
  rw [View.read_write_univ]
  exact shapeCast_shapeCast v shapeCasts_S256x2048_S1x256x2048 shapeCasts_S1x256x2048_S256x2048

variable (o : Ops F)

/-- Device `c`'s operands in the kernel's own buffers. -/
def xw (c : Dev nD) : sProp 𝕄 :=
  iprop((xbM.view.loc (c : Thread nD τ) ↦[Finset.univ]{fullShare} (o.x c)) ∗ (wbM.view.loc (c : Thread nD τ) ↦[Finset.univ]{fullShare} (o.w c)))

theorem gemm (R : Fin 2 → ℕ) (hR : ∀ a, R a + S256x256.size a ≤ S4096x256.size a) (r : Fin 4) (k : FVec F S256x2048 .bf16 → Pg F) :
    xw o c ⊢ iprop((xw o c -∗ WP c (k (prod o c R hR r)) Q) -∗ WP c (gemmC R hR r k) Q) := by
  unfold xw
  iintro ⟨Hx, Hw⟩ Hk
  iapply (wp_load 𝒱₀ (c : Thread nD τ) none Set.univ (m := xbM) (Finset.subset_univ _)) $$ Hx
  iintro Hx
  iapply (wp_load 𝒱₀ (c : Thread nD τ) none Set.univ (m := wbM) (Finset.subset_univ _)) $$ Hw
  iintro Hw
  iapply Hk
  isplitl [Hx] <;> iassumption

theorem acc0 (r : Fin 4) (v₀ : S256x2048.Idx → Elt F .bf16) (k : Pg F) :
    iprop(xw o c ∗ owns (c : Thread nD τ) (slotM (accM r) 0) fullShare v₀)
      ⊢ iprop((xw o c -∗ owns (c : Thread nD τ) (slotM (accM r) 0) fullShare (accV o r 0 c) -∗ WP c k Q) -∗ WP c (acc0C c r k) Q) := by
  unfold acc0C
  iintro ⟨Hx, H⟩ Hk
  iapply (gemm o _ _ r) $$ Hx
  iintro Hx
  iapply (st_slot (accM r) (accW r) 0 v₀ (prod o c (k0_off1 c) (k0_off1_inb c) r)) $$ H
  iintro H
  iapply Hk $$ Hx
  iexact H

end Cert.Ring
-- ==== Proof.Proto.lean ====
/-
# Protocol commands of the ring all-reduce

Rules for the transfers, waits and signals of the body, under the shared facts `ctx`.
-/
module

public import proofs.«01_k».proof.Proof.Slots

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv)

variable {F : FTy → Type} [FloatOps F]

local notation "𝕄" => MT nD τ sig ℕ (Elt F) ℕ UU ℕ

variable (o : Ops F) (κ : Dev nD × Kind → ℕ) (ν : Key → ℕ)
variable {c : Dev nD} {Q : PUnit.{1} → sProp (MT nD τ sig ℕ (Elt F) ℕ UU ℕ)}

/-- What device `c` owes at place `n`, whatever it has waited for. -/
def Ow (c : Dev nD) (n : ℕ) : sProp 𝕄 := iprop(∃ W, owes (c : Thread nD τ) (owed c n) W)

omit [FloatOps F] in
theorem Ow_skip (c : Dev nD) {n n' : ℕ} (h : ∀ p, n ≤ ix p ↔ n' ≤ ix p) : (Ow c n : sProp 𝕄) ⊢ Ow c n' := by
  unfold Ow; rw [owed_skip c h]

/-- Device `c` is at the start of round `n` of its cell `k`. -/
def posn (c : Dev nD) (k : Kind) (n : ℕ) : sProp 𝕄 := iprop(atPos ER (cell c k) n ∅ 0 ∗ reached ER (cell c k) n)

/-- The units that device `c` waits for on its cell `k`, paid at place `i`. -/
abbrev crd (c : Dev nD) (k : Kind) (i : ℕ) : sProp 𝕄 := cred (tallyAt (cell c k) i (amo k))

theorem two_par (u : ℕ) : 2 * (u / 2) + (par u).val = u := by show 2 * (u / 2) + u % 2 = u; omega

set_option maxRecDepth 100000 in
/-- A device may wait for what is paid at a place it has passed. -/
theorem ctx_wait (c : Dev nD) (sm : SemLoc sig) {i n : ℕ} (hi : i < n) (hi' : i < 300) : ctx o κ ν ⊢ MayWait (c : Thread nD τ) sm i (owed c n) := by
  have h1 := ctx_lev o κ ν
  have h2 := mayWait (F := F) c sm hi hi'
  exact h1.trans h2

/-- A wait for a whole round of one duty. -/
theorem wait1 (k : Kind) (n : ℕ) (hd : dut c n k = {0}) (i m : ℕ) (hi : i < m) (hi' : i < 300)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (semOf k) (amo k) K)
    (kk : PUnit → Pg F) :
    iprop(ctx o κ ν ∗ posn c k n ∗ crd c k i ∗ Ow c m)
      ⊢ iprop(((posn c k (n + 1) ∗ pay o c n 0 k ∗ Ow c m) -∗ WP c (kk ⟨⟩) Q) -∗ WP c (.op w kk) Q) := by
  unfold posn Ow
  iintro ⟨#Hctx, ⟨Hat, -⟩, Hc, ⟨%W, HO⟩⟩ Hk
  iapply (Rounds.wp_wait_rest_token 𝒱₀ ER (Rd o) (c : Thread nD τ) none (κ := κ (c, k)) hw (Set.mem_univ _) i (O := owed c m) (W := W) (R := n) (m := 0) (T := ∅)
      (by rw [Nat.zero_add]; exact ((Rd_expect o c k n).trans (by rw [hd, Finset.card_singleton, Nat.one_mul])).symm)) $$ [Hc HO Hat]
  · isplitr; · iapply (ctx_cell o κ ν c k); iexact Hctx
    isplitl [Hc]; · iexact Hc
    isplitl [HO]; · iexact HO
    isplitr; · iapply (ctx_wait o κ ν c (semOf k) hi hi'); iexact Hctx
    iexact Hat
  iintro ⟨HO, Hat, Hr, Hpay⟩
  ihave Hp := (Entails.of_eq (Rd_rest o c k n hd)) $$ Hpay
  iapply Hk
  isplitl [Hat Hr]; · isplitl [Hat] <;> iassumption
  isplitl [Hp]; · iexact Hp
  iexists _; iexact HO

/-- What frees a neighbour's slot for message `u`, and the tokens to send it. -/
def toks (q : Fin 2) (r : Fin 4) (c : Dev nD) (u : ℕ) : sProp 𝕄 :=
  iprop(dutyTok ER (cell (nxt r c) (.rv q r (par u))) (u / 2) 0 ∗ dutyTok ER (cell c (.sd q r (par u))) (u / 2) 0
    ∗ writeTok ES ((nxt r c, .rv q r (par u)) : Key) (u / 2 + 1))

theorem dut_sd (q : Fin 2) (r : Fin 4) {u : ℕ} (hu : u < 15) : dut c (u / 2) (.sd q r (par u)) = {0} :=
  if_pos (by rw [two_par]; exact hu)
theorem dut_rv (q : Fin 2) (r : Fin 4) {u : ℕ} (hu : u < 15) : dut c (u / 2) (.rv q r (par u)) = {0} :=
  if_pos (by rw [two_par]; exact hu)

theorem pay_sd (q : Fin 2) (r : Fin 4) (u : ℕ) : pay o c (u / 2) 0 (.sd q r (par u)) = sdPay o q r u c := by
  show sdPay o q r (2 * (u / 2) + (par u).val) c = _; rw [two_par]
theorem pay_rv (q : Fin 2) (r : Fin 4) (u : ℕ) : pay o c (u / 2) 0 (.rv q r (par u)) = rvPay o q r u c := by
  show rvPay o q r (2 * (u / 2) + (par u).val) c = _; rw [two_par]

/-- Start message `u` of ring `r` in phase `q`. -/
theorem send_gen {dt : EltTy} (src dst : Memref sig .tc .vmem S256x2048 dt) (q : Fin 2) (r : Fin 4) {u : ℕ} (hu : u < 15)
    (X : S256x2048.Idx → Elt F dt) (G : sProp 𝕄)
    (hsd : (owns (c : Thread nD τ) src fullShare X : sProp 𝕄) ⊢ sdPay o q r u c)
    (hrv : iprop(owns ((nxt r c : Dev nD) : Thread nD τ) dst fullShare X ∗ G) ⊢ rvPay o q r u (nxt r c))
    (hsl : (slotOf ((nxt r c, .rv q r (par u)) : Key) : sProp 𝕄) ⊢ iprop(∃ v, owns ((nxt r c : Dev nD) : Thread nD τ) dst fullShare v))
    (hN : dst.view.dmaCredit = NM q) (sS sR : DmaSem sig) (hsS : semOf (.sd q r (par u)) = .dma sS) (hsR : semOf (.rv q r (par u)) = .dma sR)
    {hsc : dst.view.ref.isScScratch = false} {hsrc : src.view.WordExact} {hdst : dst.view.WordExact}
    {hsem : DmaTarget.Typed (nD := nD) (τ := τ) .vmem (.dma sR) (.remote (Dev.tc (nxt r c)) dst (.dma sS) hsc)} (k : PUnit → Pg F) :
    iprop(ctx o κ ν ∗ owns (c : Thread nD τ) src fullShare X ∗ G ∗ freeS (nxt r c, .rv q r (par u)) (u / 2) ∗ toks q r c u
        ∗ reached ER (cell c (.sd q r (par u))) (u / 2) ∗ Ow c (4 + 144 * q.val + 8 * u + 2 * r.val))
      ⊢ iprop(((crd c (.sd q r (par u)) 0 ∗ Ow c (4 + 144 * q.val + 8 * u + 2 * r.val + 1)) -∗ WP c (k ⟨⟩) Q)
        -∗ WP c (.op (.enqueueDma src (.remote (Dev.tc (nxt r c)) dst (.dma sS) hsc) (.dma sR) hsrc hdst hsem) k) Q) := by
  unfold freeS toks Ow owns crd
  iintro ⟨#Hctx, ⟨%f, %hf, Hsrc⟩, HG, ⟨#Hrel, #Hrv⟩, ⟨Htr, Hts, Hwt⟩, #Hrs, ⟨%W, HO⟩⟩ Hk
  imod (Release.slot_take ES (Set.mem_univ (ν (nxt r c, .rv q r (par u)))) (u / 2 + 1)) $$ [Hwt] with Hsl
  · isplitr; · iapply (ctx_slot o κ ν (nxt r c, .rv q r (par u))); iexact Hctx
    isplitr; · iexact Hrel
    iexact Hwt
  ihave Hsl := hsl $$ Hsl
  unfold owns
  icases Hsl with ⟨%v, %fd, -, Hdst⟩
  have ho : owed c (4 + 144 * q.val + 8 * u + 2 * r.val) = owed c (4 + 144 * q.val + 8 * u + 2 * r.val + 1)
      + tallyAt ((((nxt r c : Dev nD) : Thread nD τ)), SemLoc.dma sR) (4 + 144 * q.val + 8 * u + 2 * r.val) (NM q) := by
    rw [← hsR]; exact owed_pop c (.st q r ⟨u, hu⟩)
  have e1 : cell c (.sd q r (par u)) = ((c : Thread nD τ), SemLoc.dma sS) := by rw [← hsS]
  have e2 : cell (nxt r c) (.rv q r (par u)) = (((nxt r c : Dev nD) : Thread nD τ), SemLoc.dma sR) := by rw [← hsR]
  rw [e1, e2]
  iapply (Rounds.wp_send_pointsTo_with 𝒱₀ ER (Rd o) (c : Thread nD τ) none (c' := ((nxt r c : Dev nD) : Thread nD τ)) (src := src) (dst := dst)
      (κ₁ := κ (c, .sd q r (par u))) (κ₂ := κ (nxt r c, .rv q r (par u))) (r₁ := u / 2) (r₂ := u / 2) (d₁ := 0) (d₂ := 0) (fd := fd) (F := G)
      (by rw [← e1, Rd_duties, dut_sd q r hu]; exact Finset.mem_singleton_self _)
      (by rw [← e2, Rd_duties, dut_rv q r hu]; exact Finset.mem_singleton_self _)
      (4 + 144 * q.val + 8 * u + 2 * r.val) 0 (NM q) (show dst.view.amount (.dma sR) = NM q from hN) (by rw [← e1, Rd_amount]; rfl) (by rw [← e2, Rd_amount]; rfl)
      (owed c (4 + 144 * q.val + 8 * u + 2 * r.val + 1)) ho (W := W)
      (by
        rw [← e1, Rd_payload, pay_sd]
        refine BIBase.Entails.trans ?_ hsd
        unfold owns; iintro H; iexists f; isplitr; · ipureintro; exact hf
        iexact H)
      (by
        rw [← e2, Rd_payload, pay_rv]
        refine BIBase.Entails.trans ?_ hrv
        unfold owns; iintro ⟨H, HG⟩
        isplitl [H]
        · iexists _
          isplitr
          swap; · iexact H
          ipureintro; rw [View.read_write_univ]; exact hf
        iexact HG)) $$ [Hsrc HG Htr Hts HO Hdst]
  · rw [← e1, ← e2]
    isplitr; · iapply (ctx_cell o κ ν c (.sd q r (par u))); iexact Hctx
    isplitr; · iapply (ctx_cell o κ ν (nxt r c) (.rv q r (par u))); iexact Hctx
    isplitl [Hsrc]; · iexact Hsrc
    isplitl [Hdst HG]; · isplitl [Hdst] <;> iassumption
    isplitl [HO]; · iexact HO
    isplitl [Hts]; · iexact Hts
    isplitr; · iexact Hrs
    isplitl [Htr]; · iexact Htr
    iexact Hrv
  iintro ⟨Hc, HO⟩
  iapply Hk
  isplitl [Hc]; · iexact Hc
  iexists W; iexact HO

/-- Start message `u` of the reduce-scatter. -/
theorem rsStart (r : Fin 4) {u : ℕ} (hu : u < 15) (k : Pg F) :
    iprop(ctx o κ ν ∗ owns (c : Thread nD τ) (slotM (accM r) (par u)) fullShare (accV o r u c) ∗ (amFree c ∗ hrd r u c)
        ∗ freeS (nxt r c, .rv 0 r (par u)) (u / 2) ∗ toks 0 r c u
        ∗ reached ER (cell c (.sd 0 r (par u))) (u / 2) ∗ Ow c (4 + 8 * u + 2 * r.val))
      ⊢ iprop(((crd c (.sd 0 r (par u)) 0 ∗ Ow c (5 + 8 * u + 2 * r.val)) -∗ WP c k Q) -∗ WP c (rsStartC c r u k) Q) := by
  unfold rsStartC
  have h := send_gen (Q := Q) o κ ν (slotM (accM r) (par u)) (slotM (rcvM r) (par u)) 0 r hu (accV o r u c) iprop(amFree c ∗ hrd r u c)
    (by unfold sdPay; rw [if_pos rfl])
    (by unfold rvPay; rw [if_pos rfl, hrd, prv_nxt])
    (by unfold slotOf; exact Entails.of_eq (if_pos rfl)) (rcv_amount r _) (dsem (rsS r) (par u)) (dsem (rsR r) (par u)) (by rfl) (by rfl)
    (hsc := ?_) (hsrc := ?_) (hdst := ?_) (hsem := ?_) (k := fun _ => k)
  rw [show 5 + 8 * u + 2 * r.val = 4 + 144 * (0 : Fin 2).val + 8 * u + 2 * r.val + 1 by simp; omega,
    show 4 + 8 * u + 2 * r.val = 4 + 144 * (0 : Fin 2).val + 8 * u + 2 * r.val by simp]
  exact h

end Cert.Ring
-- ==== Proof.Credits.lean ====
/-
# Credits of the ring all-reduce

The all-gather's sends, and the credits: a unit paid after a slot is free, and the wait for one.
-/
module

public import proofs.«01_k».proof.Proof.Proto

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv)

variable {F : FTy → Type} [FloatOps F]

local notation "𝕄" => MT nD τ sig ℕ (Elt F) ℕ UU ℕ

variable (o : Ops F) (κ : Dev nD × Kind → ℕ) (ν : Key → ℕ)
variable {c : Dev nD} {Q : PUnit.{1} → sProp (MT nD τ sig ℕ (Elt F) ℕ UU ℕ)}

/-- Start message `t` of the all-gather. -/
theorem agStart (r : Fin 4) {t : ℕ} (ht : t < 15) (k : Pg F) :
    iprop(ctx o κ ν ∗ owns (c : Thread nD τ) (agSrc r t) fullShare (quV o r t c)
        ∗ freeS (nxt r c, .rv 1 r (par t)) (t / 2) ∗ toks 1 r c t
        ∗ reached ER (cell c (.sd 1 r (par t))) (t / 2) ∗ Ow c (148 + 8 * t + 2 * r.val))
      ⊢ iprop(((crd c (.sd 1 r (par t)) 0 ∗ Ow c (149 + 8 * t + 2 * r.val)) -∗ WP c k Q) -∗ WP c (agStartC c r t k) Q) := by
  unfold agStartC
  rw [show 149 + 8 * t + 2 * r.val = 4 + 144 * (1 : Fin 2).val + 8 * t + 2 * r.val + 1 by simp; omega,
    show 148 + 8 * t + 2 * r.val = 4 + 144 * (1 : Fin 2).val + 8 * t + 2 * r.val by simp]
  refine BIBase.Entails.trans ?_ (send_gen (Q := Q) o κ ν (agSrc r t) (slotM (qrcM r) (par t)) 1 r ht (quV o r t c) iprop(emp)
    (by unfold sdPay; rw [if_neg (by decide)])
    (by unfold rvPay; rw [if_neg (by decide), prv_nxt]; iintro ⟨H, -⟩; iexact H)
    (by unfold slotOf; exact Entails.of_eq (if_neg (by decide))) (qrc_amount r _) (dsem (agS r) (par t)) (dsem (agR r) (par t)) (by rfl) (by rfl) (fun _ => k))
  iintro ⟨#H1, H2, H3⟩
  isplitr; · iexact H1
  isplitl [H2]; · iexact H2
  isplitr; · iempintro
  iexact H3

omit [FloatOps F] in
theorem freeS_mono (e : Key) {k k' : ℕ} (h : k ≤ k') : (freeS e k' : sProp 𝕄) ⊢ freeS e k := by
  unfold freeS
  iintro ⟨H1, H2⟩
  isplitl [H1]
  · iapply (Release.released_mono ES (show k + 1 ≤ k' + 1 by omega)); iexact H1
  · iapply (Rounds.reached_mono ER h); iexact H2

omit [FloatOps F] in
/-- A slot freed for all messages up to `n + 1` is free for message `v`. -/
theorem relAt_go (q : Fin 2) (r : Fin 4) (e : Dev nD) {n v : ℕ} (h : v ≤ n + 1) : (relAt q r e n : sProp 𝕄) ⊢ freeS (e, .rv q r (par v)) (v / 2) := by
  unfold relAt two
  by_cases hp : par v = par n
  · rw [hp]; iintro ⟨H, -⟩; iapply (freeS_mono _ (show v / 2 ≤ n / 2 by have : v % 2 = n % 2 := congrArg Fin.val hp; omega)); iexact H
  · have hp' : par v = par (n + 1) := Fin.ext (by
      show v % 2 = (n + 1) % 2
      have : ¬ v % 2 = n % 2 := fun h => hp (Fin.ext h)
      omega)
    rw [hp']; iintro ⟨-, H⟩; iapply (freeS_mono _ (show v / 2 ≤ (n + 1) / 2 by omega)); iexact H

/-- The semaphore of the credits of ring `r` in phase `q`. -/
abbrev crSem (q : Fin 2) (r : Fin 4) : Sem sig := if q = 0 then (crS r).sem else (cqS r).sem

/-- Pay credit `j`. -/
theorem cred_pay (q : Fin 2) (r : Fin 4) {j : ℕ} (hj : j < 13) (k : Pg F) :
    iprop(ctx o κ ν ∗ dutyTok ER (cell (prv r c) (.cr q r)) 0 j ∗ relAt q r c (j + 1) ∗ Ow c (3 + 144 * q.val + 8 * (j + 1 + q.val) + 2 * r.val))
      ⊢ iprop((Ow c (4 + 144 * q.val + 8 * (j + 1 + q.val) + 2 * r.val) -∗ WP c k Q) -∗ WP c (sigC (prv r c) (crSem q r) k) Q) := by
  unfold sigC Ow
  simp only [semSignalWord, Prog.lift, Prog.bind_op, Prog.bind_ret]
  iintro ⟨#Hctx, Ht, Hrel, ⟨%W, HO⟩⟩ Hk
  have ho : owed c (3 + 144 * q.val + 8 * (j + 1 + q.val) + 2 * r.val) = owed c (4 + 144 * q.val + 8 * (j + 1 + q.val) + 2 * r.val)
      + tallyAt ((((prv r c : Dev nD) : Thread nD τ)), SemLoc.reg (crSem q r)) (3 + 144 * q.val + 8 * (j + 1 + q.val) + 2 * r.val) 1 := by
    rw [show 4 + 144 * q.val + 8 * (j + 1 + q.val) + 2 * r.val = (3 + 144 * q.val + 8 * (j + 1 + q.val) + 2 * r.val) + 1 by omega]
    exact owed_pop c (.cr q r ⟨j, hj⟩)
  have hp : (Rd o).payload (((prv r c : Dev nD) : Thread nD τ), SemLoc.reg (crSem q r)) 0 j = relAt q r c (j + 1) :=
    (Rd_payload o (prv r c) (.cr q r) 0 j).trans (by show relAt q r (nxt r (prv r c)) (j + 1) = _; rw [nxt_prv])
  iapply (Rounds.wp_signal 𝒱₀ ER (Rd o) (c : Thread nD τ) none (dst := ((prv r c : Dev nD) : Thread nD τ)) (sem := crSem q r)
      (κ := κ (prv r c, .cr q r)) (r := 0) (d := j) (k' := (1#32).toInt.toNat)
      (by show j ∈ (Rd o).duties (cell (prv r c) (.cr q r)) 0; rw [Rd_duties]; exact Finset.mem_range.mpr hj)
      (Rd_amount o (prv r c) (.cr q r) 0 j) _ _ ho (W := W)) $$ [Ht Hrel HO]
  · isplitr; · iapply (ctx_cell o κ ν (prv r c) (.cr q r)); iexact Hctx
    isplitl [HO]; · iexact HO
    isplitl [Ht]; · iexact Ht
    isplitl [Hrel]
    · iapply (Entails.of_eq hp.symm)
      iexact Hrel
    iapply (ctx_reached o κ ν (prv r c) (.cr q r)); iexact Hctx
  iintro HO
  iapply Hk
  iexists W; iexact HO

/-- Where device `c` is among the credits of a ring after `m` units. -/
def cwt (q : Fin 2) (r : Fin 4) (c : Dev nD) (m : ℕ) : sProp 𝕄 :=
  iprop(∃ S : Finset ℕ, ⌜S ⊆ Finset.range 13 ∧ m + (Finset.range 13 \ S).card ≤ 13⌝
    ∗ atPos ER (cell c (.cr q r)) 0 S m ∗ bigSep S (fun d => relAt q r (nxt r c) (d + 1)))

omit [FloatOps F] in
theorem join_union {I : Type} [DecidableEq I] (P : I → sProp 𝕄) (S T : Finset I) : iprop(bigSep S P ∗ bigSep T P) ⊢ bigSep (S ∪ T) P := bigSep_sep_union S T
omit [FloatOps F] in
theorem at_mem {I : Type} [DecidableEq I] (P : I → sProp 𝕄) {S : Finset I} {i : I} (h : i ∈ S) : bigSep S P ⊢ P i := bigSep_elim h

/-- Wait for one more unit. -/
theorem cred_wait (q : Fin 2) (r : Fin 4) {m i n : ℕ} (hi : i < n) (hi' : i < 300) (k : Pg F) :
    iprop(ctx o κ ν ∗ cwt q r c m ∗ crd c (.cr q r) i ∗ Ow c n)
      ⊢ iprop(((cwt q r c (m + 1) ∗ freeS (nxt r c, .rv q r (par (m + 2))) ((m + 2) / 2) ∗ Ow c n) -∗ WP c k Q)
        -∗ WP c (waitC (crSem q r) 1#32 k) Q) := by
  unfold waitC Ow
  simp only [semWaitWord, Prog.lift, Prog.bind_op, Prog.bind_ret]
  unfold cwt
  iintro ⟨#Hctx, ⟨%T, %hT, Hat, #Hrels⟩, Hc, ⟨%W, HO⟩⟩ Hk
  have hex : (Rd o).expect (cell c (.cr q r)) 0 = 13 := Rd_expect o c (.cr q r) 0
  have hdu : (Rd o).duties (cell c (.cr q r)) 0 = Finset.range 13 := Rd_duties o c (.cr q r) 0
  iapply (Rounds.wp_wait 𝒱₀ ER (Rd o) (c : Thread nD τ) none (κ := κ (c, .cr q r)) (wpE_semWait_eq 𝒱₀ (c : Thread nD τ) none Set.univ) (Set.mem_univ _)
      (k' := 1) (cr := Finsupp.single i 1) (O := owed c n) (W := W) {(SemLoc.reg (crSem q r), i)} (R := 0) (m := m) (T := T)
      (by rw [Util.total_single]) (image_single_subset _ i 1)) $$ [Hc HO Hat]
  · isplitr; · iapply (ctx_cell o κ ν c (.cr q r)); iexact Hctx
    isplitl [Hc]; · iexact Hc
    isplitl [HO]; · iexact HO
    isplitr; · iapply (ctx_wait o κ ν c (.reg (crSem q r)) hi hi'); iexact Hctx
    iexact Hat
  iintro %S ⟨%hS, HO, Hat, Hp⟩
  have hS1 : T ⊆ S := hS.1
  have hS2 : S ⊆ Finset.range 13 := hdu ▸ hS.2.1
  have hS3 : m + 1 + (Finset.range 13 \ S).card ≤ 13 := by
    have h : m + 1 + ((Rd o).duties (cell c (.cr q r)) 0 \ S).card ≤ (Rd o).expect (cell c (.cr q r)) 0 := hS.2.2
    rw [hex, hdu] at h; exact h
  have hp : bigSep (S \ T) (fun d => (Rd o).payload ((c : Thread nD τ), SemLoc.reg (crSem q r)) 0 d) = (bigSep (S \ T) (fun d => relAt q r (nxt r c) (d + 1)) : sProp 𝕄) :=
    congrArg _ (funext fun d => Rd_payload o c (.cr q r) 0 d)
  ihave Hp := (Entails.of_eq hp) $$ Hp
  ihave #Hall := (join_union (fun d => (relAt q r (nxt r c) (d + 1) : sProp 𝕄)) (S \ T) T) $$ [Hp]
  · isplitl [Hp]; · iexact Hp
    iexact Hrels
  rw [Finset.sdiff_union_of_subset hS1]
  obtain ⟨j, hj, hjm⟩ : ∃ j ∈ S, m ≤ j := by
    by_contra hc
    have h1 : S ⊆ Finset.range m := fun j hj => Finset.mem_range.mpr (by by_contra hlt; exact hc ⟨j, hj, by omega⟩)
    have h2 := Finset.card_le_card h1
    rw [Finset.card_range] at h2
    have h3 := Finset.card_sdiff_add_card_eq_card hS2
    rw [Finset.card_range] at h3
    omega
  iapply Hk
  isplitl [Hat]
  · iexists S
    isplitr; · ipureintro; exact ⟨hS2, hS3⟩
    isplitl [Hat]; · iexact Hat
    iexact Hall
  isplitr
  · iapply (relAt_go q r (nxt r c) (show m + 2 ≤ j + 1 + 1 by omega))
    iapply (at_mem (fun d => (relAt q r (nxt r c) (d + 1) : sProp 𝕄)) hj)
    iexact Hall
  iexists _; iexact HO

end Cert.Ring
-- ==== Proof.Rs.lean ====
/-
# The reduce-scatter of the ring all-reduce

What a device holds before a step of the reduce-scatter on a ring, and the step.
-/
module

public import proofs.«01_k».proof.Proof.Credits
public import Idealize.SL.BI.BigOpNat

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv)

variable {F : FTy → Type} [FloatOps F]

local notation "𝕄" => MT nD τ sig ℕ (Elt F) ℕ UU ℕ

variable (o : Ops F) (κ : Dev nD × Kind → ℕ) (ν : Key → ℕ)
variable {c : Dev nD} {Q : PUnit.{1} → sProp (MT nD τ sig ℕ (Elt F) ℕ UU ℕ)}

/-- The reader's count of a slot of device `c`, `k + 1` times released. -/
def rdr (c : Dev nD) (k : Kind) (n : ℕ) : sProp 𝕄 := iprop(readerAt ES ((c, k) : Key) (n + 1) ∗ released ES ((c, k) : Key) (n + 1))

/-- Where device `c` is on the cells of ring `r` in phase `q` before message `u`. -/
def poss (q : Fin 2) (r : Fin 4) (c : Dev nD) (u : ℕ) : sProp 𝕄 :=
  two (fun s k => iprop(posn c (.sd q r s) k ∗ posn c (.rv q r s) k)) u

/-- The credits of a ring: those still to pay from `j`, those still to come from `i`. -/
def creds (q : Fin 2) (r : Fin 4) (c : Dev nD) (j i : ℕ) : sProp 𝕄 :=
  iprop(bigSep (Finset.Ico j 13) (fun j => dutyTok ER (cell (prv r c) (.cr q r)) 0 j)
    ∗ bigSep (Finset.Ico i 13) (fun i => crd c (.cr q r) (3 + 144 * q.val + 8 * (i + 1 + q.val) + 2 * r.val)) ∗ cwt q r c (min i 13))

/-- The messages of a ring still to send from `u`, and those still to come from `v`. -/
def msgs (q : Fin 2) (r : Fin 4) (c : Dev nD) (u v : ℕ) : sProp 𝕄 :=
  iprop(bigSep (Finset.Ico u 15) (toks q r c)
    ∗ bigSep (Finset.Ico v 15) (fun v => crd c (.rv q r (par v)) (4 + 144 * q.val + 8 * v + 2 * r.val)))

omit [FloatOps F] in
theorem ico_pop (P : ℕ → sProp 𝕄) {a b : ℕ} (h : a < b) : bigSep (Finset.Ico a b) P ⊢ iprop(P a ∗ bigSep (Finset.Ico (a + 1) b) P) :=
  Entails.of_eq (bigSep_Ico_succ_bot h P)
omit [FloatOps F] in
theorem ico_skip (P : ℕ → sProp 𝕄) {a a' b : ℕ} (h : b ≤ a) (h' : b ≤ a') : (bigSep (Finset.Ico a b) P : sProp 𝕄) ⊢ bigSep (Finset.Ico a' b) P := by
  rw [Finset.Ico_eq_empty_of_le h, Finset.Ico_eq_empty_of_le h']

/-- Something in a slot. -/
abbrev any {dt : EltTy} {sp : Space} {sh : Shape} (c : Dev nD) (m : Memref sig .tc sp sh dt) : sProp 𝕄 := iprop(∃ v, owns (c : Thread nD τ) m fullShare v)

/-- The landing slots of the reduce-scatter before message `u`: both free for the ring's neighbour, until the last two. -/
def rsRdr (r : Fin 4) (c : Dev nD) (u : ℕ) : sProp 𝕄 :=
  if u ≤ 13 then two (fun s k => rdr c (.rv 0 r s) k) u
  else if u = 14 then any c (slotM (rcvM r) 1) else iprop(any c (slotM (rcvM r) 0) ∗ any c (slotM (rcvM r) 1))

/-- The accumulators while message `u` is under way. -/
def rsAcc (r : Fin 4) (c : Dev nD) (u : ℕ) : sProp 𝕄 :=
  if u < 15 then iprop(crd c (.sd 0 r (par u)) 0 ∗ any c (slotM (accM r) (par (u + 1))))
  else iprop(owns (c : Thread nD τ) (slotM (accM r) 1) fullShare (accV o r 15 c) ∗ any c (slotM (accM r) 0))

/-- What device `c` holds of ring `r` before step `u` of the reduce-scatter. -/
def rsI (c : Dev nD) (u : ℕ) (r : Fin 4) : sProp 𝕄 :=
  iprop(poss 0 r c u ∗ rsRdr r c u ∗ rsAcc o r c u ∗ msgs 0 r c (u + 1) u ∗ creds 0 r c u (u - 1) ∗ hrd r u c)

omit [FloatOps F] in
theorem rv_slot_false (q : Fin 2) (r : Fin 4) (s : Fin 2) : iprop(slotOf ((c, .rv q r s) : Key) ∗ slotOf ((c, .rv q r s) : Key)) ⊢ (False : sProp 𝕄) := by
  have h0 : ∀ {dt : EltTy} (m : Memref sig .tc .vmem S256x2048 dt), iprop(any c m ∗ any c m) ⊢ (False : sProp 𝕄) := by
    intro dt m
    obtain ⟨j, hj⟩ : (m.view.set : Finset (Idx (m.view.loc (c : Thread nD τ)))).Nonempty :=
      ⟨_, m.view.emb_mem_set (fun a => ⟨0, by fin_cases a <;> decide⟩)⟩
    unfold any owns
    iintro ⟨⟨%v, %f, -, Hf⟩, ⟨%w, %g, -, Hg⟩⟩
    iapply (pointsTo_overlap_false (ℓ := m.view.loc (c : Thread nD τ)) (I := m.view.set) (J := m.view.set) (q := fullShare) (f := f) (g := g) hj hj)
    isplitl [Hf] <;> iassumption
  unfold slotOf
  by_cases hq : q = 0
  · simp only [if_pos hq]; exact h0 _
  · simp only [if_neg hq]; exact h0 _

omit [FloatOps F] in
theorem slot0 (r : Fin 4) (s : Fin 2) : (slotOf ((c, .rv 0 r s) : Key) : sProp 𝕄) = any c (slotM (rcvM r) s) := by unfold slotOf; exact if_pos rfl
omit [FloatOps F] in
theorem slot1 (r : Fin 4) (s : Fin 2) : (slotOf ((c, .rv 1 r s) : Key) : sProp 𝕄) = any c (slotM (qrcM r) s) := by unfold slotOf; exact if_neg (by decide)

/-- Free the slot of message `u`. -/
theorem rv_release (q : Fin 2) (r : Fin 4) (s : Fin 2) (n : ℕ) :
    iprop(ctx o κ ν ∗ rdr c (.rv q r s) n ∗ slotOf ((c, .rv q r s) : Key)) ⊢ iprop(|={Set.univ}=> rdr c (.rv q r s) (n + 1)) := by
  unfold rdr
  iintro ⟨#Hctx, ⟨Hr, -⟩, Hs⟩
  iapply (Release.slot_release ES (Set.mem_univ (ν (c, .rv q r s))) (rv_slot_false q r s) (n + 1))
  isplitr; · iapply (ctx_slot o κ ν (c, .rv q r s)); iexact Hctx
  isplitl [Hr] <;> iassumption

omit [FloatOps F] in
/-- What a credit carries. -/
theorem relAt_intro (q : Fin 2) (r : Fin 4) (n : ℕ) :
    iprop(poss q r c n ∗ two (fun s k => rdr c (.rv q r s) k) n) ⊢ iprop(relAt q r c n : sProp 𝕄) := by
  unfold poss relAt two freeS rdr posn
  iintro ⟨⟨⟨-, -, #H1⟩, -, -, #H2⟩, ⟨-, #H3⟩, -, #H4⟩
  isplitr
  · isplitr; · iexact H3
    iexact H1
  · isplitr; · iexact H4
    iexact H2

theorem prod_congr (r : Fin 4) {u v : Fin 15} (h : u = v) : prod o c (xOff r u c) (xOff_inb r u c) r = prod o c (xOff r v c) (xOff_inb r v c) r := by subst h; rfl
theorem accV_succ (r : Fin 4) (u : Fin 15) :
    accV o r (u.val + 1) c = addf (accV o r u.val (prv r c)) (prod o c (xOff r u c) (xOff_inb r u c) r) :=
  congrArg (addf (accV o r u.val (prv r c))) (prod_congr o r (Fin.ext (Nat.mod_eq_of_lt u.isLt)))

/-- Message `u` arrives, the own product is added. -/
theorem rsRecv (r : Fin 4) {u : Fin 15} (k : Pg F) :
    iprop(ctx o κ ν ∗ xw o c ∗ poss 0 r c u.val ∗ rsAcc o r c u.val ∗ crd c (.rv 0 r (par u.val)) (4 + 8 * u.val + 2 * r.val)
        ∗ Ow c (11 + 8 * u.val + 2 * r.val))
      ⊢ iprop(((xw o c ∗ poss 0 r c (u.val + 1) ∗ any c (slotM (accM r) (par u.val)) ∗ owns (c : Thread nD τ) (slotM (accM r) (par (u.val + 1))) fullShare (accV o r (u.val + 1) c)
          ∗ slotOf ((c, .rv 0 r (par u.val)) : Key) ∗ hrd r (u.val + 1) c ∗ Ow c (11 + 8 * u.val + 2 * r.val)) -∗ WP c k Q) -∗ WP c (rsRecvC c r u k) Q) := by
  unfold rsRecvC poss rsAcc
  rw [if_pos u.isLt, two_succ]
  unfold two
  iintro ⟨#Hctx, Hx, ⟨⟨HpS, HpR⟩, Hp2⟩, ⟨HcS, ⟨%v0, Hacc⟩⟩, HcR, HO⟩ Hk
  iapply (gemm o _ _ r) $$ Hx
  iintro Hx
  iapply (wait1 o κ ν (.sd 0 r (par u.val)) (u.val / 2) (dut_sd 0 r u.isLt) 0 (11 + 8 * u.val + 2 * r.val) (by omega) (by omega)
    (fun K => (wpE_waitDma2_eq 𝒱₀ (c : Thread nD τ) none Set.univ K).trans (by rw [acc_amount]; rfl))) $$ [HpS HcS HO]
  · isplitr; · iexact Hctx
    isplitl [HpS]; · iexact HpS
    isplitl [HcS]; · iexact HcS
    iexact HO
  iintro ⟨HpS, Hs, HO⟩
  iapply (wait1 o κ ν (.rv 0 r (par u.val)) (u.val / 2) (dut_rv 0 r u.isLt) (4 + 8 * u.val + 2 * r.val) (11 + 8 * u.val + 2 * r.val) (by omega) (by omega)
    (fun K => (wpE_waitDma2_eq 𝒱₀ (c : Thread nD τ) none Set.univ K).trans (by rw [rcv_amount]; rfl))) $$ [HpR HcR HO]
  · isplitr; · iexact Hctx
    isplitl [HpR]; · iexact HpR
    isplitl [HcR]; · iexact HcR
    iexact HO
  iintro ⟨HpR, Hv, HO⟩
  ihave Hs := (Entails.of_eq ((pay_sd o 0 r u.val).trans (if_pos rfl))) $$ Hs
  ihave Hv := (Entails.of_eq ((pay_rv o 0 r u.val).trans (if_pos rfl))) $$ Hv
  icases Hv with ⟨Hv, #Hh⟩
  iapply (ld_slot (rcvM r) (par u.val) (accV o r u.val (prv r c))) $$ Hv
  iintro Hv
  rw [shapeCast_shapeCast]
  rw [← accV_succ o r u]
  iapply (st_slot (accM r) (accW r) (par (u.val + 1)) v0 (accV o r (u.val + 1) c) k) $$ Hacc
  iintro Hacc
  iapply Hk
  isplitl [Hx]; · iexact Hx
  isplitl [HpS HpR Hp2]
  · isplitl [Hp2]; · iexact Hp2
    isplitl [HpS] <;> iassumption
  isplitl [Hs]; · iexists _; iexact Hs
  isplitl [Hacc]; · iexact Hacc
  isplitl [Hv]; · iapply (Entails.of_eq (slot0 r (par u.val)).symm); iexists _; iexact Hv
  isplitr; · iexact Hh
  iexact HO

omit [FloatOps F] in
theorem rsRdr13 (r : Fin 4) {u : ℕ} (e : u = 13) : (any c (slotM (rcvM r) (par u)) : sProp 𝕄) ⊢ rsRdr r c (u + 1) := by
  subst e; unfold rsRdr; rw [if_neg (by decide), if_pos rfl]; exact BIBase.Entails.rfl
omit [FloatOps F] in
theorem rsRdr14 (r : Fin 4) {u : ℕ} (e : u = 14) : iprop(any c (slotM (rcvM r) (par u)) ∗ rsRdr r c u) ⊢ (rsRdr r c (u + 1) : sProp 𝕄) := by
  subst e; unfold rsRdr; rw [if_neg (by decide), if_pos rfl, if_neg (by decide), if_neg (by decide)]; exact BIBase.Entails.rfl
theorem rsAcc_start (r : Fin 4) {u : ℕ} (h : u + 1 < 15) :
    iprop(crd c (.sd 0 r (par (u + 1))) 0 ∗ any c (slotM (accM r) (par u))) ⊢ rsAcc o r c (u + 1) := by
  unfold rsAcc; rw [if_pos h, show par (u + 1 + 1) = par u from par_add_two u]
omit [FloatOps F] in
/-- The round of message `u` is open. -/
theorem poss_reached (q : Fin 2) (r : Fin 4) (u : ℕ) : (poss q r c u : sProp 𝕄) ⊢ reached ER (cell c (.sd q r (par u))) (u / 2) := by
  unfold poss two posn
  iintro ⟨⟨⟨-, H⟩, -⟩, -⟩
  iexact H
theorem rsAcc14 (r : Fin 4) {u : ℕ} (e : u = 14) :
    iprop(owns (c : Thread nD τ) (slotM (accM r) (par (u + 1))) fullShare (accV o r (u + 1) c) ∗ any c (slotM (accM r) (par u))) ⊢ rsAcc o r c (u + 1) := by
  subst e; unfold rsAcc; rw [if_neg (by decide)]; exact BIBase.Entails.rfl

/-- The landing slot of message `u` freed and the credit paid, except after the last two messages. -/
theorem rsCred (r : Fin 4) (u : Fin 15) (i : ℕ) (k : Pg F) :
    iprop(ctx o κ ν ∗ poss 0 r c (u.val + 1) ∗ rsRdr r c u.val ∗ slotOf ((c, .rv 0 r (par u.val)) : Key) ∗ creds 0 r c u.val i ∗ Ow c (11 + 8 * u.val + 2 * r.val))
      ⊢ iprop(((poss 0 r c (u.val + 1) ∗ rsRdr r c (u.val + 1) ∗ creds 0 r c (u.val + 1) i ∗ Ow c (12 + 8 * u.val + 2 * r.val)) -∗ WP c k Q)
        -∗ WP c ((if u.val ≤ 12 then credC c r else id) k) Q) := by
  have hu := u.isLt
  unfold creds
  iintro ⟨#Hctx, Hp, Hr, Hs, ⟨Ht, Hc⟩, HO⟩ Hk
  by_cases h : u.val ≤ 12
  · rw [if_pos h]
    ihave Hr := (Entails.of_eq (show rsRdr r c u.val = (two (fun s k => rdr c (.rv 0 r s) k) u.val : sProp 𝕄) from if_pos (by omega))) $$ Hr
    unfold two
    icases Hr with ⟨Hr, Hr2⟩
    imod (rv_release o κ ν 0 r (par u.val) (u.val / 2)) $$ [Hr Hs] with Hr
    · isplitr; · iexact Hctx
      isplitl [Hr] <;> iassumption
    ihave Hr := (Entails.of_eq (two_succ (fun s k => (rdr c (.rv 0 r s) k : sProp 𝕄)) u.val).symm) $$ [Hr Hr2]
    · isplitl [Hr2] <;> iassumption
    ihave H := (persistent_entails_right (relAt_intro (c := c) (F := F) 0 r (u.val + 1))) $$ [Hp Hr]
    · isplitl [Hp] <;> iassumption
    icases H with ⟨#Hrel, Hp, Hr⟩
    ihave Ht := (ico_pop _ (show u.val < 13 by omega)) $$ Ht
    icases Ht with ⟨Ht1, Ht⟩
    unfold credC
    iapply (cred_pay o κ ν 0 r (show u.val < 13 by omega) k) $$ [Ht1 HO]
    · isplitr; · iexact Hctx
      isplitl [Ht1]; · iexact Ht1
      isplitr; · iexact Hrel
      iapply (Entails.of_eq (congrArg (Ow c) (show 11 + 8 * u.val + 2 * r.val = 3 + 144 * (0 : Fin 2).val + 8 * (u.val + 1 + (0 : Fin 2).val) + 2 * r.val by simp; omega)))
      iexact HO
    iintro HO
    iapply Hk
    isplitl [Hp]; · iexact Hp
    isplitl [Hr]; · unfold rsRdr; rw [if_pos (show u.val + 1 ≤ 13 by omega)]; iexact Hr
    isplitl [Ht Hc]; · isplitl [Ht] <;> iassumption
    iapply (Entails.of_eq (congrArg (Ow c) (show 4 + 144 * (0 : Fin 2).val + 8 * (u.val + 1 + (0 : Fin 2).val) + 2 * r.val = 12 + 8 * u.val + 2 * r.val by simp; omega)))
    iexact HO
  · rw [if_neg h]
    iapply Hk
    isplitl [Hp]; · iexact Hp
    isplitl [Hr Hs]
    · ihave Hs := (Entails.of_eq (slot0 r (par u.val))) $$ Hs
      rcases (show u.val = 13 ∨ u.val = 14 by omega) with e | e
      · iapply (rsRdr13 r e); iexact Hs
      · iapply (rsRdr14 r e); isplitl [Hs] <;> iassumption
    isplitl [Ht Hc]
    · isplitl [Ht]
      · iapply (ico_skip _ (show 13 ≤ u.val by omega) (show 13 ≤ u.val + 1 by omega)); iexact Ht
      · iexact Hc
    iapply (Ow_skip c (n := 11 + 8 * u.val + 2 * r.val) (fun p => by cases p <;> simp only [ix] <;> omega)); iexact HO

/-- The next message started, its credit waited for before, unless it was the last. -/
theorem rsNext (r : Fin 4) (u : Fin 15) (k : Pg F) :
    iprop(ctx o κ ν ∗ amFree c ∗ relAt 0 r (nxt r c) 0 ∗ poss 0 r c (u.val + 1) ∗ any c (slotM (accM r) (par u.val)) ∗ owns (c : Thread nD τ) (slotM (accM r) (par (u.val + 1))) fullShare (accV o r (u.val + 1) c)
        ∗ bigSep (Finset.Ico (u.val + 1) 15) (toks 0 r c) ∗ creds 0 r c (u.val + 1) (u.val - 1) ∗ hrd r (u.val + 1) c ∗ Ow c (12 + 8 * u.val + 2 * r.val))
      ⊢ iprop(((poss 0 r c (u.val + 1) ∗ rsAcc o r c (u.val + 1) ∗ bigSep (Finset.Ico (u.val + 2) 15) (toks 0 r c) ∗ creds 0 r c (u.val + 1) (u.val + 1 - 1) ∗ hrd r (u.val + 1) c
          ∗ Ow c (13 + 8 * u.val + 2 * r.val)) -∗ WP c k Q)
        -∗ WP c (if u.val + 1 ≤ 14 then (if 2 ≤ u.val + 1 then credWaitC r else id) (rsStartC c r (u.val + 1) k) else k) Q) := by
  have hu := u.isLt
  iintro ⟨#Hctx, #Ham, #Hrel0, Hp, Hany, Hacc, Ht, Hc, #Hh, HO⟩ Hk
  by_cases h : u.val + 1 ≤ 14
  swap
  · rw [if_neg h]
    have e : u.val = 14 := by omega
    iapply Hk
    isplitl [Hp]; · iexact Hp
    isplitl [Hany Hacc]
    · iapply (rsAcc14 o r e); isplitl [Hacc] <;> iassumption
    isplitl [Ht]; · iapply (ico_skip _ (show 15 ≤ u.val + 1 by omega) (show 15 ≤ u.val + 2 by omega)); iexact Ht
    isplitl [Hc]
    · unfold creds
      icases Hc with ⟨Hc1, Hc2, Hc3⟩
      isplitl [Hc1]; · iexact Hc1
      isplitl [Hc2]; · iapply (ico_skip _ (show 13 ≤ u.val - 1 by omega) (show 13 ≤ u.val + 1 - 1 by omega)); iexact Hc2
      iapply (Entails.of_eq (congrArg (cwt 0 r c) (show min (u.val - 1) 13 = min (u.val + 1 - 1) 13 by omega))); iexact Hc3
    isplitr; · iexact Hh
    iapply (Ow_skip c (n := 12 + 8 * u.val + 2 * r.val) (fun p => by cases p <;> simp only [ix] <;> omega)); iexact HO
  rw [if_pos h]
  -- the slot at the neighbour is free for message `u + 1`
  have start : iprop(ctx o κ ν ∗ amFree c ∗ poss 0 r c (u.val + 1) ∗ any c (slotM (accM r) (par u.val)) ∗ owns (c : Thread nD τ) (slotM (accM r) (par (u.val + 1))) fullShare (accV o r (u.val + 1) c)
        ∗ bigSep (Finset.Ico (u.val + 1) 15) (toks 0 r c) ∗ creds 0 r c (u.val + 1) (u.val + 1 - 1) ∗ hrd r (u.val + 1) c ∗ Ow c (12 + 8 * u.val + 2 * r.val)
        ∗ freeS (nxt r c, .rv 0 r (par (u.val + 1))) ((u.val + 1) / 2))
      ⊢ iprop(((poss 0 r c (u.val + 1) ∗ rsAcc o r c (u.val + 1) ∗ bigSep (Finset.Ico (u.val + 2) 15) (toks 0 r c) ∗ creds 0 r c (u.val + 1) (u.val + 1 - 1) ∗ hrd r (u.val + 1) c
          ∗ Ow c (13 + 8 * u.val + 2 * r.val)) -∗ WP c k Q) -∗ WP c (rsStartC c r (u.val + 1) k) Q) := by
    iintro ⟨#Hctx, #Ham, Hp, Hany, Hacc, Ht, Hc, #Hh, HO, #Hf⟩ Hk
    ihave Ht := (ico_pop _ (show u.val + 1 < 15 by omega)) $$ Ht
    icases Ht with ⟨Ht1, Ht⟩
    ihave H := (persistent_entails_right (poss_reached (F := F) (c := c) 0 r (u.val + 1))) $$ Hp
    icases H with ⟨#Hre, Hp⟩
    iapply (rsStart o κ ν r (show u.val + 1 < 15 by omega) k) $$ [Hacc Ht1 HO]
    · isplitr; · iexact Hctx
      isplitl [Hacc]; · iexact Hacc
      isplitr; · isplitr; · iexact Ham
                 iexact Hh
      isplitr; · iexact Hf
      isplitl [Ht1]; · iexact Ht1
      isplitr; · iexact Hre
      iapply (Entails.of_eq (congrArg (Ow c) (show 12 + 8 * u.val + 2 * r.val = 4 + 8 * (u.val + 1) + 2 * r.val by omega)))
      iexact HO
    iintro ⟨HcS, HO⟩
    iapply Hk
    isplitl [Hp]; · iexact Hp
    isplitl [HcS Hany]
    · iapply (rsAcc_start o r (show u.val + 1 < 15 by omega)); isplitl [HcS] <;> iassumption
    isplitl [Ht]; · iexact Ht
    isplitl [Hc]; · iexact Hc
    isplitr; · iexact Hh
    iapply (Entails.of_eq (congrArg (Ow c) (show 5 + 8 * (u.val + 1) + 2 * r.val = 13 + 8 * u.val + 2 * r.val by omega)))
    iexact HO
  by_cases h0 : 2 ≤ u.val + 1
  · rw [if_pos h0]
    unfold creds
    icases Hc with ⟨Hc1, Hc2, Hc3⟩
    ihave Hc2 := (ico_pop _ (show u.val - 1 < 13 by omega)) $$ Hc2
    icases Hc2 with ⟨Hcr, Hc2⟩
    unfold credWaitC
    iapply (cred_wait o κ ν 0 r (m := min (u.val - 1) 13) (i := 3 + 144 * (0 : Fin 2).val + 8 * (u.val - 1 + 1 + (0 : Fin 2).val) + 2 * r.val) (n := 12 + 8 * u.val + 2 * r.val)
      (by simp; omega) (by simp; omega) (rsStartC c r (u.val + 1) k)) $$ [Hc3 Hcr HO]
    · isplitr; · iexact Hctx
      isplitl [Hc3]; · iexact Hc3
      isplitl [Hcr]; · iexact Hcr
      iexact HO
    iintro ⟨Hc3, #Hf, HO⟩
    iapply start $$ [Hp Hany Hacc Ht Hc1 Hc2 Hc3 HO]
    · isplitr; · iexact Hctx
      isplitr; · iexact Ham
      isplitl [Hp]; · iexact Hp
      isplitl [Hany]; · iexact Hany
      isplitl [Hacc]; · iexact Hacc
      isplitl [Ht]; · iexact Ht
      isplitl [Hc1 Hc2 Hc3]
      · unfold creds
        isplitl [Hc1]; · iexact Hc1
        rw [show u.val - 1 + 1 = u.val + 1 - 1 by omega, show min (u.val - 1) 13 + 1 = min (u.val + 1 - 1) 13 by omega]
        isplitl [Hc2] <;> iassumption
      isplitr; · iexact Hh
      isplitl [HO]; · iexact HO
      rw [show min (u.val - 1) 13 + 2 = u.val + 1 by omega]
      iexact Hf
    iexact Hk
  · rw [if_neg h0]
    have e : u.val = 0 := by omega
    iapply start $$ [Hp Hany Hacc Ht Hc HO]
    · isplitr; · iexact Hctx
      isplitr; · iexact Ham
      isplitl [Hp]; · iexact Hp
      isplitl [Hany]; · iexact Hany
      isplitl [Hacc]; · iexact Hacc
      isplitl [Ht]; · iexact Ht
      isplitl [Hc]
      · rw [show u.val - 1 = u.val + 1 - 1 by omega]; iexact Hc
      isplitr; · iexact Hh
      isplitl [HO]; · iexact HO
      iapply (relAt_go 0 r (nxt r c) (show u.val + 1 ≤ 0 + 1 by omega)); iexact Hrel0
    iexact Hk

/-- Step `u` of the reduce-scatter on ring `r`. -/
theorem rs_step (r : Fin 4) (u : Fin 15) (k : Pg F) :
    iprop(ctx o κ ν ∗ amFree c ∗ relAt 0 r (nxt r c) 0 ∗ xw o c ∗ rsI o c u.val r ∗ Ow c (11 + 8 * u.val + 2 * r.val))
      ⊢ iprop(((xw o c ∗ rsI o c (u.val + 1) r ∗ Ow c (13 + 8 * u.val + 2 * r.val)) -∗ WP c k Q) -∗ WP c (rsStep c r u k) Q) := by
  unfold rsStep rsI msgs
  iintro ⟨#Hctx, #Ham, #Hrel0, Hx, ⟨Hp, Hr, Ha, ⟨Ht, Hv⟩, Hc, -⟩, HO⟩ Hk
  ihave Hv := (ico_pop _ u.isLt) $$ Hv
  icases Hv with ⟨Hv1, Hv⟩
  iapply (rsRecv o κ ν r (u := u)) $$ [Hx Hp Ha Hv1 HO]
  · isplitr; · iexact Hctx
    isplitl [Hx]; · iexact Hx
    isplitl [Hp]; · iexact Hp
    isplitl [Ha]; · iexact Ha
    isplitl [Hv1]; · iexact Hv1
    iexact HO
  iintro ⟨Hx, Hp, Hany, Hacc, Hs, #Hh, HO⟩
  iapply (rsCred o κ ν r u (u.val - 1)) $$ [Hp Hr Hs Hc HO]
  · isplitr; · iexact Hctx
    isplitl [Hp]; · iexact Hp
    isplitl [Hr]; · iexact Hr
    isplitl [Hs]; · iexact Hs
    isplitl [Hc]; · iexact Hc
    iexact HO
  iintro ⟨Hp, Hr, Hc, HO⟩
  iapply (rsNext o κ ν r u) $$ [Hp Hany Hacc Ht Hc HO]
  · isplitr; · iexact Hctx
    isplitr; · iexact Ham
    isplitr; · iexact Hrel0
    isplitl [Hp]; · iexact Hp
    isplitl [Hany]; · iexact Hany
    isplitl [Hacc]; · iexact Hacc
    isplitl [Ht]; · iexact Ht
    isplitl [Hc]; · iexact Hc
    isplitr; · iexact Hh
    iexact HO
  iintro ⟨Hp, Ha, Ht, Hc, -, HO⟩
  iapply Hk
  isplitl [Hx]; · iexact Hx
  isplitl [Hp Hr Ha Ht Hv Hc]
  · isplitl [Hp]; · iexact Hp
    isplitl [Hr]; · iexact Hr
    isplitl [Ha]; · iexact Ha
    isplitl [Ht Hv]; · isplitl [Ht] <;> iassumption
    isplitl [Hc]; · iexact Hc
    iexact Hh
  iexact HO

end Cert.Ring
-- ==== Proof.Walk.lean ====
/-
# The reduce-scatter as a whole

Commands run ring by ring and step by step, and the reduce-scatter.
-/
module

public import proofs.«01_k».proof.Proof.Rs

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv)

variable {F : FTy → Type} [FloatOps F]

local notation "𝕄" => MT nD τ sig ℕ (Elt F) ℕ UU ℕ

variable (o : Ops F) (κ : Dev nD × Kind → ℕ) (ν : Key → ℕ)
variable {c : Dev nD} {Q : PUnit.{1} → sProp (MT nD τ sig ℕ (Elt F) ℕ UU ℕ)}

/-- One for each ring. -/
def four (P : Fin 4 → sProp 𝕄) : sProp 𝕄 := iprop(P 0 ∗ P 1 ∗ P 2 ∗ P 3)

omit [FloatOps F] in
instance four_persistent (P : Fin 4 → sProp 𝕄) [∀ r, BI.Persistent (P r)] : BI.Persistent (four P) := by unfold four; infer_instance

omit [FloatOps F] in
theorem four_at (P : Fin 4 → sProp 𝕄) [∀ r, BI.Persistent (P r)] : ∀ r, four P ⊢ P r
  | 0 => by unfold four; iintro ⟨H, -⟩; iexact H
  | 1 => by unfold four; iintro ⟨-, H, -⟩; iexact H
  | 2 => by unfold four; iintro ⟨-, -, H, -⟩; iexact H
  | 3 => by unfold four; iintro ⟨-, -, -, H⟩; iexact H

omit [FloatOps F] in
theorem four_sep (P R : Fin 4 → sProp 𝕄) : iprop(four P ∗ four R) ⊢ four (fun r => iprop(P r ∗ R r)) := by
  unfold four
  iintro ⟨⟨H0, H1, H2, H3⟩, G0, G1, G2, G3⟩
  isplitl [H0 G0]; · isplitl [H0] <;> iassumption
  isplitl [H1 G1]; · isplitl [H1] <;> iassumption
  isplitl [H2 G2]; · isplitl [H2] <;> iassumption
  isplitl [H3] <;> iassumption

omit [FloatOps F] in
theorem four_split (P R : Fin 4 → sProp 𝕄) : four (fun r => iprop(P r ∗ R r)) ⊢ iprop(four P ∗ four R) := by
  unfold four
  iintro ⟨⟨H0, G0⟩, ⟨H1, G1⟩, ⟨H2, G2⟩, H3, G3⟩
  isplitl [H0 H1 H2 H3]
  · isplitl [H0]; · iexact H0
    isplitl [H1]; · iexact H1
    isplitl [H2] <;> iassumption
  isplitl [G0]; · iexact G0
  isplitl [G1]; · iexact G1
  isplitl [G2] <;> iassumption

/-- A command for each ring in turn. -/
theorem runs_rings (f : Fin 4 → Pg F → Pg F) (X : sProp 𝕄) (I J : Fin 4 → sProp 𝕄) (O : ℕ → sProp 𝕄)
    (h : ∀ (r : Fin 4) (k : Pg F), iprop(X ∗ I r ∗ O r.val) ⊢ iprop(((X ∗ J r ∗ O (r.val + 1)) -∗ WP c k Q) -∗ WP c (f r k) Q)) (k : Pg F) :
    iprop(X ∗ four I ∗ O 0) ⊢ iprop(((X ∗ four J ∗ O 4) -∗ WP c k Q) -∗ WP c (runs (rings.map f) k) Q) := by
  show _ ⊢ iprop(_ -∗ WP c (f 0 (f 1 (f 2 (f 3 k)))) Q)
  unfold four
  have h0 : iprop(X ∗ I 0 ∗ O 0) ⊢ iprop(((X ∗ J 0 ∗ O 1) -∗ WP c (f 1 (f 2 (f 3 k))) Q) -∗ WP c (f 0 (f 1 (f 2 (f 3 k)))) Q) := h 0 _
  have h1 : iprop(X ∗ I 1 ∗ O 1) ⊢ iprop(((X ∗ J 1 ∗ O 2) -∗ WP c (f 2 (f 3 k)) Q) -∗ WP c (f 1 (f 2 (f 3 k))) Q) := h 1 _
  have h2 : iprop(X ∗ I 2 ∗ O 2) ⊢ iprop(((X ∗ J 2 ∗ O 3) -∗ WP c (f 3 k) Q) -∗ WP c (f 2 (f 3 k)) Q) := h 2 _
  have h3 : iprop(X ∗ I 3 ∗ O 3) ⊢ iprop(((X ∗ J 3 ∗ O 4) -∗ WP c k Q) -∗ WP c (f 3 k) Q) := h 3 _
  iintro ⟨HX, ⟨H0, H1, H2, H3⟩, HO⟩ Hk
  iapply h0 $$ [HX H0 HO]
  · isplitl [HX]; · iexact HX
    isplitl [H0] <;> iassumption
  iintro ⟨HX, H0, HO⟩
  iapply h1 $$ [HX H1 HO]
  · isplitl [HX]; · iexact HX
    isplitl [H1] <;> iassumption
  iintro ⟨HX, H1, HO⟩
  iapply h2 $$ [HX H2 HO]
  · isplitl [HX]; · iexact HX
    isplitl [H2] <;> iassumption
  iintro ⟨HX, H2, HO⟩
  iapply h3 $$ [HX H3 HO]
  · isplitl [HX]; · iexact HX
    isplitl [H3] <;> iassumption
  iintro ⟨HX, H3, HO⟩
  iapply Hk
  isplitl [HX]; · iexact HX
  isplitr [HO]
  · isplitl [H0]; · iexact H0
    isplitl [H1]; · iexact H1
    isplitl [H2] <;> iassumption
  iexact HO

/-- A list of commands, with an invariant by position. -/
theorem runs_list {α : Type} (f : α → Pg F → Pg F) (S : ℕ → sProp 𝕄) : ∀ (l : List α) (i : ℕ)
    (_ : ∀ (j : ℕ) (hj : j < l.length) (k : Pg F), S (i + j) ⊢ iprop((S (i + j + 1) -∗ WP c k Q) -∗ WP c (f (l[j]) k) Q)) (k : Pg F),
    S i ⊢ iprop((S (i + l.length) -∗ WP c k Q) -∗ WP c (runs (l.map f) k) Q)
  | [], i, _, k => by
    show _ ⊢ iprop(_ -∗ WP c k Q)
    iintro H Hk
    iapply Hk; iexact H
  | a :: l, i, h, k => by
    show _ ⊢ iprop(_ -∗ WP c (f a (runs (l.map f) k)) Q)
    have h1 := h 0 (by simp) (runs (l.map f) k)
    have h2 := runs_list f S l (i + 1) (fun j hj k => by
      have h3 := h (j + 1) (by simpa using hj) k
      rw [show i + 1 + j = i + (j + 1) by omega]
      exact h3) k
    rw [show i + (a :: l).length = i + 1 + l.length by simp; omega]
    iintro H Hk
    iapply h1 $$ H
    iintro H
    iapply h2 $$ H
    iexact Hk

theorem runs_steps (f : Fin 15 → Pg F → Pg F) (S : ℕ → sProp 𝕄)
    (h : ∀ (t : Fin 15) (k : Pg F), S t.val ⊢ iprop((S (t.val + 1) -∗ WP c k Q) -∗ WP c (f t k) Q)) (k : Pg F) :
    S 0 ⊢ iprop((S 15 -∗ WP c k Q) -∗ WP c (runs (steps.map f) k) Q) :=
  runs_list f S steps 0 (fun j hj k => by
    have e : (steps[j]).val = 0 + j := by
      rw [Nat.zero_add]
      have : ∀ j : Fin 15, (steps[j.val]'j.isLt).val = j.val := by decide
      exact this ⟨j, hj⟩
    have h1 := h (steps[j]) k
    rw [e] at h1; exact h1) k

theorem runs_devs (f : Fin 16 → Pg F → Pg F) (S : ℕ → sProp 𝕄)
    (h : ∀ (t : Fin 16) (k : Pg F), S t.val ⊢ iprop((S (t.val + 1) -∗ WP c k Q) -∗ WP c (f t k) Q)) (k : Pg F) :
    S 0 ⊢ iprop((S 16 -∗ WP c k Q) -∗ WP c (runs (devs16.map f) k) Q) :=
  runs_list f S devs16 0 (fun j hj k => by
    have e : (devs16[j]).val = 0 + j := by
      rw [Nat.zero_add]
      have : ∀ j : Fin 16, (devs16[j.val]'j.isLt).val = j.val := by decide
      exact this ⟨j, hj⟩
    have h1 := h (devs16[j]) k
    rw [e] at h1; exact h1) k

/-! ## The reduce-scatter -/

/-- What all steps of the reduce-scatter use. -/
def rsX (c : Dev nD) : sProp 𝕄 :=
  iprop(ctx o κ ν ∗ amFree c ∗ four (fun r => relAt 0 r (nxt r c) 0) ∗ xw o c)

theorem rs_loop (k : Pg F) :
    iprop(rsX o κ ν c ∗ four (rsI o c 0) ∗ Ow c 11)
      ⊢ iprop(((rsX o κ ν c ∗ four (rsI o c 15) ∗ Ow c 131) -∗ WP c k Q)
        -∗ WP c (runs (steps.map fun u => runs (rings.map fun r => rsStep c r u)) k) Q) := by
  refine runs_steps (c := c) (Q := Q) (fun u => runs (rings.map fun r => rsStep c r u))
    (fun u => iprop(rsX o κ ν c ∗ four (rsI o c u) ∗ Ow c (11 + 8 * u))) (fun u k => ?_) k
  refine runs_rings (c := c) (Q := Q) (fun r => rsStep c r u) (rsX o κ ν c) (rsI o c u.val) (rsI o c (u.val + 1))
    (fun n => Ow c (11 + 8 * u.val + 2 * n)) (fun r k => ?_) k
  unfold rsX
  iintro ⟨⟨#Hctx, #Ham, #Hrel, Hx⟩, HI, HO⟩ Hk
  iapply (rs_step o κ ν r u k) $$ [Hx HI HO]
  · isplitr; · iexact Hctx
    isplitr; · iexact Ham
    isplitr; · iapply (four_at (fun r => relAt 0 r (nxt r c) 0) r); iexact Hrel
    isplitl [Hx]; · iexact Hx
    isplitl [HI] <;> iassumption
  iintro ⟨Hx, HI, HO⟩
  iapply Hk
  isplitl [Hx]
  · isplitr; · iexact Hctx
    isplitr; · iexact Ham
    isplitr; · iexact Hrel
    iexact Hx
  isplitl [HI]; · iexact HI
  iapply (Entails.of_eq (congrArg (Ow c) (show 13 + 8 * u.val + 2 * r.val = 11 + 8 * u.val + 2 * (r.val + 1) by omega)))
  iexact HO

/-- What device `c` holds of ring `r` before the reduce-scatter, the first accumulator aside. -/
def rsP (c : Dev nD) (r : Fin 4) : sProp 𝕄 :=
  iprop(poss 0 r c 0 ∗ two (fun s k => rdr c (.rv 0 r s) k) 0 ∗ any c (slotM (accM r) (par (0 + 1))) ∗ msgs 0 r c 0 0 ∗ creds 0 r c 0 0)

theorem rs_first (r : Fin 4) (k : Pg F) :
    iprop(rsX o κ ν c ∗ (owns (c : Thread nD τ) (slotM (accM r) 0) fullShare (accV o r 0 c) ∗ rsP c r) ∗ Ow c (4 + 2 * r.val))
      ⊢ iprop(((rsX o κ ν c ∗ rsI o c 0 r ∗ Ow c (5 + 2 * r.val)) -∗ WP c k Q) -∗ WP c (rsStartC c r 0 k) Q) := by
  unfold rsX rsP rsI rsRdr rsAcc msgs
  rw [if_pos (by decide), if_pos (by decide)]
  iintro ⟨⟨#Hctx, #Ham, #Hrel, Hx⟩, ⟨Ha, Hp, Hr, Hany, ⟨Ht, Hv⟩, Hc⟩, HO⟩ Hk
  ihave Ht := (ico_pop _ (show 0 < 15 by omega)) $$ Ht
  icases Ht with ⟨Ht1, Ht⟩
  ihave H := (persistent_entails_right (poss_reached (F := F) (c := c) 0 r 0)) $$ Hp
  icases H with ⟨#Hre, Hp⟩
  iapply (rsStart o κ ν r (show 0 < 15 by omega) k) $$ [Ha Ht1 HO]
  · isplitr; · iexact Hctx
    isplitl [Ha]; · iexact Ha
    isplitr; · isplitr; · iexact Ham
               unfold hrd; iempintro
    isplitr
    · iapply (relAt_go 0 r (nxt r c) (show 0 ≤ 0 + 1 by omega))
      iapply (four_at (fun r => relAt 0 r (nxt r c) 0) r); iexact Hrel
    isplitl [Ht1]; · iexact Ht1
    isplitr; · iexact Hre
    iexact HO
  iintro ⟨HcS, HO⟩
  iapply Hk
  isplitl [Hx]
  · isplitr; · iexact Hctx
    isplitr; · iexact Ham
    isplitr; · iexact Hrel
    iexact Hx
  isplitr [HO]
  · isplitl [Hp]; · iexact Hp
    isplitl [Hr]; · iexact Hr
    isplitl [HcS Hany]; · isplitl [HcS] <;> iassumption
    isplitl [Ht Hv]; · isplitl [Ht] <;> iassumption
    isplitl [Hc]; · iexact Hc
    unfold hrd; iempintro
  iexact HO

theorem rs_all (k : Pg F) :
    iprop(rsX o κ ν c ∗ four (fun r => any c (slotM (accM r) 0)) ∗ four (rsP c) ∗ Ow c 4)
      ⊢ iprop(((rsX o κ ν c ∗ four (rsI o c 15) ∗ Ow c 131) -∗ WP c k Q)
        -∗ WP c (runs (rings.map (acc0C c)) <| runs (rings.map fun r => rsStartC c r 0) <|
            runs (steps.map fun u => runs (rings.map fun r => rsStep c r u)) k) Q) := by
  iintro ⟨HX, Ha, HP, HO⟩ Hk
  iapply (runs_rings (c := c) (Q := Q) (acc0C c) (rsX o κ ν c) (fun r => any c (slotM (accM r) 0))
    (fun r => owns (c : Thread nD τ) (slotM (accM r) 0) fullShare (accV o r 0 c)) (fun _ => Ow c 4) (fun r k => by
      unfold rsX
      iintro ⟨⟨#Hctx, #Ham, #Hrel, Hx⟩, ⟨%v, H⟩, HO⟩ Hk
      iapply (acc0 o r v k) $$ [Hx H]
      · isplitl [Hx] <;> iassumption
      iintro Hx H
      iapply Hk
      isplitl [Hx]
      · isplitr; · iexact Hctx
        isplitr; · iexact Ham
        isplitr; · iexact Hrel
        iexact Hx
      isplitl [H] <;> iassumption) _) $$ [HX Ha HO]
  · isplitl [HX]; · iexact HX
    isplitl [Ha]; · iexact Ha
    iexact HO
  iintro ⟨HX, Ha, HO⟩
  ihave HI := (four_sep _ _) $$ [Ha HP]
  · isplitl [Ha] <;> iassumption
  iapply (runs_rings (c := c) (Q := Q) (fun r => rsStartC c r 0) (rsX o κ ν c)
    (fun r => iprop(owns (c : Thread nD τ) (slotM (accM r) 0) fullShare (accV o r 0 c) ∗ rsP c r)) (rsI o c 0)
    (fun n => Ow c (if n = 4 then 11 else 4 + 2 * n)) (fun r k => by
      rw [if_neg (by omega)]
      iintro ⟨HX, HI, HO⟩ Hk
      iapply (rs_first o κ ν r k) $$ [HX HI HO]
      · isplitl [HX]; · iexact HX
        isplitl [HI] <;> iassumption
      iintro ⟨HX, HI, HO⟩
      iapply Hk
      isplitl [HX]; · iexact HX
      isplitl [HI]; · iexact HI
      iapply (Ow_skip c (n := 5 + 2 * r.val) (fun p => by
        have := r.isLt
        split
        · rw [show r.val = 3 by omega]
        · cases p <;> simp only [ix] <;> omega))
      iexact HO) _) $$ [HX HI HO]
  · isplitl [HX]; · iexact HX
    isplitl [HI]; · iexact HI
    iexact HO
  iintro ⟨HX, HI, HO⟩
  iapply (rs_loop o κ ν k) $$ [HX HI HO]
  · isplitl [HX]; · iexact HX
    isplitl [HI]; · iexact HI
    iexact HO
  iexact Hk

end Cert.Ring
-- ==== Proof.Amax.lean ====
/-
# The exchange of the maxima

Every device sends the maximum of its reduced chunks to every other one.
-/
module

public import proofs.«01_k».proof.Proof.Walk

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv)

variable {F : FTy → Type} [FloatOps F]

local notation "𝕄" => MT nD τ sig ℕ (Elt F) ℕ UU ℕ

variable (o : Ops F) (κ : Dev nD × Kind → ℕ) (ν : Key → ℕ)
variable {c : Dev nD} {Q : PUnit.{1} → sProp (MT nD τ sig ℕ (Elt F) ℕ UU ℕ)}

/-! ## A command for each device -/

omit [FloatOps F] in
theorem take_ge (P : Fin 16 → sProp 𝕄) (t : Fin 16) : bigSep (Finset.univ.filter fun d : Fin 16 => t.val ≤ d.val) P
    ⊢ iprop(P t ∗ bigSep (Finset.univ.filter fun d : Fin 16 => t.val + 1 ≤ d.val) P) := by
  rw [show (Finset.univ.filter fun d : Fin 16 => t.val ≤ d.val) = insert t (Finset.univ.filter fun d : Fin 16 => t.val + 1 ≤ d.val) by
    revert t; decide]
  exact Entails.of_eq (bigSep_insert (by simp))

omit [FloatOps F] in
theorem put_lt (P : Fin 16 → sProp 𝕄) (t : Fin 16) : iprop(P t ∗ bigSep (Finset.univ.filter fun d : Fin 16 => d.val < t.val) P)
    ⊢ bigSep (Finset.univ.filter fun d : Fin 16 => d.val < t.val + 1) P := by
  rw [show (Finset.univ.filter fun d : Fin 16 => d.val < t.val + 1) = insert t (Finset.univ.filter fun d : Fin 16 => d.val < t.val) by
    revert t; decide]
  exact Entails.of_eq (bigSep_insert (by simp)).symm

theorem runs_each (f : Fin 16 → Pg F → Pg F) (X : sProp 𝕄) (I J : Fin 16 → sProp 𝕄) (O : ℕ → sProp 𝕄)
    (h : ∀ (d : Fin 16) (k : Pg F), iprop(X ∗ I d ∗ O d.val) ⊢ iprop(((X ∗ J d ∗ O (d.val + 1)) -∗ WP c k Q) -∗ WP c (f d k) Q)) (k : Pg F) :
    iprop(X ∗ bigSep Finset.univ I ∗ O 0) ⊢ iprop(((X ∗ bigSep Finset.univ J ∗ O 16) -∗ WP c k Q) -∗ WP c (runs (devs16.map f) k) Q) := by
  have h1 := runs_devs (c := c) (Q := Q) f (fun n => iprop(X ∗ (bigSep (Finset.univ.filter fun d : Fin 16 => n ≤ d.val) I
      ∗ bigSep (Finset.univ.filter fun d : Fin 16 => d.val < n) J) ∗ O n)) (fun t k => by
    iintro ⟨HX, ⟨HI, HJ⟩, HO⟩ Hk
    ihave HI := (take_ge I t) $$ HI
    icases HI with ⟨H1, HI⟩
    iapply (h t k) $$ [HX H1 HO]
    · isplitl [HX]; · iexact HX
      isplitl [H1] <;> iassumption
    iintro ⟨HX, H1, HO⟩
    iapply Hk
    isplitl [HX]; · iexact HX
    isplitr [HO]
    · isplitl [HI]; · iexact HI
      iapply (put_lt J t)
      isplitl [H1] <;> iassumption
    iexact HO) k
  have e0 : (Finset.univ.filter fun d : Fin 16 => 0 ≤ d.val) = Finset.univ := by decide
  have e1 : (Finset.univ.filter fun d : Fin 16 => d.val < 0) = ∅ := by decide
  have e2 : (Finset.univ.filter fun d : Fin 16 => 16 ≤ d.val) = ∅ := by decide
  have e3 : (Finset.univ.filter fun d : Fin 16 => d.val < 16) = Finset.univ := by decide
  simp only [e0, e1, e2, e3, bigSep_empty] at h1
  iintro ⟨HX, HI, HO⟩ Hk
  iapply h1 $$ [HX HI HO]
  · isplitl [HX]; · iexact HX
    isplitr [HO]
    · isplitl [HI]; · iexact HI
      iempintro
    iexact HO
  iintro ⟨HX, ⟨-, HJ⟩, HO⟩
  iapply Hk
  isplitl [HX]; · iexact HX
  isplitl [HJ] <;> iassumption

/-! ## All devices' slots are free -/

/-- The device `m` hops back on the first ring. -/
def back : ℕ → Dev nD → Dev nD
  | 0, c => c
  | m + 1, c => back m (prv 0 c)

theorem back_all : ∀ c d : Dev nD, ∃ m : Fin 16, back m.val c = d := by decide +kernel

omit [FloatOps F] in
theorem hrd_back : ∀ (n m : ℕ) (c : Dev nD), m < n → (hrd 0 n c : sProp 𝕄) ⊢ amFree (back (m + 1) c)
  | n + 1, 0, c, _ => by
    show iprop(amFree (prv 0 c) ∗ hrd 0 n (prv 0 c)) ⊢ amFree (prv 0 c)
    iintro ⟨H, -⟩; iexact H
  | n + 1, m + 1, c, h => by
    show iprop(amFree (prv 0 c) ∗ hrd 0 n (prv 0 c)) ⊢ amFree (back (m + 1) (prv 0 c))
    iintro ⟨-, H⟩
    iapply (hrd_back n m (prv 0 c) (by omega)); iexact H

omit [FloatOps F] in
theorem all_free (d : Dev nD) : iprop(amFree c ∗ hrd 0 15 c) ⊢ (amFree d : sProp 𝕄) := by
  obtain ⟨⟨m, hm⟩, hd⟩ := back_all c d
  subst hd
  rcases m with _ | m
  · iintro ⟨H, -⟩; iexact H
  · iintro ⟨-, H⟩; iapply (hrd_back 15 m c (by omega)); iexact H

omit [FloatOps F] in
theorem amFree_at (d : Dev nD) (e : Fin 16) : (amFree d : sProp 𝕄) ⊢ released ES ((d, .ar e) : Key) 1 := by
  unfold amFree
  exact at_mem (fun e : Fin 16 => (released ES ((d, .ar e) : Key) 1 : sProp 𝕄)) (Finset.mem_univ e)

/-! ## The own maximum -/

theorem off4_eq : ∀ c : Dev nD, k0_off4 c = ![c.val, 0, 0] := by decide +kernel

theorem am_set (d : Fin 16) : (amS d).view.set = (amM.access (amRect d)).set := View.set_reshape _ _

/-- What the own slot of the maxima reads is the own maximum. -/
theorem am_written (f : (amM.access (amRect c)).ty.Contents (Elt F)) :
    ∀ i ∈ (amS c).view.set, ((amM.access (amRect c)).write (Elt F) f (amV o c) Finset.univ : Vec F S16x8x128 .f32) i = amAll o i := by
  intro i hi
  rw [am_set] at hi
  obtain ⟨x, -, rfl⟩ := Finset.mem_map.mp hi
  rw [View.write_emb_of_mem _ _ (Finset.mem_univ x)]
  have h0 : ((amM.access (amRect c)).emb x 0).val = c.val := by
    show c.val + 1 * (x 0).val = c.val
    have : (x 0).val < 1 := (x 0).isLt
    omega
  have hc : (⟨((amM.access (amRect c)).emb x 0).val, ((amM.access (amRect c)).emb x 0).isLt⟩ : Dev nD) = c := Fin.ext h0
  show amV o c x = amV o (⟨((amM.access (amRect c)).emb x 0).val, ((amM.access (amRect c)).emb x 0).isLt⟩ : Dev nD) _
  rw [hc]
  rfl

theorem am_store (R : Fin 3 → ℕ) (hR : ∀ a, R a + S1x8x128.size a ≤ S16x8x128.size a) (e : R = ![c.val, 0, 0])
    {hl : amM.view.LoadsAt (Rect.unit (s := S16x8x128) R S1x8x128.size hR).toLoadRect}
    {hx : (amM.access (Rect.unit (s := S16x8x128) R S1x8x128.size hR) : View sig .tc _ _ _).Stores Finset.univ} {hm} (k : Pg F) :
    (any c (amS c) : sProp 𝕄) ⊢ iprop((amPts o c c fullShare -∗ WP c k Q)
      -∗ WP c (.op (.load amM (Rect.unit (s := S16x8x128) R S1x8x128.size hR).toLoadRect hl) fun _ =>
        .op (.store amM (Rect.unit (s := S16x8x128) R S1x8x128.size hR) (amV o c) Finset.univ hx hm) fun _ => k) Q) := by
  subst e
  unfold amPts any owns
  iintro ⟨%v, %f, -, H⟩ Hk
  iapply (wp_load_rect 𝒱₀ (c : Thread nD τ) none Set.univ (m := amM) (r := amRect c) (S := (amS c).view.set) (f := f) (am_set c).symm.subset) $$ [H]
  · iexact H
  iintro H
  iapply (wp_store 𝒱₀ (c : Thread nD τ) none Set.univ (m := amM) (r := amRect c) (Mk := Finset.univ) (S := (amS c).view.set) (f := f) (am_set c).symm.subset) $$ [H]
  · iexact H
  iintro H
  iapply Hk
  iapply (Entails.of_eq (pointsTo_congr (am_written o f)))
  iexact H

/-- The own maximum, to its slot. -/
theorem am_local (k : Pg F) :
    iprop(four (fun r => owns (c : Thread nD τ) (slotM (accM r) 1) fullShare (accV o r 15 c)) ∗ any c (amS c))
      ⊢ iprop(((four (fun r => owns (c : Thread nD τ) (slotM (accM r) 1) fullShare (accV o r 15 c)) ∗ amPts o c c fullShare) -∗ WP c k Q)
        -∗ WP c (amLocalC c k) Q) := by
  unfold four amLocalC
  iintro ⟨⟨H0, H1, H2, H3⟩, Ha⟩ Hk
  iapply (ld_slot (accM 0) 1 (accV o 0 15 c)) $$ H0; iintro H0
  iapply (ld_slot (accM 1) 1 (accV o 1 15 c)) $$ H1; iintro H1
  iapply (ld_slot (accM 2) 1 (accV o 2 15 c)) $$ H2; iintro H2
  iapply (ld_slot (accM 3) 1 (accV o 3 15 c)) $$ H3; iintro H3
  iapply (am_store o (k0_off4 c) (k0_off4_inb c) (off4_eq c) k) $$ Ha
  iintro Ha
  iapply Hk
  isplitr [Ha]
  · isplitl [H0]; · iexact H0
    isplitl [H1]; · iexact H1
    isplitl [H2] <;> iassumption
  iexact Ha

/-! ## Sends -/

/-- A part of the own slot, one for each device. -/
abbrev amLeaf (c : Dev nD) (d : Fin 16) : sProp 𝕄 := amPts o c c (ShareLeaves.leaf 4 fullShare d)

theorem am_leaves : amPts o c c fullShare = bigSep Finset.univ (amLeaf o c) := ShareLeaves.pointsTo_leaves _ _ 4 fullShare

/-- The tokens to send the own maximum to device `d`. -/
def amTok (c : Dev nD) (d : Fin 16) : sProp 𝕄 :=
  if d = c then iprop(emp) else iprop(writeTok ES ((d, .ar c) : Key) 1 ∗ dutyTok ER (cell c (.am d)) 0 0 ∗ dutyTok ER (cell d (.ar c)) 0 0)

/-- The own maximum at device `d`, or under way to it. -/
def amOut (c : Dev nD) (d : Fin 16) : sProp 𝕄 := if d = c then amLeaf o c c else crd c (.am d) 0

omit [FloatOps F] in
theorem write_read (f : (amS c).view.ty.Contents (Elt F)) (fd : (amS c).view.ty.Contents (Elt F)) :
    ∀ i ∈ (amS c).view.set, (amS c).view.write (Elt F) fd ((amS c).view.read (Elt F) f) Finset.univ i = f i := by
  intro i hi
  obtain ⟨x, -, rfl⟩ := Finset.mem_map.mp hi
  rw [View.write_emb_of_mem _ _ (Finset.mem_univ x), View.read_apply]
  simp

theorem am_send (d : Fin 16) (k : Pg F) :
    iprop((ctx o κ ν ∗ amFree c ∗ hrd 0 15 c) ∗ (amLeaf o c d ∗ amTok c d) ∗ Ow c (131 + d.val))
      ⊢ iprop((((ctx o κ ν ∗ amFree c ∗ hrd 0 15 c) ∗ amOut o c d ∗ Ow c (131 + (d.val + 1))) -∗ WP c k Q) -∗ WP c (amSendC c d k) Q) := by
  unfold amSendC amTok amOut
  by_cases h : d = c
  · subst h
    rw [if_pos rfl, if_pos rfl, if_neg (by simp)]
    unfold Ow
    iintro ⟨HX, ⟨Hl, -⟩, ⟨%W, HO⟩⟩ Hk
    have ho : owed d (131 + d.val) = owed d (131 + (d.val + 1)) := by
      refine (owed_pop d (.am d)).trans ?_
      show owed d (131 + (d.val + 1)) + tallyAt _ _ (if d = d then 0 else NA) = _
      rw [if_pos rfl, tallyAt_zero, add_zero]
    iapply Hk
    isplitl [HX]; · iexact HX
    isplitl [Hl]; · iexact Hl
    iexists W
    rw [← ho]; iexact HO
  · rw [if_neg h, if_neg h, if_pos h]
    simp only [amSendP, Prog.bind_op, Prog.bind_ret]
    unfold Ow
    iintro ⟨⟨#Hctx, #Ham, #Hh⟩, ⟨Hl, Hw, Hts, Htr⟩, ⟨%W, HO⟩⟩ Hk
    imod (Release.slot_take ES (Set.mem_univ (ν (d, .ar c))) 1) $$ [Hw] with Hsl
    · isplitr; · iapply (ctx_slot o κ ν (d, .ar c)); iexact Hctx
      isplitr
      · iapply (amFree_at d c)
        iapply (all_free (c := c) d)
        isplitr; · iexact Ham
        iexact Hh
      iexact Hw
    ihave Hsl := (Entails.of_eq (show slotOf ((d, .ar c) : Key) = (any d (amS c) : sProp 𝕄) from rfl)) $$ Hsl
    unfold any owns
    icases Hsl with ⟨%v, %fd, -, Hdst⟩
    have e1 : cell c (.am d) = ((c : Thread nD τ), SemLoc.dma (dsem16 cc0_scratch41 d)) := rfl
    have e2 : cell (d : Dev nD) (.ar c) = (((d : Dev nD) : Thread nD τ), SemLoc.dma (dsem16 cc0_scratch42 c)) := rfl
    have ho : owed c (131 + d.val) = owed c (131 + (d.val + 1)) + tallyAt (((d : Dev nD) : Thread nD τ), SemLoc.dma (dsem16 cc0_scratch42 c)) (131 + d.val) NA := by
      refine (owed_pop c (.am d)).trans ?_
      show owed c (131 + (d.val + 1)) + tallyAt (cell d (.ar c)) (131 + d.val) (if d = c then 0 else NA) = _
      rw [if_neg h, e2]
    have hda : dut c 0 (.am d) = {0} := if_pos ⟨rfl, h⟩
    have hdr : dut d 0 (.ar c) = {0} := if_pos ⟨rfl, fun e => h e.symm⟩
    rw [e1, e2]
    unfold amLeaf amPts
    iapply (Rounds.wp_send_pointsTo_with 𝒱₀ ER (Rd o) (c : Thread nD τ) none (c' := ((d : Dev nD) : Thread nD τ)) (src := amS c) (dst := amS c)
        (q := ShareLeaves.leaf 4 fullShare d) (fs := amAll o)
        (κ₁ := κ (c, .am d)) (κ₂ := κ (d, .ar c)) (r₁ := 0) (r₂ := 0) (d₁ := 0) (d₂ := 0) (fd := fd) (F := iprop(emp))
        (by rw [← e1, Rd_duties, hda]; exact Finset.mem_singleton_self _)
        (by rw [← e2, Rd_duties, hdr]; exact Finset.mem_singleton_self _)
        (131 + d.val) 0 NA (show (amS c).view.amount (.dma (dsem16 cc0_scratch42 c)) = NA from am_amount c) (by rw [← e1, Rd_amount]; rfl) (by rw [← e2, Rd_amount]; rfl)
        (owed c (131 + (d.val + 1))) ho (W := W)
        (by
          rw [← e1, Rd_payload]
          show _ ⊢ amPts o c c (ShareLeaves.leaf 4 fullShare d)
          unfold amPts; exact BIBase.Entails.rfl)
        (by
          rw [← e2, Rd_payload]
          show _ ⊢ amPts o d c fullShare
          unfold amPts
          iintro ⟨H, -⟩
          iapply (Entails.of_eq (pointsTo_congr (write_read (c := c) (amAll o) fd)))
          iexact H)) $$ [Hl Hts Htr HO Hdst]
    · rw [← e1, ← e2]
      isplitr; · iapply (ctx_cell o κ ν c (.am d)); iexact Hctx
      isplitr; · iapply (ctx_cell o κ ν d (.ar c)); iexact Hctx
      isplitl [Hl]; · iexact Hl
      isplitl [Hdst]
      · isplitl [Hdst]; · iexact Hdst
        iempintro
      isplitl [HO]; · iexact HO
      isplitl [Hts]; · iexact Hts
      isplitr; · iapply (ctx_reached o κ ν c (.am d)); iexact Hctx
      isplitl [Htr]; · iexact Htr
      iapply (ctx_reached o κ ν d (.ar c)); iexact Hctx
    iintro ⟨Hc, HO⟩
    iapply Hk
    isplitr
    · isplitr; · iexact Hctx
      isplitr; · iexact Ham
      iexact Hh
    isplitl [Hc]; · iexact Hc
    iexists W; iexact HO

/-! ## Waits -/

/-- What device `c` waits with for the maxima from and to device `d`. -/
def amIn (c : Dev nD) (d : Fin 16) : sProp 𝕄 :=
  if d = c then iprop(emp) else iprop(crd c (.ar d) (131 + c.val) ∗ posn c (.am d) 0 ∗ posn c (.ar d) 0)

/-- The maximum of device `d`, arrived. -/
def amGot (c : Dev nD) (d : Fin 16) : sProp 𝕄 :=
  if d = c then iprop(emp) else iprop(amPts o c d fullShare ∗ posn c (.am d) 1 ∗ posn c (.ar d) 1)

theorem am_wait (d : Fin 16) (k : Pg F) :
    iprop(ctx o κ ν ∗ (amOut o c d ∗ amIn c d) ∗ Ow c 147)
      ⊢ iprop(((ctx o κ ν ∗ (amLeaf o c d ∗ amGot o c d) ∗ Ow c 147) -∗ WP c k Q) -∗ WP c (amWaitC c d k) Q) := by
  unfold amWaitC amOut amIn amGot
  by_cases h : d = c
  · subst h
    rw [if_pos rfl, if_pos rfl, if_pos rfl, if_neg (by simp)]
    iintro H Hk
    iapply Hk; iexact H
  · rw [if_neg h, if_neg h, if_neg h, if_pos h]
    simp only [amWaitP, Prog.bind_op, Prog.bind_ret]
    have hda : dut c 0 (.am d) = {0} := if_pos ⟨rfl, h⟩
    have hdr : dut c 0 (.ar d) = {0} := if_pos ⟨rfl, h⟩
    have hc : c.val < 16 := c.isLt
    iintro ⟨#Hctx, ⟨HcS, HcR, HpS, HpR⟩, HO⟩ Hk
    iapply (wait1 o κ ν (.am d) 0 hda 0 147 (by omega) (by omega)
      (fun K => (wpE_waitDma2_eq 𝒱₀ (c : Thread nD τ) none Set.univ K).trans (by rw [am_amount]; rfl))) $$ [HpS HcS HO]
    · isplitr; · iexact Hctx
      isplitl [HpS]; · iexact HpS
      isplitl [HcS]; · iexact HcS
      iexact HO
    iintro ⟨HpS, Hs, HO⟩
    iapply (wait1 o κ ν (.ar d) 0 hdr (131 + c.val) 147 (by omega) (by omega)
      (fun K => (wpE_waitDma2_eq 𝒱₀ (c : Thread nD τ) none Set.univ K).trans (by rw [am_amount]; rfl))) $$ [HpR HcR HO]
    · isplitr; · iexact Hctx
      isplitl [HpR]; · iexact HpR
      isplitl [HcR]; · iexact HcR
      iexact HO
    iintro ⟨HpR, Hv, HO⟩
    iapply Hk
    isplitr; · iexact Hctx
    isplitr [HO]
    · isplitl [Hs]; · iapply (Entails.of_eq (show pay o c 0 0 (.am d) = amLeaf o c d from rfl)); iexact Hs
      isplitl [Hv]; · iapply (Entails.of_eq (show pay o c 0 0 (.ar d) = amPts o c d fullShare from rfl)); iexact Hv
      isplitl [HpS] <;> iassumption
    iexact HO

/-! ## All maxima together -/

theorem mem_am (d : Fin 16) (i : S16x8x128.Idx) : i ∈ (amS d).view.set ↔ (i 0).val = d.val := by
  rw [am_set]
  constructor
  · intro h
    obtain ⟨x, -, rfl⟩ := Finset.mem_map.mp h
    show d.val + 1 * (x 0).val = d.val
    have : (x 0).val < 1 := (x 0).isLt
    omega
  · intro h
    refine Finset.mem_map.mpr ⟨(fun a => match a with | 0 => ⟨0, by decide⟩ | 1 => i 1 | 2 => i 2 : S1x8x128.Idx), Finset.mem_univ _, ?_⟩
    refine funext fun a => Fin.ext ?_
    fin_cases a
    · show d.val + 1 * 0 = (i 0).val; omega
    · show 0 + 1 * (i 1).val = (i 1).val; omega
    · show 0 + 1 * (i 2).val = (i 2).val; omega

theorem am_union : (Finset.univ.biUnion fun d : Fin 16 => (amS d).view.set) = (Finset.univ : Finset S16x8x128.Idx) := by
  ext i
  simp only [Finset.mem_biUnion, Finset.mem_univ, true_and, iff_true]
  exact ⟨⟨(i 0).val, (i 0).isLt⟩, (mem_am _ i).mpr rfl⟩

theorem am_disj : ∀ d ∈ (Finset.univ : Finset (Fin 16)), ∀ e ∈ (Finset.univ : Finset (Fin 16)), d ≠ e → Disjoint (amS d).view.set (amS e).view.set := by
  intro d _ e _ h
  refine Finset.disjoint_left.mpr fun i hi hj => h (Fin.ext ?_)
  exact ((mem_am d i).mp hi).symm.trans ((mem_am e i).mp hj)

/-- The maxima's buffer is its slots. -/
theorem am_split (f : (cc0_scratch20 : Ref sig .tc).ty.Contents (Elt F)) :
    (amM.view.loc (c : Thread nD τ) ↦[Finset.univ]{fullShare} f : sProp 𝕄)
      = bigSep Finset.univ fun d : Fin 16 => amM.view.loc (c : Thread nD τ) ↦[(amS d).view.set]{fullShare} f := by
  have h := pointsTo_biUnion (Ix := ℕ) (Val := Elt F) (Name := ℕ) (U := UU) (Lvl := ℕ) (ℓ := amM.view.loc (c : Thread nD τ)) (q := fullShare) (f := f) Finset.univ (fun d : Fin 16 => (amS d).view.set) am_disj
  refine Eq.trans ?_ h
  exact congrArg (fun I : Finset S16x8x128.Idx => (amM.view.loc (c : Thread nD τ) ↦[I]{fullShare} f : sProp 𝕄)) am_union.symm

theorem amPts_eq (d : Fin 16) (s : PosShare TreeShare) : amPts o c d s = (amM.view.loc (c : Thread nD τ) ↦[(amS d).view.set]{s} (amAll o) : sProp 𝕄) := rfl

/-- What the cells of the maxima are left at. -/
def amEnd (c : Dev nD) (d : Fin 16) : sProp 𝕄 :=
  if d = c then iprop(emp) else iprop(posn c (.am d) 1 ∗ posn c (.ar d) 1)

omit [FloatOps F] in
theorem take_one (P : Fin 16 → sProp 𝕄) (c : Fin 16) : bigSep Finset.univ P = iprop(P c ∗ bigSep (Finset.univ.erase c) P) := by
  exact (congrArg (fun S => bigSep S P) (Finset.insert_erase (Finset.mem_univ c)).symm).trans (bigSep_insert (Finset.notMem_erase c _))

omit [FloatOps F] in
theorem each_sep (P R : Fin 16 → sProp 𝕄) : (bigSep Finset.univ fun d => iprop(P d ∗ R d)) = iprop(bigSep Finset.univ P ∗ bigSep Finset.univ R) := bigSep_sep _ _ _

theorem am_join : iprop(bigSep Finset.univ (amLeaf o c) ∗ bigSep Finset.univ (amGot o c))
    ⊢ iprop((amM.view.loc (c : Thread nD τ) ↦[Finset.univ]{fullShare} (amAll o)) ∗ bigSep Finset.univ (amEnd (F := F) c)) := by
  rw [← am_leaves, take_one (amGot o c) c, am_split (amAll o), take_one (fun d : Fin 16 => amM.view.loc (c : Thread nD τ) ↦[(amS d).view.set]{fullShare} (amAll o)) c,
    take_one (amEnd c) c]
  have hg : (bigSep (Finset.univ.erase c) (amGot o c)) = iprop(bigSep (Finset.univ.erase c) (fun d : Fin 16 => amPts o c d fullShare) ∗ bigSep (Finset.univ.erase c) (amEnd (F := F) c)) := by
    refine Eq.trans (bigSep_congr fun d hd => ?_) (bigSep_sep _ _ _)
    unfold amGot amEnd
    rw [if_neg (Finset.ne_of_mem_erase hd), if_neg (Finset.ne_of_mem_erase hd)]
    rfl
  rw [hg]
  have h1 : (amGot o c c) = iprop(emp) := if_pos rfl
  have h2 : (amEnd (F := F) c c) = iprop(emp) := if_pos rfl
  rw [h1, h2]
  unfold amPts
  iintro ⟨H, -, HP, HE⟩
  isplitr [HE]
  · isplitl [H]; · iexact H
    iexact HP
  isplitr; · iempintro
  iexact HE

theorem am_read (k : Vec F S16x8x128 .f32 → Pg F) :
    (amM.view.loc (c : Thread nD τ) ↦[Finset.univ]{fullShare} (amAll o) : sProp 𝕄)
      ⊢ iprop(((amM.view.loc (c : Thread nD τ) ↦[Finset.univ]{fullShare} (amAll o)) -∗ WP c (k (amAll o)) Q) -∗ WP c (amReadC k) Q) := by
  unfold amReadC
  iintro H Hk
  iapply (wp_load 𝒱₀ (c : Thread nD τ) none Set.univ (m := amM) (Finset.subset_univ _)) $$ H
  iintro H
  rw [show amM.view.readAt (Elt F) wholeA.toLoadRect (amAll o) = amAll o from Memref.readAt_unit_zero (Elt F) cc0_scratch20 (funext (by decide)) _ (amAll o)]
  iapply Hk
  iexact H

/-- What device `c` starts the exchange of the maxima with. -/
def amP (c : Dev nD) : sProp 𝕄 :=
  iprop(writeTok ES ((c, .ar c) : Key) 1 ∗ bigSep Finset.univ (amTok (F := F) c) ∗ bigSep Finset.univ (amIn (F := F) c))

theorem am_all (k : F .f32 → Pg F) :
    iprop((ctx o κ ν ∗ amFree c ∗ hrd 0 15 c) ∗ four (fun r => owns (c : Thread nD τ) (slotM (accM r) 1) fullShare (accV o r 15 c)) ∗ amP c ∗ Ow c 131)
      ⊢ iprop(((four (fun r => owns (c : Thread nD τ) (slotM (accM r) 1) fullShare (accV o r 15 c))
          ∗ (amM.view.loc (c : Thread nD τ) ↦[Finset.univ]{fullShare} (amAll o)) ∗ bigSep Finset.univ (amEnd (F := F) c) ∗ Ow c 148) -∗ WP c (k (mx o)) Q)
        -∗ WP c (amPart c k) Q) := by
  unfold amPart amP
  iintro ⟨⟨#Hctx, #Ham, #Hh⟩, Hacc, ⟨Hw, Htok, Hin⟩, HO⟩ Hk
  imod (Release.slot_take ES (Set.mem_univ (ν (c, .ar c))) 1) $$ [Hw] with Hsl
  · isplitr; · iapply (ctx_slot o κ ν (c, .ar c)); iexact Hctx
    isplitr; · iapply (amFree_at c c); iexact Ham
    iexact Hw
  ihave Hsl := (Entails.of_eq (show slotOf ((c, .ar c) : Key) = (any c (amS c) : sProp 𝕄) from rfl)) $$ Hsl
  iapply (am_local o) $$ [Hacc Hsl]
  · isplitl [Hacc] <;> iassumption
  iintro ⟨Hacc, Hpts⟩
  ihave Hl := (Entails.of_eq (am_leaves o (c := c))) $$ Hpts
  iapply (runs_each (amSendC c) iprop(ctx o κ ν ∗ amFree c ∗ hrd 0 15 c) (fun d => iprop(amLeaf o c d ∗ amTok c d)) (amOut o c) (fun n => Ow c (131 + n)) (fun d k => am_send o κ ν d k)) $$ [Hl Htok HO]
  · isplitr
    · isplitr; · iexact Hctx
      isplitr; · iexact Ham
      iexact Hh
    isplitr [HO]
    · iapply (Entails.of_eq (each_sep (amLeaf o c) (amTok c)).symm)
      isplitl [Hl] <;> iassumption
    iexact HO
  iintro ⟨-, Hout, HO⟩
  ihave HO := (Entails.of_eq (show (Ow c (131 + 16) : sProp 𝕄) = Ow c 147 from rfl)) $$ HO
  iapply (runs_each (amWaitC c) (ctx o κ ν) (fun d => iprop(amOut o c d ∗ amIn c d)) (fun d => iprop(amLeaf o c d ∗ amGot o c d)) (fun _ => Ow c 147) (fun d k => am_wait o κ ν d k)) $$ [Hout Hin HO]
  · isplitr; · iexact Hctx
    isplitr [HO]
    · iapply (Entails.of_eq (each_sep (amOut o c) (amIn c)).symm)
      isplitl [Hout] <;> iassumption
    iexact HO
  iintro ⟨-, Hgot, HO⟩
  ihave Hgot := (Entails.of_eq (each_sep (amLeaf o c) (amGot o c))) $$ Hgot
  ihave Hgot := (am_join o) $$ Hgot
  icases Hgot with ⟨Hall, Hend⟩
  iapply (am_read o (fun v => k (allMax v))) $$ Hall
  iintro Hall
  iapply Hk
  isplitl [Hacc]; · iexact Hacc
  isplitl [Hall]; · iexact Hall
  isplitl [Hend]; · iexact Hend
  iapply (Ow_skip c (n := 147) (n' := 148) (fun p => by cases p <;> simp only [ix] <;> omega))
  iexact HO

end Cert.Ring
-- ==== Proof.Outs.lean ====
/-
# Copies to the result

The copies of dequantised chunks to the result, step by step.
-/
module

public import proofs.«01_k».proof.Proof.Walk

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv)

variable {F : FTy → Type} [FloatOps F]

local notation "𝕄" => MT nD τ sig ℕ (Elt F) ℕ UU ℕ

variable (o : Ops F) (κ : Dev nD × Kind → ℕ) (ν : Key → ℕ)
variable {c : Dev nD} {Q : PUnit.{1} → sProp (MT nD τ sig ℕ (Elt F) ℕ UU ℕ)}

/-- The round of the copy of step `t` on its cell. -/
def oR (t : ℕ) : ℕ := t / 2 + 1 - t % 2

theorem oR_two (t : ℕ) : oR (t + 2) = oR t + 1 := by unfold oR; omega

theorem dut_ou (r : Fin 4) {t : ℕ} (h : t < 15) : dut c (oR t) (.ou r (par t)) = {0} :=
  if_pos (by show oR t + 2 * (t % 2) < 9; unfold oR; omega)

theorem pay_ou (r : Fin 4) (t : ℕ) : pay o c (oR t) 0 (.ou r (par t)) = ouPay o r t c := by
  show (if par t = 0 then if oR t = 0 then ou0Pay o r c else ouPay o r (2 * (oR t - 1)) c else ouPay o r (2 * oR t + 1) c) = _
  by_cases h : t % 2 = 0
  · rw [if_pos (Fin.ext h), if_neg (by unfold oR; omega), show 2 * (oR t - 1) = t by unfold oR; omega]
  · rw [if_neg (fun e => h (congrArg Fin.val e)), show 2 * oR t + 1 = t by unfold oR; omega]

/-- The copy of step `t` to the result under way. -/
def fl (r : Fin 4) (c : Dev nD) (t : ℕ) : sProp 𝕄 := iprop(posn c (.ou r (par t)) (oR t) ∗ crd c (.ou r (par t)) 0)

/-- The block of the result for step `t`. -/
abbrev outB (r : Fin 4) (t : Fin 15) (c : Dev nD) : Memref sig .tc .hbm S256x2048 .bf16 := outS (oOff r t c) (oOff_inb r t c)
/-- The block of the result for the own chunk. -/
abbrev outB0 (r : Fin 4) (c : Dev nD) : Memref sig .tc .hbm S256x2048 .bf16 := outS (oOff0 r c) (oOff0_inb r c)

theorem stp_val (t : Fin 15) : stp t.val = t := Fin.ext (Nat.mod_eq_of_lt t.isLt)

theorem ouPay_eq (r : Fin 4) (t : Fin 15) : ouPay o r t.val c = iprop(owns (c : Thread nD τ) (outB r t c) fullShare (deV o r (t.val + 1) c)
    ∗ owns (c : Thread nD τ) (slotM (deqM r) (par t.val)) fullShare (deV o r (t.val + 1) c)) := by
  have h : ∀ t' : Fin 15, t' = t → (iprop(owns (c : Thread nD τ) (outB r t' c) fullShare (deV o r (t.val + 1) c)
    ∗ owns (c : Thread nD τ) (slotM (deqM r) (par t.val)) fullShare (deV o r (t.val + 1) c)) : sProp 𝕄) = iprop(owns (c : Thread nD τ) (outB r t c) fullShare (deV o r (t.val + 1) c)
    ∗ owns (c : Thread nD τ) (slotM (deqM r) (par t.val)) fullShare (deV o r (t.val + 1) c)) := by intro t' e; subst e; rfl
  exact h _ (stp_val t)

/-- Start a copy to the result. -/
theorem put_gen (r : Fin 4) (s : Fin 2) (n : ℕ) (hd : dut c n (.ou r s) = {0}) (src : Memref sig .tc .vmem S256x2048 .bf16)
    (X : S256x2048.Idx → Elt F .bf16) (R : Fin 2 → ℕ) (hR : ∀ a, R a + S256x2048.size a ≤ S4096x8192.size a)
    (hpay : iprop(owns (c : Thread nD τ) (outS R hR) fullShare X ∗ owns (c : Thread nD τ) src fullShare X) ⊢ pay o c n 0 (.ou r s))
    {hsrc : src.view.WordExact} {hdst : (outS R hR).view.WordExact}
    {hsem : DmaTarget.Typed (nD := nD) (τ := τ) .vmem (.dma (dsem (ouS r) s)) (DmaTarget.here (nD := nD) (p := (.tc : Proc τ)) (outS R hR))} (k : PUnit → Pg F) :
    iprop(ctx o κ ν ∗ posn c (.ou r s) n ∗ owns (c : Thread nD τ) src fullShare X ∗ any c (outS R hR) ∗ dutyTok ER (cell c (.ou r s)) n 0)
      ⊢ iprop(((posn c (.ou r s) n ∗ crd c (.ou r s) 0) -∗ WP c (k ⟨⟩) Q)
        -∗ WP c (.op (.enqueueDma src (.here (outS R hR)) (.dma (dsem (ouS r) s)) hsrc hdst hsem) k) Q) := by
  unfold posn any owns crd
  iintro ⟨#Hctx, ⟨Hat, #Hr⟩, ⟨%f, %hf, Hsrc⟩, ⟨%v, %fd, -, Hdst⟩, Ht⟩ Hk
  have e1 : cell c (.ou r s) = ((c : Thread nD τ), SemLoc.dma (dsem (ouS r) s)) := rfl
  rw [e1]
  iapply (Rounds.wp_copy_pointsTo 𝒱₀ ER (Rd o) (c : Thread nD τ) none (src := src) (dst := outS R hR)
      (κ := κ (c, .ou r s)) (r := n) (d := 0) (q := fullShare) (fs := f) (fd := fd)
      (by rw [← e1, Rd_duties, hd]; exact Finset.mem_singleton_self _) 0 NB (show (outS R hR).view.amount (.dma (dsem (ouS r) s)) = NB from out_amount R hR) (by rw [← e1, Rd_amount]; rfl)
      (by
        rw [← e1, Rd_payload]
        refine BIBase.Entails.trans ?_ hpay
        unfold owns
        iintro ⟨Hd, Hs⟩
        isplitl [Hd]
        · iexists _
          isplitr
          swap; · iexact Hd
          ipureintro; rw [View.read_write_univ]; exact hf
        iexists f
        isplitr; · ipureintro; exact hf
        iexact Hs)) $$ [Hsrc Hdst Ht]
  · rw [← e1]
    isplitr; · iapply (ctx_cell o κ ν c (.ou r s)); iexact Hctx
    isplitl [Hsrc]; · iexact Hsrc
    isplitl [Hdst]; · iexact Hdst
    isplitl [Ht]; · iexact Ht
    iexact Hr
  iintro Hc
  iapply Hk
  isplitl [Hat]
  · isplitl [Hat]; · iexact Hat
    iexact Hr
  iexact Hc

theorem put_ok (r : Fin 4) (t : Fin 15) (k : Pg F) :
    iprop(ctx o κ ν ∗ posn c (.ou r (par t.val)) (oR t.val) ∗ owns (c : Thread nD τ) (slotM (deqM r) (par t.val)) fullShare (deV o r (t.val + 1) c)
        ∗ any c (outB r t c) ∗ dutyTok ER (cell c (.ou r (par t.val))) (oR t.val) 0)
      ⊢ iprop((fl r c t.val -∗ WP c k Q) -∗ WP c (putC c r t k) Q) := by
  unfold putC fl
  exact put_gen o κ ν r (par t.val) (oR t.val) (dut_ou r t.isLt) (slotM (deqM r) (par t.val)) (deV o r (t.val + 1) c) (oOff r t c) (oOff_inb r t c)
    (by rw [pay_ou, ouPay_eq]) (fun _ => k)

theorem put0_ok (r : Fin 4) (k : Pg F) :
    iprop(ctx o κ ν ∗ posn c (.ou r 0) 0 ∗ owns (c : Thread nD τ) (slotM (accM r) 0) fullShare (deV o r 0 c)
        ∗ any c (outB0 r c) ∗ dutyTok ER (cell c (.ou r 0)) 0 0)
      ⊢ iprop(((posn c (.ou r 0) 0 ∗ crd c (.ou r 0) 0) -∗ WP c k Q) -∗ WP c (put0C c r k) Q) := by
  unfold put0C
  exact put_gen o κ ν r 0 0 rfl (slotM (accM r) 0) (deV o r 0 c) (oOff0 r c) (oOff0_inb r c)
    (by show _ ⊢ ou0Pay o r c; unfold ou0Pay; exact BIBase.Entails.rfl) (fun _ => k)

theorem putWait_ok (r : Fin 4) (t : Fin 15) {n : ℕ} (hn : 0 < n) (k : Pg F) :
    iprop(ctx o κ ν ∗ fl r c t.val ∗ Ow c n)
      ⊢ iprop(((posn c (.ou r (par t.val)) (oR (t.val + 2)) ∗ owns (c : Thread nD τ) (outB r t c) fullShare (deV o r (t.val + 1) c)
          ∗ any c (slotM (deqM r) (par t.val)) ∗ Ow c n) -∗ WP c k Q) -∗ WP c (putWaitC c r t k) Q) := by
  unfold fl putWaitC
  rw [oR_two]
  iintro ⟨#Hctx, ⟨Hp, Hc⟩, HO⟩ Hk
  iapply (wait1 o κ ν (.ou r (par t.val)) (oR t.val) (dut_ou r t.isLt) 0 n hn (by omega)
    (fun K => (wpE_waitDma2_eq 𝒱₀ (c : Thread nD τ) none Set.univ K).trans (by rw [out_amount]; rfl))) $$ [Hp Hc HO]
  · isplitr; · iexact Hctx
    isplitl [Hp]; · iexact Hp
    isplitl [Hc]; · iexact Hc
    iexact HO
  iintro ⟨Hp, H, HO⟩
  ihave H := (Entails.of_eq ((pay_ou o r t.val).trans (ouPay_eq o r t))) $$ H
  icases H with ⟨H1, H2⟩
  iapply Hk
  isplitl [Hp]; · iexact Hp
  isplitl [H1]; · iexact H1
  isplitl [H2]; · iexists _; iexact H2
  iexact HO

theorem put0Wait_ok (r : Fin 4) {n : ℕ} (hn : 0 < n) (k : Pg F) :
    iprop(ctx o κ ν ∗ (posn c (.ou r 0) 0 ∗ crd c (.ou r 0) 0) ∗ Ow c n)
      ⊢ iprop(((posn c (.ou r 0) 1 ∗ ou0Pay o r c ∗ Ow c n) -∗ WP c k Q) -∗ WP c (put0WaitC c r k) Q) := by
  unfold put0WaitC
  iintro ⟨#Hctx, ⟨Hp, Hc⟩, HO⟩ Hk
  iapply (wait1 o κ ν (.ou r 0) 0 rfl 0 n hn (by omega)
    (fun K => (wpE_waitDma2_eq 𝒱₀ (c : Thread nD τ) none Set.univ K).trans (by rw [out_amount]; rfl))) $$ [Hp Hc HO]
  · isplitr; · iexact Hctx
    isplitl [Hp]; · iexact Hp
    isplitl [Hc]; · iexact Hc
    iexact HO
  iintro ⟨Hp, H, HO⟩
  iapply Hk
  isplitl [Hp]; · iexact Hp
  isplitl [H]; · iapply (Entails.of_eq (show pay o c 0 0 (.ou r 0) = ou0Pay o r c from rfl)); iexact H
  iexact HO

/-! ## The copies by step -/

/-- What step `t` waits for before it reuses its slot. -/
def flw (r : Fin 4) (c : Dev nD) : ℕ → sProp 𝕄
  | 0 => iprop((posn c (.ou r 0) 0 ∗ crd c (.ou r 0) 0) ∗ any c (slotM (deqM r) 0))
  | 1 => iprop(posn c (.ou r 1) 0 ∗ any c (slotM (deqM r) 1))
  | t + 2 => fl r c t

/-- The part of the result that step `t` finds finished. -/
def dn (r : Fin 4) (c : Dev nD) : ℕ → sProp 𝕄
  | 0 => ou0Pay o r c
  | 1 => iprop(emp)
  | t + 2 => owns (c : Thread nD τ) (outB r (stp t) c) fullShare (deV o r (t + 1) c)

/-- The part of the result that step `t` writes, and the token of that copy. -/
def rem (r : Fin 4) (c : Dev nD) (t : ℕ) : sProp 𝕄 :=
  iprop(any c (outB r (stp t) c) ∗ dutyTok ER (cell c (.ou r (par t))) (oR t) 0)

/-- The copies to the result of ring `r` before step `t`. -/
def outI (c : Dev nD) (t : ℕ) (r : Fin 4) : sProp 𝕄 :=
  iprop(flw r c t ∗ flw r c (t + 1) ∗ bigSep (Finset.range t) (dn o r c) ∗ bigSep (Finset.Ico t 15) (rem r c))

/-- The wait of step `t`. -/
abbrev stepWait (c : Dev nD) (r : Fin 4) (t : Fin 15) : Pg F → Pg F :=
  if t.val = 0 then put0WaitC c r else if h : 2 ≤ t.val then putWaitC c r ⟨t.val - 2, by omega⟩ else id

theorem stepWait_ok (r : Fin 4) (t : Fin 15) {n : ℕ} (hn : 0 < n) (k : Pg F) :
    iprop(ctx o κ ν ∗ flw r c t.val ∗ Ow c n)
      ⊢ iprop(((posn c (.ou r (par t.val)) (oR t.val) ∗ any c (slotM (deqM r) (par t.val)) ∗ dn o r c t.val ∗ Ow c n) -∗ WP c k Q)
        -∗ WP c (stepWait c r t k) Q) := by
  obtain ⟨t, ht⟩ := t
  rcases t with _ | _ | t
  · rw [show oR (⟨0, ht⟩ : Fin 15).val = 1 from (show oR 0 = 1 by decide)]
    show iprop(ctx o κ ν ∗ iprop((posn c (.ou r 0) 0 ∗ crd c (.ou r 0) 0) ∗ any c (slotM (deqM r) 0)) ∗ Ow c n)
      ⊢ iprop(((posn c (.ou r 0) 1 ∗ any c (slotM (deqM r) 0) ∗ ou0Pay o r c ∗ Ow c n) -∗ WP c k Q) -∗ WP c (put0WaitC c r k) Q)
    iintro ⟨#Hctx, ⟨H, Hany⟩, HO⟩ Hk
    iapply (put0Wait_ok o κ ν r hn k) $$ [H HO]
    · isplitr; · iexact Hctx
      isplitl [H] <;> iassumption
    iintro ⟨Hp, H, HO⟩
    iapply Hk
    isplitl [Hp]; · iexact Hp
    isplitl [Hany]; · iexact Hany
    isplitl [H] <;> iassumption
  · rw [show oR (⟨0 + 1, ht⟩ : Fin 15).val = 0 from (show oR 1 = 0 by decide)]
    show iprop(ctx o κ ν ∗ iprop(posn c (.ou r 1) 0 ∗ any c (slotM (deqM r) 1)) ∗ Ow c n)
      ⊢ iprop(((posn c (.ou r 1) 0 ∗ any c (slotM (deqM r) 1) ∗ emp ∗ Ow c n) -∗ WP c k Q) -∗ WP c k Q)
    iintro ⟨#Hctx, ⟨H, Hany⟩, HO⟩ Hk
    iapply Hk
    isplitl [H]; · iexact H
    isplitl [Hany]; · iexact Hany
    isplitr; · iempintro
    iexact HO
  · have ht' : t < 15 := by omega
    have h := putWait_ok (Q := Q) (c := c) o κ ν r ⟨t, ht'⟩ hn k
    have hp : par (t + 1 + 1) = par t := par_add_two t
    have hs : stp t = ⟨t, ht'⟩ := stp_val ⟨t, ht'⟩
    show iprop(ctx o κ ν ∗ fl r c t ∗ Ow c n)
      ⊢ iprop(((posn c (.ou r (par (t + 1 + 1))) (oR (t + 1 + 1)) ∗ any c (slotM (deqM r) (par (t + 1 + 1)))
          ∗ owns (c : Thread nD τ) (outB r (stp t) c) fullShare (deV o r (t + 1) c) ∗ Ow c n) -∗ WP c k Q) -∗ WP c (stepWait c r ⟨t + 1 + 1, ht⟩ k) Q)
    rw [hp, hs]
    have hw : stepWait c r ⟨t + 1 + 1, ht⟩ k = putWaitC c r ⟨t, ht'⟩ k := by
      unfold stepWait
      rw [if_neg (by show ¬ t + 1 + 1 = 0; omega), dif_pos (by show 2 ≤ t + 1 + 1; omega)]; rfl
    rw [hw]
    iintro H Hk
    iapply h $$ H
    iintro ⟨H1, H2, H3, H4⟩
    iapply Hk
    isplitl [H1]; · iexact H1
    isplitl [H3]; · iexact H3
    isplitl [H2] <;> iassumption

end Cert.Ring
-- ==== Proof.Ag.lean ====
/-
# The all-gather of the ring all-reduce

What a device holds before a step of the all-gather on a ring, and the step.
-/
module

public import proofs.«01_k».proof.Proof.Outs

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv)

variable {F : FTy → Type} [FloatOps F]

local notation "𝕄" => MT nD τ sig ℕ (Elt F) ℕ UU ℕ

variable (o : Ops F) (κ : Dev nD × Kind → ℕ) (ν : Key → ℕ)
variable {c : Dev nD} {Q : PUnit.{1} → sProp (MT nD τ sig ℕ (Elt F) ℕ UU ℕ)}

/-- The landing slots of the all-gather before step `t`: the one of message `t` is free for it, the other one is the
    source of message `t`. -/
def agRdr (r : Fin 4) (c : Dev nD) : ℕ → sProp 𝕄
  | 0 => two (fun s k => rdr c (.rv 1 r s) k) 0
  | t + 1 => if t + 1 < 15 then iprop(rdr c (.rv 1 r (par (t + 1))) ((t + 1) / 2) ∗ readerAt ES ((c, .rv 1 r (par t)) : Key) (t / 2 + 1))
      else iprop(any c (slotM (qrcM r) 0) ∗ any c (slotM (qrcM r) 1))

omit [FloatOps F] in
theorem agRdr_succ (r : Fin 4) {t : ℕ} (h : t + 1 < 15) : (agRdr r c (t + 1) : sProp 𝕄)
    = iprop(rdr c (.rv 1 r (par (t + 1))) ((t + 1) / 2) ∗ readerAt ES ((c, .rv 1 r (par t)) : Key) (t / 2 + 1)) := by
  unfold agRdr; exact if_pos h

def agFly (r : Fin 4) (c : Dev nD) (t : ℕ) : sProp 𝕄 := if t < 15 then crd c (.sd 1 r (par t)) 0 else iprop(emp)

def agOwn (r : Fin 4) (c : Dev nD) (t : ℕ) : sProp 𝕄 := if t = 0 then iprop(emp) else any c (ownM r)

/-- The credits still to pay, and those still to come. -/
abbrev payD (q : Fin 2) (r : Fin 4) (c : Dev nD) (j : ℕ) : sProp 𝕄 := bigSep (Finset.Ico j 13) (fun j => dutyTok ER (cell (prv r c) (.cr q r)) 0 j)
abbrev getD (q : Fin 2) (r : Fin 4) (c : Dev nD) (i : ℕ) : sProp 𝕄 :=
  iprop(bigSep (Finset.Ico i 13) (fun i => crd c (.cr q r) (3 + 144 * q.val + 8 * (i + 1 + q.val) + 2 * r.val)) ∗ cwt q r c (min i 13))

/-- What device `c` holds of ring `r` before step `t` of the all-gather. -/
def agI (c : Dev nD) (t : ℕ) (r : Fin 4) : sProp 𝕄 :=
  iprop(poss 1 r c t ∗ agRdr r c t ∗ agFly r c t ∗ agOwn r c t ∗ msgs 1 r c (t + 1) t ∗ (payD 1 r c (t - 1) ∗ getD 1 r c (t - 1)) ∗ outI o c t r)

/-- The rounds that are open at the arrivals. -/
def posR (r : Fin 4) (c : Dev nD) (t : ℕ) : sProp 𝕄 := two (fun s k => reached ER (cell c (.rv 1 r s)) k) t
omit [FloatOps F] in
instance posR_persistent (r c t) : BI.Persistent (posR (F := F) r c t) := by unfold posR two; infer_instance

omit [FloatOps F] in
theorem poss_posR (r : Fin 4) (t : ℕ) : (poss 1 r c t : sProp 𝕄) ⊢ posR r c t := by
  unfold poss posR two posn
  iintro ⟨⟨-, -, H1⟩, -, -, H2⟩
  isplitl [H1] <;> iassumption

omit [FloatOps F] in
theorem relAt_mk (r : Fin 4) (t : ℕ) : iprop(posR r c t ∗ released ES ((c, .rv 1 r (par t)) : Key) (t / 2 + 1)
    ∗ released ES ((c, .rv 1 r (par (t + 1))) : Key) ((t + 1) / 2 + 1)) ⊢ (relAt 1 r c t : sProp 𝕄) := by
  unfold relAt posR two freeS
  iintro ⟨⟨H1, H2⟩, H3, H4⟩
  isplitl [H1 H3]
  · isplitl [H3] <;> iassumption
  · isplitl [H4] <;> iassumption

/-- Message `t` has left and message `t` of the neighbour has arrived. -/
theorem ag_wait (r : Fin 4) (t : Fin 15) (k : Pg F) :
    iprop(ctx o κ ν ∗ poss 1 r c t.val ∗ crd c (.sd 1 r (par t.val)) 0 ∗ crd c (.rv 1 r (par t.val)) (4 + 144 * (1 : Fin 2).val + 8 * t.val + 2 * r.val)
        ∗ Ow c (155 + 8 * t.val + 2 * r.val))
      ⊢ iprop(((poss 1 r c (t.val + 1) ∗ owns (c : Thread nD τ) (agSrc r t.val) fullShare (quV o r t.val c)
          ∗ owns (c : Thread nD τ) (slotM (qrcM r) (par t.val)) fullShare (quV o r (t.val + 1) c) ∗ Ow c (155 + 8 * t.val + 2 * r.val)) -∗ WP c k Q)
        -∗ WP c (agWaitC c r t.val k) Q) := by
  unfold agWaitC poss
  rw [two_succ]
  unfold two
  iintro ⟨#Hctx, ⟨⟨HpS, HpR⟩, Hp2⟩, HcS, HcR, HO⟩ Hk
  iapply (wait1 o κ ν (.sd 1 r (par t.val)) (t.val / 2) (dut_sd 1 r t.isLt) 0 (155 + 8 * t.val + 2 * r.val) (by omega) (by omega)
    (fun K => (wpE_waitDma2_eq 𝒱₀ (c : Thread nD τ) none Set.univ K).trans (by rw [src_amount]; rfl))) $$ [HpS HcS HO]
  · isplitr; · iexact Hctx
    isplitl [HpS]; · iexact HpS
    isplitl [HcS]; · iexact HcS
    iexact HO
  iintro ⟨HpS, Hs, HO⟩
  iapply (wait1 o κ ν (.rv 1 r (par t.val)) (t.val / 2) (dut_rv 1 r t.isLt) (4 + 144 * (1 : Fin 2).val + 8 * t.val + 2 * r.val) (155 + 8 * t.val + 2 * r.val)
    (by simp <;> omega) (by simp <;> omega)
    (fun K => (wpE_waitDma2_eq 𝒱₀ (c : Thread nD τ) none Set.univ K).trans (by rw [qrc_amount]; rfl))) $$ [HpR HcR HO]
  · isplitr; · iexact Hctx
    isplitl [HpR]; · iexact HpR
    isplitl [HcR]; · iexact HcR
    iexact HO
  iintro ⟨HpR, Hv, HO⟩
  ihave Hs := (Entails.of_eq ((pay_sd o 1 r t.val).trans (if_neg (by decide)))) $$ Hs
  ihave Hv := (Entails.of_eq ((pay_rv o 1 r t.val).trans (if_neg (by decide)))) $$ Hv
  iapply Hk
  isplitl [HpS HpR Hp2]
  · isplitl [Hp2]; · iexact Hp2
    isplitl [HpS] <;> iassumption
  isplitl [Hs]; · iexact Hs
  isplitl [Hv]; · iexact Hv
  iexact HO

/-- The landing slots once message `t`'s source is freed. -/
def agMid (r : Fin 4) (c : Dev nD) (t : ℕ) : sProp 𝕄 := if t < 14 then agRdr r c (t + 1) else any c (slotM (qrcM r) 1)

theorem ag_free (r : Fin 4) (t : Fin 15) (k : Pg F) :
    iprop(ctx o κ ν ∗ posR r c t.val ∗ agRdr r c t.val ∗ agOwn r c t.val ∗ owns (c : Thread nD τ) (agSrc r t.val) fullShare (quV o r t.val c)
        ∗ payD 1 r c (t.val - 1) ∗ Ow c (155 + 8 * t.val + 2 * r.val))
      ⊢ iprop(((agMid r c t.val ∗ any c (ownM r) ∗ payD 1 r c t.val ∗ Ow c (156 + 8 * t.val + 2 * r.val)) -∗ WP c k Q)
        -∗ WP c ((if 1 ≤ t.val ∧ t.val ≤ 13 then cqC c r else id) k) Q) := by
  obtain ⟨t, ht⟩ := t
  have hr := r.isLt
  rcases t with _ | t
  · rw [if_neg (by show ¬ (1 ≤ 0 ∧ _); omega)]
    show iprop(ctx o κ ν ∗ posR r c 0 ∗ two (fun s k => rdr c (.rv 1 r s) k) 0 ∗ agOwn r c 0 ∗ owns (c : Thread nD τ) (ownM r) fullShare (quV o r 0 c)
        ∗ payD 1 r c 0 ∗ Ow c (155 + 8 * 0 + 2 * r.val))
      ⊢ iprop(((agMid r c 0 ∗ any c (ownM r) ∗ payD 1 r c 0 ∗ Ow c (156 + 8 * 0 + 2 * r.val)) -∗ WP c k Q) -∗ WP c k Q)
    unfold agMid two
    rw [if_pos (by omega), agRdr_succ r (by omega)]
    iintro ⟨#Hctx, -, ⟨H0, H1⟩, -, Hs, Hd, HO⟩ Hk
    iapply Hk
    isplitl [H0 H1]
    · isplitl [H1]; · iexact H1
      unfold rdr
      icases H0 with ⟨H0, -⟩
      iexact H0
    isplitl [Hs]; · iexists _; iexact Hs
    isplitl [Hd]; · iexact Hd
    iapply (Ow_skip c (n := 155 + 8 * 0 + 2 * r.val) (fun p => by cases p <;> simp only [ix] <;> omega))
    iexact HO
  · show iprop(ctx o κ ν ∗ posR r c (t + 1) ∗ agRdr r c (t + 1) ∗ agOwn r c (t + 1) ∗ owns (c : Thread nD τ) (slotM (qrcM r) (par t)) fullShare (quV o r (t + 1) c)
        ∗ payD 1 r c t ∗ Ow c (155 + 8 * (t + 1) + 2 * r.val))
      ⊢ iprop(((agMid r c (t + 1) ∗ any c (ownM r) ∗ payD 1 r c (t + 1) ∗ Ow c (156 + 8 * (t + 1) + 2 * r.val)) -∗ WP c k Q)
        -∗ WP c ((if 1 ≤ t + 1 ∧ t + 1 ≤ 13 then cqC c r else id) k) Q)
    unfold agMid agOwn
    rw [if_neg (by omega : ¬ t + 1 = 0)]
    by_cases h : t + 1 ≤ 13
    · rw [if_pos (by omega), if_pos (by omega)]
      rw [agRdr_succ r (by omega), agRdr_succ r (by omega), show par (t + 1 + 1) = par t from par_add_two t, show (t + 1 + 1) / 2 = t / 2 + 1 by omega]
      iintro ⟨#Hctx, #Hp, ⟨H0, H1⟩, Ho, Hs, Hd, HO⟩ Hk
      imod (Release.slot_release ES (Set.mem_univ (ν (c, .rv 1 r (par t)))) (rv_slot_false 1 r (par t)) (t / 2 + 1)) $$ [H1 Hs] with Hn
      · isplitr; · iapply (ctx_slot o κ ν (c, .rv 1 r (par t))); iexact Hctx
        isplitl [H1]; · iexact H1
        iapply (Entails.of_eq (slot1 r (par t)).symm); iexists _; iexact Hs
      ihave Hd := (ico_pop _ (show t < 13 by omega)) $$ Hd
      icases Hd with ⟨Hd1, Hd⟩
      unfold rdr
      icases H0 with ⟨H0, #Hr0⟩
      icases Hn with ⟨Hn, #Hrn⟩
      unfold cqC
      iapply (cred_pay o κ ν 1 r (j := t) (by omega) k) $$ [Hd1 HO]
      · isplitr; · iexact Hctx
        isplitl [Hd1]; · iexact Hd1
        isplitr
        · iapply (relAt_mk r (t + 1))
          isplitr; · iexact Hp
          isplitr; · iexact Hr0
          rw [show par (t + 1 + 1) = par t from par_add_two t, show (t + 1 + 1) / 2 + 1 = t / 2 + 1 + 1 by omega]
          iexact Hrn
        iapply (Entails.of_eq (congrArg (Ow c) (show 155 + 8 * (t + 1) + 2 * r.val = 3 + 144 * (1 : Fin 2).val + 8 * (t + 1 + (1 : Fin 2).val) + 2 * r.val by simp; omega)))
        iexact HO
      iintro HO
      iapply Hk
      isplitl [Hn H0]
      · isplitl [Hn]
        · isplitl [Hn]; · iexact Hn
          iexact Hrn
        iexact H0
      isplitl [Ho]; · iexact Ho
      isplitl [Hd]; · iexact Hd
      iapply (Entails.of_eq (congrArg (Ow c) (show 4 + 144 * (1 : Fin 2).val + 8 * (t + 1 + (1 : Fin 2).val) + 2 * r.val = 156 + 8 * (t + 1) + 2 * r.val by simp; omega)))
      iexact HO
    · obtain rfl : t = 13 := by omega
      rw [if_neg (by omega), if_neg (by omega)]
      iintro ⟨#Hctx, -, -, Ho, Hs, Hd, HO⟩ Hk
      iapply Hk
      isplitl [Hs]; · iexists _; iexact Hs
      isplitl [Ho]; · iexact Ho
      isplitl [Hd]; · iapply (ico_skip _ (show 13 ≤ 13 by omega) (show 13 ≤ 13 + 1 by omega)); iexact Hd
      iapply (Ow_skip c (n := 155 + 8 * (13 + 1) + 2 * r.val) (fun p => by cases p <;> simp only [ix] <;> omega))
      iexact HO

/-- The chunk that arrived is dequantised to its slot. -/
theorem ag_deq (r : Fin 4) (t : Fin 15) {n : ℕ} (hn : 0 < n) (k : Pg F) :
    iprop(ctx o κ ν ∗ owns (c : Thread nD τ) (slotM (qrcM r) (par t.val)) fullShare (quV o r (t.val + 1) c) ∗ flw r c t.val ∗ Ow c n)
      ⊢ iprop(((owns (c : Thread nD τ) (slotM (qrcM r) (par t.val)) fullShare (quV o r (t.val + 1) c) ∗ posn c (.ou r (par t.val)) (oR t.val)
          ∗ owns (c : Thread nD τ) (slotM (deqM r) (par t.val)) fullShare (deV o r (t.val + 1) c) ∗ dn o r c t.val ∗ Ow c n) -∗ WP c k Q)
        -∗ WP c (deqC (mx o) r t.val (stepWait c r t) k) Q) := by
  unfold deqC
  iintro ⟨#Hctx, Hq, Hf, HO⟩ Hk
  iapply (ld_slot (qrcM r) (par t.val) (quV o r (t.val + 1) c)) $$ Hq
  iintro Hq
  rw [shapeCast_shapeCast]
  iapply (stepWait_ok o κ ν r t hn _) $$ [Hf HO]
  · isplitr; · iexact Hctx
    isplitl [Hf] <;> iassumption
  iintro ⟨Hp, ⟨%v0, Hany⟩, Hdn, HO⟩
  iapply (st_slot (deqM r) (deqW r) (par t.val) v0 (deV o r (t.val + 1) c) k) $$ Hany
  iintro Hd
  iapply Hk
  isplitl [Hq]; · iexact Hq
  isplitl [Hp]; · iexact Hp
  isplitl [Hd]; · iexact Hd
  isplitl [Hdn] <;> iassumption

/-- Start the next message. -/
theorem ag_next (r : Fin 4) (t : Fin 15) (k : Pg F) :
    iprop(ctx o κ ν ∗ relAt 1 r (nxt r c) 0 ∗ owns (c : Thread nD τ) (slotM (qrcM r) (par t.val)) fullShare (quV o r (t.val + 1) c)
        ∗ agMid r c t.val ∗ poss 1 r c (t.val + 1) ∗ bigSep (Finset.Ico (t.val + 1) 15) (toks 1 r c) ∗ getD 1 r c (t.val - 1) ∗ Ow c (156 + 8 * t.val + 2 * r.val))
      ⊢ iprop(((agRdr r c (t.val + 1) ∗ agFly r c (t.val + 1) ∗ poss 1 r c (t.val + 1) ∗ bigSep (Finset.Ico (t.val + 2) 15) (toks 1 r c) ∗ getD 1 r c t.val
          ∗ Ow c (157 + 8 * t.val + 2 * r.val)) -∗ WP c k Q)
        -∗ WP c (if t.val + 1 ≤ 14 then (if 2 ≤ t.val + 1 then cqWaitC r else id) (agStartC c r (t.val + 1) k) else k) Q) := by
  have hr := r.isLt
  by_cases h : t.val + 1 ≤ 14
  · rw [if_pos h]
    unfold agMid agFly
    rw [if_pos (by omega), if_pos (by omega)]
    have start : iprop(ctx o κ ν ∗ owns (c : Thread nD τ) (slotM (qrcM r) (par t.val)) fullShare (quV o r (t.val + 1) c)
          ∗ agRdr r c (t.val + 1) ∗ poss 1 r c (t.val + 1) ∗ bigSep (Finset.Ico (t.val + 1) 15) (toks 1 r c) ∗ getD 1 r c t.val ∗ Ow c (156 + 8 * t.val + 2 * r.val)
          ∗ freeS (nxt r c, .rv 1 r (par (t.val + 1))) ((t.val + 1) / 2))
        ⊢ iprop(((agRdr r c (t.val + 1) ∗ crd c (.sd 1 r (par (t.val + 1))) 0 ∗ poss 1 r c (t.val + 1) ∗ bigSep (Finset.Ico (t.val + 2) 15) (toks 1 r c) ∗ getD 1 r c t.val
            ∗ Ow c (157 + 8 * t.val + 2 * r.val)) -∗ WP c k Q) -∗ WP c (agStartC c r (t.val + 1) k) Q) := by
      iintro ⟨#Hctx, Hq, Hr, Hp, Ht, Hg, HO, #Hf⟩ Hk
      ihave Ht := (ico_pop _ (show t.val + 1 < 15 by omega)) $$ Ht
      icases Ht with ⟨Ht1, Ht⟩
      ihave H := (persistent_entails_right (poss_reached (F := F) (c := c) 1 r (t.val + 1))) $$ Hp
      icases H with ⟨#Hre, Hp⟩
      iapply (agStart o κ ν r (show t.val + 1 < 15 by omega) k) $$ [Hq Ht1 HO]
      · isplitr; · iexact Hctx
        isplitl [Hq]; · iexact Hq
        isplitr; · iexact Hf
        isplitl [Ht1]; · iexact Ht1
        isplitr; · iexact Hre
        iapply (Entails.of_eq (congrArg (Ow c) (show 156 + 8 * t.val + 2 * r.val = 148 + 8 * (t.val + 1) + 2 * r.val by omega)))
        iexact HO
      iintro ⟨HcS, HO⟩
      iapply Hk
      isplitl [Hr]; · iexact Hr
      isplitl [HcS]; · iexact HcS
      isplitl [Hp]; · iexact Hp
      isplitl [Ht]; · iexact Ht
      isplitl [Hg]; · iexact Hg
      iapply (Entails.of_eq (congrArg (Ow c) (show 149 + 8 * (t.val + 1) + 2 * r.val = 157 + 8 * t.val + 2 * r.val by omega)))
      iexact HO
    iintro ⟨#Hctx, #Hrel0, Hq, Hr, Hp, Ht, Hg, HO⟩ Hk
    by_cases h0 : 2 ≤ t.val + 1
    · rw [if_pos h0]
      icases Hg with ⟨Hg1, Hg2⟩
      ihave Hg1 := (ico_pop _ (show t.val - 1 < 13 by omega)) $$ Hg1
      icases Hg1 with ⟨Hcr, Hg1⟩
      unfold cqWaitC
      iapply (cred_wait o κ ν 1 r (m := min (t.val - 1) 13) (i := 3 + 144 * (1 : Fin 2).val + 8 * (t.val - 1 + 1 + (1 : Fin 2).val) + 2 * r.val) (n := 156 + 8 * t.val + 2 * r.val)
        (by simp; omega) (by simp; omega) (agStartC c r (t.val + 1) k)) $$ [Hg2 Hcr HO]
      · isplitr; · iexact Hctx
        isplitl [Hg2]; · iexact Hg2
        isplitl [Hcr]; · iexact Hcr
        iexact HO
      iintro ⟨Hg2, #Hf, HO⟩
      iapply start $$ [Hq Hr Hp Ht Hg1 Hg2 HO]
      · isplitr; · iexact Hctx
        isplitl [Hq]; · iexact Hq
        isplitl [Hr]; · iexact Hr
        isplitl [Hp]; · iexact Hp
        isplitl [Ht]; · iexact Ht
        isplitl [Hg1 Hg2]
        · rw [show t.val - 1 + 1 = t.val by omega, show min (t.val - 1) 13 + 1 = min t.val 13 by omega]
          isplitl [Hg1] <;> iassumption
        isplitl [HO]; · iexact HO
        rw [show min (t.val - 1) 13 + 2 = t.val + 1 by omega]
        iexact Hf
      iexact Hk
    · rw [if_neg h0]
      have e : t.val - 1 = t.val := by omega
      rw [e]
      iapply start $$ [Hq Hr Hp Ht Hg HO]
      · isplitr; · iexact Hctx
        isplitl [Hq]; · iexact Hq
        isplitl [Hr]; · iexact Hr
        isplitl [Hp]; · iexact Hp
        isplitl [Ht]; · iexact Ht
        isplitl [Hg]; · iexact Hg
        isplitl [HO]; · iexact HO
        iapply (relAt_go 1 r (nxt r c) (show t.val + 1 ≤ 0 + 1 by omega)); iexact Hrel0
      iexact Hk
  · rw [if_neg h]
    obtain ⟨t, ht⟩ := t
    obtain rfl : t = 14 := by
      have h' : ¬ t + 1 ≤ 14 := h
      omega
    show iprop(ctx o κ ν ∗ relAt 1 r (nxt r c) 0 ∗ owns (c : Thread nD τ) (slotM (qrcM r) (par 14)) fullShare (quV o r (14 + 1) c)
        ∗ any c (slotM (qrcM r) 1) ∗ poss 1 r c (14 + 1) ∗ bigSep (Finset.Ico (14 + 1) 15) (toks 1 r c) ∗ getD 1 r c (14 - 1) ∗ Ow c (156 + 8 * 14 + 2 * r.val))
      ⊢ iprop(((iprop(any c (slotM (qrcM r) 0) ∗ any c (slotM (qrcM r) 1)) ∗ iprop(emp) ∗ poss 1 r c (14 + 1) ∗ bigSep (Finset.Ico (14 + 2) 15) (toks 1 r c) ∗ getD 1 r c 14
          ∗ Ow c (157 + 8 * 14 + 2 * r.val)) -∗ WP c k Q) -∗ WP c k Q)
    iintro ⟨#Hctx, -, Hq, Hm, Hp, Ht, ⟨Hg1, Hg2⟩, HO⟩ Hk
    iapply Hk
    isplitl [Hq Hm]
    · isplitl [Hq]; · iexists _; iexact Hq
      iexact Hm
    isplitr; · iempintro
    isplitl [Hp]; · iexact Hp
    isplitl [Ht]; · iapply (ico_skip _ (show 15 ≤ 14 + 1 by omega) (show 15 ≤ 14 + 2 by omega)); iexact Ht
    isplitl [Hg1 Hg2]
    · isplitl [Hg1]; · iapply (ico_skip _ (show 13 ≤ 14 - 1 by omega) (show 13 ≤ 14 by omega)); iexact Hg1
      iexact Hg2
    iapply (Ow_skip c (n := 156 + 8 * 14 + 2 * r.val) (fun p => by cases p <;> simp only [ix] <;> omega))
    iexact HO

omit [FloatOps F] in
theorem range_push (P : ℕ → sProp 𝕄) (n : ℕ) : iprop(bigSep (Finset.range n) P ∗ P n) ⊢ bigSep (Finset.range (n + 1)) P := by
  rw [bigSep_range_succ n P]; iintro ⟨H1, H2⟩; isplitl [H2] <;> iassumption

/-- Step `t` of the all-gather on ring `r`. -/
theorem ag_step (r : Fin 4) (t : Fin 15) (k : Pg F) :
    iprop(ctx o κ ν ∗ relAt 1 r (nxt r c) 0 ∗ agI o c t.val r ∗ Ow c (155 + 8 * t.val + 2 * r.val))
      ⊢ iprop(((agI o c (t.val + 1) r ∗ Ow c (157 + 8 * t.val + 2 * r.val)) -∗ WP c k Q) -∗ WP c (agStep c (mx o) r t k) Q) := by
  unfold agStep agI msgs outI
  iintro ⟨#Hctx, #Hrel0, ⟨Hp, Hr, Hfl, How, ⟨Ht, Hv⟩, ⟨Hd, Hg⟩, Hf1, Hf2, Hdn, Hrem⟩, HO⟩ Hk
  ihave Hv := (ico_pop _ t.isLt) $$ Hv
  icases Hv with ⟨Hv1, Hv⟩
  ihave H := (persistent_entails_right (poss_posR (F := F) (c := c) r t.val)) $$ Hp
  icases H with ⟨#Hre, Hp⟩
  iapply (ag_wait o κ ν r t _) $$ [Hp Hfl Hv1 HO]
  · isplitr; · iexact Hctx
    isplitl [Hp]; · iexact Hp
    isplitl [Hfl]; · iapply (Entails.of_eq (show agFly r c t.val = crd c (.sd 1 r (par t.val)) 0 from if_pos t.isLt)); iexact Hfl
    isplitl [Hv1]; · iexact Hv1
    iexact HO
  iintro ⟨Hp, Hs, Hq, HO⟩
  iapply (ag_free o κ ν r t _) $$ [Hr How Hs Hd HO]
  · isplitr; · iexact Hctx
    isplitr; · iexact Hre
    isplitl [Hr]; · iexact Hr
    isplitl [How]; · iexact How
    isplitl [Hs]; · iexact Hs
    isplitl [Hd]; · iexact Hd
    iexact HO
  iintro ⟨Hm, How, Hd, HO⟩
  iapply (ag_deq o κ ν r t (n := 156 + 8 * t.val + 2 * r.val) (by omega) _) $$ [Hq Hf1 HO]
  · isplitr; · iexact Hctx
    isplitl [Hq]; · iexact Hq
    isplitl [Hf1]; · iexact Hf1
    iexact HO
  iintro ⟨Hq, Hpo, Hde, Hdn1, HO⟩
  ihave Hrem := (ico_pop _ t.isLt) $$ Hrem
  icases Hrem with ⟨Hrem1, Hrem⟩
  unfold rem
  icases Hrem1 with ⟨Hb, Htk⟩
  have hb : (any c (outB r (stp t.val) c) : sProp 𝕄) = any c (outB r t c) := congrArg (fun t' => any c (outB r t' c)) (stp_val t)
  ihave Hb := (Entails.of_eq hb) $$ Hb
  iapply (put_ok o κ ν r t _) $$ [Hpo Hde Hb Htk]
  · isplitr; · iexact Hctx
    isplitl [Hpo]; · iexact Hpo
    isplitl [Hde]; · iexact Hde
    isplitl [Hb]; · iexact Hb
    iexact Htk
  iintro Hfn
  iapply (ag_next o κ ν r t k) $$ [Hq Hm Hp Ht Hg HO]
  · isplitr; · iexact Hctx
    isplitr; · iexact Hrel0
    isplitl [Hq]; · iexact Hq
    isplitl [Hm]; · iexact Hm
    isplitl [Hp]; · iexact Hp
    isplitl [Ht]; · iexact Ht
    isplitl [Hg]; · iexact Hg
    iexact HO
  iintro ⟨Hr, Hfl, Hp, Ht, Hg, HO⟩
  iapply Hk
  isplitr [HO]
  · isplitl [Hp]; · iexact Hp
    isplitl [Hr]; · iexact Hr
    isplitl [Hfl]; · iexact Hfl
    isplitl [How]; · iapply (Entails.of_eq (show agOwn r c (t.val + 1) = any c (ownM r) from if_neg (Nat.succ_ne_zero _)).symm); iexact How
    isplitl [Ht Hv]; · isplitl [Ht] <;> iassumption
    isplitl [Hd Hg]
    · isplitl [Hd]; · iexact Hd
      iexact Hg
    isplitl [Hf2]; · iexact Hf2
    isplitl [Hfn]; · iapply (Entails.of_eq (show flw r c (t.val + 1 + 1) = fl r c t.val from rfl).symm); iexact Hfn
    isplitl [Hdn Hdn1]
    · iapply (range_push (dn o r c) t.val); isplitl [Hdn] <;> iassumption
    iexact Hrem
  iexact HO

end Cert.Ring
-- ==== Proof.Gather.lean ====
/-
# The all-gather as a whole

Quantising, the all-gather, and the last copies.
-/
module

public import proofs.«01_k».proof.Proof.Ag

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv)

variable {F : FTy → Type} [FloatOps F]

local notation "𝕄" => MT nD τ sig ℕ (Elt F) ℕ UU ℕ

variable (o : Ops F) (κ : Dev nD × Kind → ℕ) (ν : Key → ℕ)
variable {c : Dev nD} {Q : PUnit.{1} → sProp (MT nD τ sig ℕ (Elt F) ℕ UU ℕ)}

omit [FloatOps F] in
theorem own_write : ∀ (r : Fin 4) (f : (ownM r).view.ty.Contents (Elt F)) (w : S256x2048.Idx → Elt F .i8),
    (ownM r).view.read (Elt F) (((ownM r).access wholeQ).write (Elt F) f w Finset.univ) = w
  | 0, f, w => Memref.write_access_unit_zero_univ (Elt F) cc0_scratch12 (funext (by decide)) inb_S256x2048_S256x2048_0_0 f w
  | 1, f, w => Memref.write_access_unit_zero_univ (Elt F) cc0_scratch13 (funext (by decide)) inb_S256x2048_S256x2048_0_0 f w
  | 2, f, w => Memref.write_access_unit_zero_univ (Elt F) cc0_scratch14 (funext (by decide)) inb_S256x2048_S256x2048_0_0 f w
  | 3, f, w => Memref.write_access_unit_zero_univ (Elt F) cc0_scratch15 (funext (by decide)) inb_S256x2048_S256x2048_0_0 f w

/-- The own chunk is quantised, and dequantised again. -/
theorem quant_ok (r : Fin 4) (k : Pg F) :
    iprop(owns (c : Thread nD τ) (slotM (accM r) 1) fullShare (accV o r 15 c) ∗ any c (slotM (accM r) 0) ∗ any c (ownM r))
      ⊢ iprop(((any c (slotM (accM r) 1) ∗ owns (c : Thread nD τ) (slotM (accM r) 0) fullShare (deV o r 0 c)
          ∗ owns (c : Thread nD τ) (ownM r) fullShare (quV o r 0 c)) -∗ WP c k Q) -∗ WP c (quantC (mx o) r k) Q) := by
  unfold quantC
  iintro ⟨H1, ⟨%v0, H0⟩, ⟨%w0, Ho⟩⟩ Hk
  iapply (ld_slot (accM r) 1 (accV o r 15 c)) $$ H1
  iintro H1
  unfold owns
  icases Ho with ⟨%f, -, Ho⟩
  iapply (wp_load 𝒱₀ (c : Thread nD τ) none Set.univ (m := ownM r) (S := (ownM r).view.set) (f := f) (View.setOn_subset_set _ _)) $$ Ho
  iintro Ho
  iapply (wp_store 𝒱₀ (c : Thread nD τ) none Set.univ (m := ownM r) (r := wholeQ) (Mk := Finset.univ) (S := (ownM r).view.set) (f := f)
    ((View.setOn_subset_set _ _).trans (View.set_slice_subset _ _))) $$ [Ho]
  · iexact Ho
  iintro Ho
  rw [shapeCast_self]
  iapply (st_slot (accM r) (accW r) 0 v0 (deV o r 0 c) k) $$ [H0]
  · unfold owns; iexact H0
  unfold owns
  iintro H0
  iapply Hk
  isplitl [H1]; · iexists (accV o r 15 c); unfold owns; iexact H1
  isplitl [H0]; · iexact H0
  iexists _
  isplitr
  swap; · iexact Ho
  ipureintro
  exact own_write r f (quV o r 0 c)

/-- What device `c` holds of ring `r` for the all-gather, its own chunks aside. -/
def agP (c : Dev nD) (r : Fin 4) : sProp 𝕄 :=
  iprop(poss 1 r c 0 ∗ two (fun s k => rdr c (.rv 1 r s) k) 0 ∗ msgs 1 r c 0 0 ∗ (payD 1 r c 0 ∗ getD 1 r c 0)
    ∗ posn c (.ou r 0) 0 ∗ any c (slotM (deqM r) 0) ∗ flw r c 1 ∗ any c (outB0 r c) ∗ dutyTok ER (cell c (.ou r 0)) 0 0 ∗ bigSep (Finset.Ico 0 15) (rem r c))

/-- What all steps of the all-gather use. -/
def agX (c : Dev nD) : sProp 𝕄 := iprop(ctx o κ ν ∗ four (fun r => relAt 1 r (nxt r c) 0))
instance agX_persistent (c) : BI.Persistent (agX o κ ν c) := by unfold agX; infer_instance

theorem ag_first (r : Fin 4) (k : Pg F) :
    iprop(agX o κ ν c ∗ ((owns (c : Thread nD τ) (slotM (accM r) 0) fullShare (deV o r 0 c) ∗ owns (c : Thread nD τ) (ownM r) fullShare (quV o r 0 c)) ∗ agP c r)
        ∗ Ow c (148 + 2 * r.val))
      ⊢ iprop(((agX o κ ν c ∗ agI o c 0 r ∗ Ow c (149 + 2 * r.val)) -∗ WP c k Q) -∗ WP c (agStartC c r 0 (put0C c r k)) Q) := by
  unfold agX agP agI msgs outI
  iintro ⟨⟨#Hctx, #Hrel⟩, ⟨⟨Ha, Ho⟩, Hp, Hr, ⟨Ht, Hv⟩, Hc, Hp0, Hd0, Hf1, Hb, Htk, Hrem⟩, HO⟩ Hk
  ihave Ht := (ico_pop _ (show 0 < 15 by omega)) $$ Ht
  icases Ht with ⟨Ht1, Ht⟩
  ihave H := (persistent_entails_right (poss_reached (F := F) (c := c) 1 r 0)) $$ Hp
  icases H with ⟨#Hre, Hp⟩
  iapply (agStart o κ ν r (show 0 < 15 by omega) _) $$ [Ho Ht1 HO]
  · isplitr; · iexact Hctx
    isplitl [Ho]; · iexact Ho
    isplitr
    · iapply (relAt_go 1 r (nxt r c) (show 0 ≤ 0 + 1 by omega))
      iapply (four_at (fun r => relAt 1 r (nxt r c) 0) r); iexact Hrel
    isplitl [Ht1]; · iexact Ht1
    isplitr; · iexact Hre
    iexact HO
  iintro ⟨HcS, HO⟩
  iapply (put0_ok o κ ν r k) $$ [Hp0 Ha Hb Htk]
  · isplitr; · iexact Hctx
    isplitl [Hp0]; · iexact Hp0
    isplitl [Ha]; · iexact Ha
    isplitl [Hb] <;> iassumption
  iintro Hf0
  iapply Hk
  isplitr; · isplitr; · iexact Hctx
             iexact Hrel
  isplitr [HO]
  · isplitl [Hp]; · iexact Hp
    isplitl [Hr]; · iapply (Entails.of_eq (show agRdr r c 0 = two (fun s k => rdr c (.rv 1 r s) k) 0 from rfl).symm); iexact Hr
    isplitl [HcS]; · iapply (Entails.of_eq (show agFly r c 0 = crd c (.sd 1 r (par 0)) 0 from if_pos (by decide)).symm); iexact HcS
    isplitr; · unfold agOwn; rw [if_pos rfl]; iempintro
    isplitl [Ht Hv]; · isplitl [Ht] <;> iassumption
    isplitl [Hc]; · iexact Hc
    isplitl [Hf0 Hd0]
    · iapply (Entails.of_eq (show flw r c 0 = iprop((posn c (.ou r 0) 0 ∗ crd c (.ou r 0) 0) ∗ any c (slotM (deqM r) 0)) from rfl).symm)
      isplitl [Hf0] <;> iassumption
    isplitl [Hf1]; · iexact Hf1
    isplitr; · rw [Finset.range_zero, bigSep_empty]; iempintro
    iexact Hrem
  iexact HO

theorem ag_loop (k : Pg F) :
    iprop(agX o κ ν c ∗ four (agI o c 0) ∗ Ow c 155)
      ⊢ iprop(((agX o κ ν c ∗ four (agI o c 15) ∗ Ow c 275) -∗ WP c k Q)
        -∗ WP c (runs (steps.map fun t => runs (rings.map fun r => agStep c (mx o) r t)) k) Q) := by
  refine runs_steps (c := c) (Q := Q) (fun t => runs (rings.map fun r => agStep c (mx o) r t))
    (fun t => iprop(agX o κ ν c ∗ four (agI o c t) ∗ Ow c (155 + 8 * t))) (fun t k => ?_) k
  refine runs_rings (c := c) (Q := Q) (fun r => agStep c (mx o) r t) (agX o κ ν c) (agI o c t.val) (agI o c (t.val + 1))
    (fun n => Ow c (155 + 8 * t.val + 2 * n)) (fun r k => ?_) k
  unfold agX
  iintro ⟨⟨#Hctx, #Hrel⟩, HI, HO⟩ Hk
  iapply (ag_step o κ ν r t k) $$ [HI HO]
  · isplitr; · iexact Hctx
    isplitr; · iapply (four_at (fun r => relAt 1 r (nxt r c) 0) r); iexact Hrel
    isplitl [HI] <;> iassumption
  iintro ⟨HI, HO⟩
  iapply Hk
  isplitr; · isplitr; · iexact Hctx
             iexact Hrel
  isplitl [HI]; · iexact HI
  iapply (Entails.of_eq (congrArg (Ow c) (show 157 + 8 * t.val + 2 * r.val = 155 + 8 * t.val + 2 * (r.val + 1) by omega)))
  iexact HO

/-- What device `c` holds of ring `r` at the end. -/
def agE (c : Dev nD) (r : Fin 4) : sProp 𝕄 :=
  iprop(poss 1 r c 15 ∗ agRdr r c 15 ∗ any c (ownM r) ∗ cwt 1 r c 13
    ∗ (posn c (.ou r 0) 9 ∗ posn c (.ou r 1) 7) ∗ (any c (slotM (deqM r) 0) ∗ any c (slotM (deqM r) 1))
    ∗ bigSep (Finset.range 17) (dn o r c))

theorem dn_at (r : Fin 4) (t : Fin 15) : dn o r c (t.val + 2) = owns (c : Thread nD τ) (outB r t c) fullShare (deV o r (t.val + 1) c) :=
  congrArg (fun t' => (owns (c : Thread nD τ) (outB r t' c) fullShare (deV o r (t.val + 1) c) : sProp 𝕄)) (stp_val t)

theorem ag_last (r : Fin 4) (k : Pg F) :
    iprop(agX o κ ν c ∗ agI o c 15 r ∗ Ow c 275)
      ⊢ iprop(((agX o κ ν c ∗ agE o c r ∗ Ow c 275) -∗ WP c k Q) -∗ WP c (putWaitC c r 13 (putWaitC c r 14 k)) Q) := by
  unfold agX agI agE outI
  iintro ⟨⟨#Hctx, #Hrel⟩, ⟨Hp, Hr, -, Ho, -, ⟨-, -, Hc⟩, Hf1, Hf2, Hdn, -⟩, HO⟩ Hk
  iapply (putWait_ok o κ ν r 13 (n := 275) (by omega) _) $$ [Hf1 HO]
  · isplitr; · iexact Hctx
    isplitl [Hf1]; · iapply (Entails.of_eq (show flw r c 15 = fl r c (13 : Fin 15).val from rfl)); iexact Hf1
    iexact HO
  iintro ⟨Hp1, Hd1, Ha1, HO⟩
  iapply (putWait_ok o κ ν r 14 (n := 275) (by omega) _) $$ [Hf2 HO]
  · isplitr; · iexact Hctx
    isplitl [Hf2]; · iapply (Entails.of_eq (show flw r c 16 = fl r c (14 : Fin 15).val from rfl)); iexact Hf2
    iexact HO
  iintro ⟨Hp2, Hd2, Ha2, HO⟩
  iapply Hk
  isplitr; · isplitr; · iexact Hctx
             iexact Hrel
  isplitr [HO]
  · isplitl [Hp]; · iexact Hp
    isplitl [Hr]; · iexact Hr
    isplitl [Ho]; · iapply (Entails.of_eq (show agOwn r c 15 = any c (ownM r) from if_neg (by decide))); iexact Ho
    isplitl [Hc]; · iexact Hc
    isplitl [Hp1 Hp2]
    · isplitl [Hp2]; · iexact Hp2
      iexact Hp1
    isplitl [Ha1 Ha2]
    · isplitl [Ha2]; · iexact Ha2
      iexact Ha1
    iapply (range_push (dn o r c) 16)
    isplitl [Hdn Hd1]
    · iapply (range_push (dn o r c) 15)
      isplitl [Hdn]; · iexact Hdn
      iapply (Entails.of_eq (dn_at o r 13).symm); iexact Hd1
    iapply (Entails.of_eq (dn_at o r 14).symm); iexact Hd2
  iexact HO

theorem ag_all (k : Pg F) :
    iprop(agX o κ ν c ∗ four (fun r => iprop(owns (c : Thread nD τ) (slotM (accM r) 1) fullShare (accV o r 15 c) ∗ any c (slotM (accM r) 0) ∗ any c (ownM r)))
        ∗ four (agP c) ∗ Ow c 148)
      ⊢ iprop(((four (fun r => any c (slotM (accM r) 1)) ∗ four (agE o c) ∗ Ow c 275) -∗ WP c k Q) -∗ WP c (agPart c (mx o) k) Q) := by
  unfold agPart
  iintro ⟨#HX, Ha, HP, HO⟩ Hk
  iapply (runs_rings (c := c) (Q := Q) (quantC (mx o)) (agX o κ ν c)
    (fun r => iprop(owns (c : Thread nD τ) (slotM (accM r) 1) fullShare (accV o r 15 c) ∗ any c (slotM (accM r) 0) ∗ any c (ownM r)))
    (fun r => iprop(any c (slotM (accM r) 1) ∗ owns (c : Thread nD τ) (slotM (accM r) 0) fullShare (deV o r 0 c) ∗ owns (c : Thread nD τ) (ownM r) fullShare (quV o r 0 c)))
    (fun _ => Ow c 148) (fun r k => by
      iintro ⟨#HX, H, HO⟩ Hk
      iapply (quant_ok o r k) $$ H
      iintro H
      iapply Hk
      isplitr; · iexact HX
      isplitl [H] <;> iassumption) _) $$ [Ha HO]
  · isplitr; · iexact HX
    isplitl [Ha]; · iexact Ha
    iexact HO
  iintro ⟨-, Ha, HO⟩
  ihave Ha := (four_split _ _) $$ Ha
  icases Ha with ⟨Ha1, Ha⟩
  ihave HI := (four_sep _ _) $$ [Ha HP]
  · isplitl [Ha] <;> iassumption
  iapply (runs_rings (c := c) (Q := Q) (fun r k => agStartC c r 0 (put0C c r k)) (agX o κ ν c)
    (fun r => iprop((owns (c : Thread nD τ) (slotM (accM r) 0) fullShare (deV o r 0 c) ∗ owns (c : Thread nD τ) (ownM r) fullShare (quV o r 0 c)) ∗ agP c r)) (agI o c 0)
    (fun n => Ow c (if n = 4 then 155 else 148 + 2 * n)) (fun r k => by
      rw [if_neg (by omega)]
      iintro ⟨HX, HI, HO⟩ Hk
      iapply (ag_first o κ ν r k) $$ [HX HI HO]
      · isplitl [HX]; · iexact HX
        isplitl [HI] <;> iassumption
      iintro ⟨HX, HI, HO⟩
      iapply Hk
      isplitl [HX]; · iexact HX
      isplitl [HI]; · iexact HI
      iapply (Ow_skip c (n := 149 + 2 * r.val) (fun p => by
        have := r.isLt
        split
        · rw [show r.val = 3 by omega]
        · cases p <;> simp only [ix] <;> omega))
      iexact HO) _) $$ [HI HO]
  · isplitr; · iexact HX
    isplitl [HI]; · iexact HI
    iexact HO
  iintro ⟨-, HI, HO⟩
  iapply (ag_loop o κ ν _) $$ [HI HO]
  · isplitr; · iexact HX
    isplitl [HI]; · iexact HI
    iexact HO
  iintro ⟨-, HI, HO⟩
  iapply (runs_rings (c := c) (Q := Q) (fun r k => putWaitC c r 13 (putWaitC c r 14 k)) (agX o κ ν c) (agI o c 15) (agE o c) (fun _ => Ow c 275)
    (fun r k => ag_last o κ ν r k) k) $$ [HI HO]
  · isplitr; · iexact HX
    isplitl [HI]; · iexact HI
    iexact HO
  iintro ⟨-, HI, HO⟩
  iapply Hk
  isplitl [Ha1]; · iexact Ha1
  isplitl [HI]; · iexact HI
  iexact HO

end Cert.Ring
-- ==== Proof.Buffers.lean ====
/-
# The buffers and their parts

A buffer of two slots is its slots, and the result is its blocks.
-/
module

public import proofs.«01_k».proof.Proof.Gather

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv)

variable {F : FTy → Type} [FloatOps F]

local notation "𝕄" => MT nD τ sig ℕ (Elt F) ℕ UU ℕ

variable {c : Dev nD}

/-! ## A buffer of two slots -/

omit [FloatOps F] in
theorem any_pts {dt : EltTy} {sp : Space} {sh : Shape} (m : Memref sig .tc sp sh dt) :
    (any c m : sProp 𝕄) ⊢ iprop(∃ f, m.view.loc (c : Thread nD τ) ↦[m.view.set]{fullShare} f) := by
  unfold any owns
  iintro ⟨%v, %f, -, H⟩
  iexists f; iexact H

omit [FloatOps F] in
theorem pts_any {dt : EltTy} {sp : Space} {sh : Shape} (m : Memref sig .tc sp sh dt) (f : m.view.ty.Contents (Elt F)) :
    (m.view.loc (c : Thread nD τ) ↦[m.view.set]{fullShare} f : sProp 𝕄) ⊢ any c m := by
  unfold any owns
  iintro H
  iexists _; iexists f
  isplitr; · ipureintro; rfl
  iexact H

theorem row_emb (s : Fin 2) (x : S1x256x2048.Idx) : ((row s).emb x 0).val = s.val := by
  show s.val + 1 * (x 0).val = s.val
  have : (x 0).val < 1 := (x 0).isLt
  omega

theorem row_mem (s : Fin 2) (j : S2x256x2048.Idx) (h : (j 0).val = s.val) : ∃ x, (row s).emb x = j := by
  refine ⟨(fun a => match a with | 0 => ⟨0, by decide⟩ | 1 => j 1 | 2 => j 2 : S1x256x2048.Idx), funext fun a => Fin.ext ?_⟩
  fin_cases a
  · show s.val + 1 * 0 = (j 0).val; omega
  · show 0 + 1 * (j 1).val = (j 1).val; omega
  · show 0 + 1 * (j 2).val = (j 2).val; omega

theorem mem_slot {dt : EltTy} (M : Memref sig .tc .vmem S2x256x2048 dt) (s : Fin 2) (i) :
    i ∈ (slotM M s).view.set ↔ ∃ j : S2x256x2048.Idx, (j 0).val = s.val ∧ M.view.emb j = i := by
  rw [slot_set]
  constructor
  · intro h
    obtain ⟨x, -, rfl⟩ := Finset.mem_map.mp h
    exact ⟨(row s).emb x, row_emb s x, rfl⟩
  · rintro ⟨j, hj, rfl⟩
    obtain ⟨x, rfl⟩ := row_mem s j hj
    exact Finset.mem_map.mpr ⟨x, Finset.mem_univ _, rfl⟩

theorem slot_union {dt : EltTy} (M : Memref sig .tc .vmem S2x256x2048 dt) : (slotM M 0).view.set ∪ (slotM M 1).view.set = M.view.set := by
  ext i
  rw [Finset.mem_union, mem_slot, mem_slot]
  constructor
  · rintro (⟨j, -, rfl⟩ | ⟨j, -, rfl⟩) <;> exact View.emb_mem_set _ _
  · intro h
    obtain ⟨j, -, rfl⟩ := Finset.mem_map.mp h
    have : (j 0).val < 2 := (j 0).isLt
    by_cases h0 : (j 0).val = 0
    · exact .inl ⟨j, h0, rfl⟩
    · exact .inr ⟨j, show (j 0).val = 1 by omega, rfl⟩

theorem slot_disj {dt : EltTy} (M : Memref sig .tc .vmem S2x256x2048 dt) : Disjoint (slotM M 0).view.set (slotM M 1).view.set := by
  refine Finset.disjoint_left.mpr fun i hi hj => ?_
  obtain ⟨j, h0, rfl⟩ := (mem_slot M 0 i).mp hi
  obtain ⟨j', h1, he⟩ := (mem_slot M 1 _).mp hj
  have := M.view.emb.injective he
  subst this
  exact absurd (h0.symm.trans h1) (by decide)

omit [FloatOps F] in
theorem slots_of {dt : EltTy} (M : Memref sig .tc .vmem S2x256x2048 dt) : (any c M : sProp 𝕄) ⊢ iprop(any c (slotM M 0) ∗ any c (slotM M 1)) := by
  iintro H
  ihave H := (any_pts M) $$ H
  icases H with ⟨%f, H⟩
  rw [← slot_union M]
  ihave H := (pointsTo_union (slot_disj M)).1 $$ H
  icases H with ⟨H0, H1⟩
  isplitl [H0]
  · iapply (pts_any (slotM M 0) f); iexact H0
  · iapply (pts_any (slotM M 1) f); iexact H1

omit [FloatOps F] in
theorem of_slots {dt : EltTy} (M : Memref sig .tc .vmem S2x256x2048 dt) : iprop(any c (slotM M 0) ∗ any c (slotM M 1)) ⊢ (any c M : sProp 𝕄) := by
  iintro ⟨H0, H1⟩
  ihave H0 := (any_pts (slotM M 0)) $$ H0
  ihave H1 := (any_pts (slotM M 1)) $$ H1
  icases H0 with ⟨%f, H0⟩
  icases H1 with ⟨%g, H1⟩
  iapply (pts_any M ((slotM M 1).view.set.piecewise g f))
  rw [← slot_union M]
  iapply (pointsTo_join (slot_disj M))
  isplitl [H0] <;> iassumption

/-! ## Index sets -/

omit [FloatOps F] in
theorem range_cons (P : ℕ → sProp 𝕄) : ∀ n, bigSep (Finset.range (n + 1)) P = iprop(P 0 ∗ bigSep (Finset.range n) fun t => P (t + 1))
  | 0 => by
    rw [bigSep_range_succ]
    rfl
  | n + 1 => by
    rw [bigSep_range_succ, range_cons P n, bigSep_range_succ n]
    have h : ∀ A B C : sProp 𝕄, iprop(A ∗ B ∗ C) ⊢ iprop(B ∗ A ∗ C) := fun A B C => by
      iintro ⟨HA, HB, HC⟩
      isplitl [HB]; · iexact HB
      isplitl [HA] <;> iassumption
    exact BI.Entails.antisymm (h _ _ _) (h _ _ _)

omit [FloatOps F] in
theorem univ_range (n : ℕ) (P : ℕ → sProp 𝕄) : (bigSep Finset.univ fun t : Fin n => P t.val) = bigSep (Finset.range n) P := by
  have h : Finset.range n = Finset.univ.map (Fin.valEmbedding (n := n)) := by
    ext i; simp only [Finset.mem_range, Finset.mem_map, Finset.mem_univ, true_and]
    exact ⟨fun h => ⟨⟨i, h⟩, rfl⟩, fun ⟨j, h⟩ => h ▸ j.isLt⟩
  rw [h, bigSep_map]; rfl

omit [FloatOps F] in
theorem four_univ (P : Fin 4 → sProp 𝕄) : bigSep Finset.univ P = four P := bigSep_univ_eq_bigSepL [0, 1, 2, 3] (by decide) (by decide) P

/-! ## The result, block by block -/

/-- Where the `t`-th chunk that ring `r` writes to the result lies. -/
def oOffT (r : Fin 4) (c : Dev nD) : ℕ → Fin 2 → ℕ
  | 0 => oOff0 r c
  | t + 1 => oOff r (stp t) c
theorem oOffT_inb (r : Fin 4) (c : Dev nD) : ∀ t a, oOffT r c t a + S256x2048.size a ≤ S4096x8192.size a
  | 0 => oOff0_inb r c
  | t + 1 => oOff_inb r (stp t) c
/-- That block of the result. -/
abbrev outT (r : Fin 4) (c : Dev nD) (t : ℕ) : Memref sig .tc .hbm S256x2048 .bf16 := outS (oOffT r c t) (oOffT_inb r c t)

/-- The block's row. -/
def blk (r : Fin 4) (c : Dev nD) (t : ℕ) : ℕ := if r.val < 2 then (c.val + 17 - t) % 16 else (c.val + 15 + t) % 16

theorem oOff0_eq : ∀ (r : Fin 4) (c : Dev nD), oOff0 r c = ![256 * blk r c 0, 2048 * r.val] := by decide +kernel
theorem oOff_eq : ∀ (r : Fin 4) (c : Dev nD) (t : Fin 15), oOff r t c = ![256 * blk r c (t.val + 1), 2048 * r.val] := by decide +kernel

theorem oOffT_eq (r : Fin 4) (c : Dev nD) : ∀ t, t < 16 → oOffT r c t = ![256 * blk r c t, 2048 * r.val]
  | 0, _ => oOff0_eq r c
  | t + 1, h => by
    show oOff r (stp t) c = _
    rw [oOff_eq, show (stp t).val = t from Nat.mod_eq_of_lt (by omega)]

theorem blk_inj : ∀ (r : Fin 4) (c : Dev nD) (t t' : Fin 16), blk r c t.val = blk r c t'.val → t = t' := by decide +kernel
theorem blk_onto : ∀ (r : Fin 4) (c : Dev nD) (q : Fin 16), ∃ t : Fin 16, blk r c t.val = q.val := by decide +kernel

theorem mem_outS (R : Fin 2 → ℕ) (h : ∀ a, R a + S256x2048.size a ≤ S4096x8192.size a) (a b : ℕ) (e : R = ![256 * a, 2048 * b]) (i : S4096x8192.Idx) :
    i ∈ (outS R h).view.set ↔ (i 0).val / 256 = a ∧ (i 1).val / 2048 = b := by
  subst e
  constructor
  · intro hi
    obtain ⟨x, -, rfl⟩ := Finset.mem_map.mp hi
    have h0 : (x 0).val < 256 := (x 0).isLt
    have h1 : (x 1).val < 2048 := (x 1).isLt
    constructor
    · show (256 * a + 1 * (x 0).val) / 256 = a; omega
    · show (2048 * b + 1 * (x 1).val) / 2048 = b; omega
  · rintro ⟨h0, h1⟩
    have l0 : (i 0).val - 256 * a < 256 := by omega
    have l1 : (i 1).val - 2048 * b < 2048 := by omega
    refine Finset.mem_map.mpr ⟨(fun d => match d with | 0 => ⟨(i 0).val - 256 * a, l0⟩ | 1 => ⟨(i 1).val - 2048 * b, l1⟩ : S256x2048.Idx), Finset.mem_univ _, ?_⟩
    refine funext fun d => Fin.ext ?_
    fin_cases d
    · show 256 * a + 1 * ((i 0).val - 256 * a) = (i 0).val; omega
    · show 2048 * b + 1 * ((i 1).val - 2048 * b) = (i 1).val; omega

/-- The elements of a block. -/
abbrev outK (c : Dev nD) (p : Fin 4 × Fin 16) : Finset S4096x8192.Idx := (outT p.1 c p.2.val).view.set

theorem mem_outK (c : Dev nD) (p : Fin 4 × Fin 16) (i : S4096x8192.Idx) :
    i ∈ outK c p ↔ (i 0).val / 256 = blk p.1 c p.2.val ∧ (i 1).val / 2048 = p.1.val :=
  mem_outS _ _ _ _ (oOffT_eq p.1 c p.2.val p.2.isLt) i

theorem outK_union (c : Dev nD) : (Finset.univ.biUnion (outK c)) = (Finset.univ : Finset S4096x8192.Idx) := by
  ext i
  simp only [Finset.mem_biUnion, Finset.mem_univ, true_and, iff_true]
  have h0 : (i 0).val < 4096 := (i 0).isLt
  have h1 : (i 1).val < 8192 := (i 1).isLt
  obtain ⟨t, ht⟩ := blk_onto ⟨(i 1).val / 2048, by omega⟩ c ⟨(i 0).val / 256, by omega⟩
  exact ⟨(⟨(i 1).val / 2048, by omega⟩, t), (mem_outK c _ i).mpr ⟨ht.symm, rfl⟩⟩

theorem outK_disj (c : Dev nD) : ∀ p ∈ (Finset.univ : Finset (Fin 4 × Fin 16)), ∀ p' ∈ (Finset.univ : Finset (Fin 4 × Fin 16)), p ≠ p' → Disjoint (outK c p) (outK c p') := by
  rintro ⟨r, t⟩ _ ⟨r', t'⟩ _ hne
  refine Finset.disjoint_left.mpr fun i hi hj => hne ?_
  have h := (mem_outK c _ i).mp hi
  have h' := (mem_outK c _ i).mp hj
  have hr : r = r' := Fin.ext (h.2.symm.trans h'.2)
  subst hr
  rw [blk_inj r c t t' (h.1.symm.trans h'.1)]

omit [FloatOps F] in
theorem out_of (f : (main_v1 : Ref sig .tc).ty.Contents (Elt F)) : (outM.view.loc (c : Thread nD τ) ↦[Finset.univ]{fullShare} f : sProp 𝕄)
    ⊢ four fun r => iprop(any c (outB0 r c) ∗ bigSep (Finset.Ico 0 15) fun t => any c (outB r (stp t) c)) := by
  have h := pointsTo_biUnion (Ix := ℕ) (Val := Elt F) (Name := ℕ) (U := UU) (Lvl := ℕ) (ℓ := outM.view.loc (c : Thread nD τ)) (q := fullShare) (f := f) Finset.univ (outK c) (outK_disj c)
  have h2 : (outM.view.loc (c : Thread nD τ) ↦[Finset.univ]{fullShare} f : sProp 𝕄) = bigSep Finset.univ fun p => outM.view.loc (c : Thread nD τ) ↦[outK c p]{fullShare} f :=
    Eq.trans (congrArg (fun I : Finset S4096x8192.Idx => (outM.view.loc (c : Thread nD τ) ↦[I]{fullShare} f : sProp 𝕄)) (outK_union c).symm) h
  rw [h2, bigSep_univ_prod (fun p => (outM.view.loc (c : Thread nD τ) ↦[outK c p]{fullShare} f : sProp 𝕄)), ← four_univ]
  refine bigSep_mono fun r _ => ?_
  have h3 : (bigSep Finset.univ fun t : Fin 16 => (outM.view.loc (c : Thread nD τ) ↦[outK c (r, t)]{fullShare} f : sProp 𝕄))
      ⊢ bigSep Finset.univ fun t : Fin 16 => (any c (outT r c t.val) : sProp 𝕄) := bigSep_mono fun t _ => pts_any (outT r c t.val) f
  refine h3.trans (Entails.of_eq ?_)
  rw [univ_range 16 (fun t => (any c (outT r c t) : sProp 𝕄)), range_cons, Finset.range_eq_Ico]
  rfl

variable (o : Ops F)

omit [FloatOps F] in
theorem read_congr {dt : EltTy} {sp : Space} {sh : Shape} (m : Memref sig .tc sp sh dt) (f g : m.view.ty.Contents (Elt F)) (h : ∀ i ∈ m.view.set, g i = f i) :
    m.view.read (Elt F) g = m.view.read (Elt F) f := by
  funext x
  rw [View.read_apply, View.read_apply, h _ (View.emb_mem_set _ _)]

theorem to_out : (four fun r => bigSep (Finset.range 16) fun t => owns (c : Thread nD τ) (outT r c t) fullShare (deV o r t c) : sProp 𝕄)
    ⊢ iprop(∃ f : (main_v1 : Ref sig .tc).ty.Contents (Elt F), ⌜∀ (r : Fin 4) (t : Fin 16), (outT r c t.val).view.read (Elt F) f = deV o r t.val c⌝
        ∗ (outM.view.loc (c : Thread nD τ) ↦[Finset.univ]{fullShare} f)) := by
  rw [← four_univ]
  have h1 : (bigSep Finset.univ fun r : Fin 4 => bigSep (Finset.range 16) fun t => owns (c : Thread nD τ) (outT r c t) fullShare (deV o r t c) : sProp 𝕄)
      = bigSep Finset.univ fun p : Fin 4 × Fin 16 => iprop(∃ f : (main_v1 : Ref sig .tc).ty.Contents (Elt F), ⌜(outT p.1 c p.2.val).view.read (Elt F) f = deV o p.1 p.2.val c⌝
          ∗ (outM.view.loc (c : Thread nD τ) ↦[outK c p]{fullShare} f)) := by
    rw [bigSep_univ_prod]
    refine bigSep_congr fun r _ => ?_
    rw [← univ_range 16 (fun t => (owns (c : Thread nD τ) (outT r c t) fullShare (deV o r t c) : sProp 𝕄))]
    rfl
  rw [h1]
  iintro H
  ihave H := (BI.bigSep_exists_pi Finset.univ (fun (p : Fin 4 × Fin 16) (f : (main_v1 : Ref sig .tc).ty.Contents (Elt F)) =>
    (iprop(⌜(outT p.1 c p.2.val).view.read (Elt F) f = deV o p.1 p.2.val c⌝ ∗ (outM.view.loc (c : Thread nD τ) ↦[outK c p]{fullShare} f)) : sProp 𝕄))) $$ H
  icases H with ⟨%fs, H⟩
  ihave H := (bigSep_pure_sep Finset.univ (fun p : Fin 4 × Fin 16 => (outT p.1 c p.2.val).view.read (Elt F) (fs p) = deV o p.1 p.2.val c)
    (fun p => (outM.view.loc (c : Thread nD τ) ↦[outK c p]{fullShare} (fs p) : sProp 𝕄))) $$ H
  icases H with ⟨%hfs, H⟩
  ihave H := (pointsTo_biUnion_join (Ix := ℕ) (Val := Elt F) (Name := ℕ) (U := UU) (Lvl := ℕ) (ℓ := outM.view.loc (c : Thread nD τ)) (q := fullShare) Finset.univ (outK c) fs (fs (0, 0)) (outK_disj c)) $$ H
  icases H with ⟨%g, %hg, H⟩
  iexists g
  isplitr
  · ipureintro
    intro r t
    rw [← hfs (r, t) (Finset.mem_univ _)]
    exact read_congr (outT r c t.val) (fs (r, t)) g (hg (r, t) (Finset.mem_univ _))
  rw [← outK_union c]
  iexact H

/-- What the all-gather leaves of ring `r` in the result. -/
theorem dn_out (r : Fin 4) : bigSep (Finset.range 17) (dn o r c)
    ⊢ iprop((bigSep (Finset.range 16) fun t => owns (c : Thread nD τ) (outT r c t) fullShare (deV o r t c)) ∗ any c (slotM (accM r) 0)) := by
  rw [range_cons (dn o r c) 16, range_cons _ 15, range_cons (fun t => owns (c : Thread nD τ) (outT r c t) fullShare (deV o r t c)) 15]
  have h0 : dn o r c 0 = iprop(owns (c : Thread nD τ) (outT r c 0) fullShare (deV o r 0 c) ∗ owns (c : Thread nD τ) (slotM (accM r) 0) fullShare (deV o r 0 c)) := rfl
  rw [h0]
  iintro ⟨⟨H0, Ha⟩, -, H⟩
  isplitr [Ha]
  · isplitl [H0]; · iexact H0
    iexact H
  iexists _; iexact Ha

end Cert.Ring
-- ==== Proof.Enter.lean ====
/-
# The start of the ring all-reduce

The operands into the kernel's own buffers, the barrier, and all slots freed.
-/
module

public import proofs.«01_k».proof.Proof.Amax
public import proofs.«01_k».proof.Proof.Buffers

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv)

variable {F : FTy → Type} [FloatOps F]

local notation "𝕄" => MT nD τ sig ℕ (Elt F) ℕ UU ℕ

variable (o : Ops F) (κ : Dev nD × Kind → ℕ) (ν : Key → ℕ)
variable {c : Dev nD} {Q : PUnit.{1} → sProp (MT nD τ sig ℕ (Elt F) ℕ UU ℕ)}

/-! ## The operands into the kernel's own buffers -/

omit [FloatOps F] in
theorem rd_x (f : (cc0_stg0_0 : Ref sig .tc).ty.Contents (Elt F)) : (Memref.whole cc0_stg0_0 : Memref sig .tc .vmem S4096x256 .bf16).view.readAt (Elt F) wholeX.toLoadRect f = f :=
  Memref.readAt_unit_zero (Elt F) cc0_stg0_0 (funext (by decide)) _ f
omit [FloatOps F] in
theorem rd_w (f : (cc0_stg1_0 : Ref sig .tc).ty.Contents (Elt F)) : (Memref.whole cc0_stg1_0 : Memref sig .tc .vmem S256x8192 .bf16).view.readAt (Elt F) wholeW.toLoadRect f = f :=
  Memref.readAt_unit_zero (Elt F) cc0_stg1_0 (funext (by decide)) _ f
omit [FloatOps F] in
theorem wr_x (f w : (cc0_scratch51 : Ref sig .tc).ty.Contents (Elt F)) : (xbM.access wholeX).write (Elt F) f w Finset.univ = w :=
  Memref.write_access_unit_zero_univ (Elt F) cc0_scratch51 (funext (by decide)) inb_S4096x256_S4096x256_0_0 f w
omit [FloatOps F] in
theorem wr_w (f w : (cc0_scratch52 : Ref sig .tc).ty.Contents (Elt F)) : (wbM.access wholeW).write (Elt F) f w Finset.univ = w :=
  Memref.write_access_unit_zero_univ (Elt F) cc0_scratch52 (funext (by decide)) inb_S256x8192_S256x8192_0_0 f w

/-- A whole scratch of operands, whatever it holds. -/
def xb0 (c : Dev nD) : sProp 𝕄 :=
  iprop((∃ f, xbM.view.loc (c : Thread nD τ) ↦[Finset.univ]{fullShare} f) ∗ (∃ f, wbM.view.loc (c : Thread nD τ) ↦[Finset.univ]{fullShare} f))

abbrev sxM : Memref sig .tc .vmem S4096x256 .bf16 := Memref.whole cc0_stg0_0
abbrev swM : Memref sig .tc .vmem S256x8192 .bf16 := Memref.whole cc0_stg1_0

/-- The staged operands. -/
def stgs (c : Dev nD) : sProp 𝕄 :=
  iprop((sxM.view.loc (c : Thread nD τ) ↦[Finset.univ]{fullShare} (o.x c)) ∗ (swM.view.loc (c : Thread nD τ) ↦[Finset.univ]{fullShare} (o.w c)))

theorem copy_in (k : Pg F) :
    iprop(stgs o c ∗ xb0 c) ⊢ iprop(((stgs o c ∗ xw o c) -∗ WP c k Q) -∗ WP c (copyInC sxM swM k) Q) := by
  unfold copyInC stgs xb0 xw
  iintro ⟨⟨H0, H1⟩, ⟨%f, Hx⟩, ⟨%g, Hw⟩⟩ Hk
  iapply (wp_load 𝒱₀ (c : Thread nD τ) none Set.univ (m := sxM) (Finset.subset_univ _)) $$ H0
  iintro H0
  iapply (wp_load 𝒱₀ (c : Thread nD τ) none Set.univ (m := xbM) (Finset.subset_univ _)) $$ Hx
  iintro Hx
  iapply (wp_store 𝒱₀ (c : Thread nD τ) none Set.univ (m := xbM) (r := wholeX) (Mk := Finset.univ) (Finset.subset_univ _)) $$ Hx
  iintro Hx
  iapply (wp_load 𝒱₀ (c : Thread nD τ) none Set.univ (m := swM) (Finset.subset_univ _)) $$ H1
  iintro H1
  iapply (wp_load 𝒱₀ (c : Thread nD τ) none Set.univ (m := wbM) (Finset.subset_univ _)) $$ Hw
  iintro Hw
  iapply (wp_store 𝒱₀ (c : Thread nD τ) none Set.univ (m := wbM) (r := wholeW) (Mk := Finset.univ) (Finset.subset_univ _)) $$ Hw
  iintro Hw
  have ex : (xbM.access wholeX).write (Elt F) f (shapeCast S4096x256 (shapeCast S4096x256 (sxM.view.readAt (Elt F) wholeX.toLoadRect (o.x c)) shapeCasts_S4096x256_S4096x256) shapeCasts_S4096x256_S4096x256) Finset.univ = o.x c := by
    have h : ∀ v : Vec F S4096x256 .bf16, v = o.x c → (xbM.access wholeX).write (Elt F) f (shapeCast S4096x256 (shapeCast S4096x256 v shapeCasts_S4096x256_S4096x256) shapeCasts_S4096x256_S4096x256) Finset.univ = o.x c := by
      intro v hv; rw [shapeCast_self, shapeCast_self]; exact (wr_x f v).trans hv
    exact h _ (rd_x (o.x c))
  have ew : (wbM.access wholeW).write (Elt F) g (shapeCast S256x8192 (shapeCast S256x8192 (swM.view.readAt (Elt F) wholeW.toLoadRect (o.w c)) shapeCasts_S256x8192_S256x8192) shapeCasts_S256x8192_S256x8192) Finset.univ = o.w c := by
    have h : ∀ v : Vec F S256x8192 .bf16, v = o.w c → (wbM.access wholeW).write (Elt F) g (shapeCast S256x8192 (shapeCast S256x8192 v shapeCasts_S256x8192_S256x8192) shapeCasts_S256x8192_S256x8192) Finset.univ = o.w c := by
      intro v hv; rw [shapeCast_self, shapeCast_self]; exact (wr_w g v).trans hv
    exact h _ (rd_w (o.w c))
  rw [ex, ew]
  iapply Hk
  isplitl [H0 H1]
  · isplitl [H0]; · iexact H0
    iexact H1
  isplitl [Hx]; · iexact Hx
  iexact Hw

/-! ## The barrier -/

/-- The neighbour device `c` signals with duty `b`. -/
abbrev nbr (c : Dev nD) (b : Fin 2) : Dev nD := if b = 0 then lft c else rgt c

theorem bar_sig (b : Fin 2) (k : Pg F) :
    iprop(ctx o κ ν ∗ dutyTok ER (cell (nbr c b) .bar) 0 b.val ∗ barPay b.val (nbr c b) ∗ Ow c (1 + b.val))
      ⊢ iprop((Ow c (2 + b.val) -∗ WP c k Q) -∗ WP c (sigC (nbr c b) barS k) Q) := by
  unfold sigC Ow
  simp only [semSignalWord, Prog.lift, Prog.bind_op, Prog.bind_ret]
  iintro ⟨#Hctx, Ht, Hp, ⟨%W, HO⟩⟩ Hk
  have ho : owed c (1 + b.val) = owed c (2 + b.val) + tallyAt (((nbr c b : Dev nD) : Thread nD τ), SemLoc.reg barS) (1 + b.val) 1 := by
    rw [show 2 + b.val = 1 + b.val + 1 by omega]
    exact owed_pop c (.bar b)
  have hp : (Rd o).payload (((nbr c b : Dev nD) : Thread nD τ), SemLoc.reg barS) 0 b.val = barPay b.val (nbr c b) := Rd_payload o (nbr c b) .bar 0 b.val
  iapply (Rounds.wp_signal 𝒱₀ ER (Rd o) (c : Thread nD τ) none (dst := ((nbr c b : Dev nD) : Thread nD τ)) (sem := barS)
      (κ := κ (nbr c b, .bar)) (r := 0) (d := b.val) (k' := (1#32).toInt.toNat)
      (by show b.val ∈ (Rd o).duties (cell (nbr c b) .bar) 0; rw [Rd_duties]; show b.val ∈ ({0, 1} : Finset ℕ); clear * - b; revert b; decide)
      (Rd_amount o (nbr c b) .bar 0 b.val) _ _ ho (W := W)) $$ [Ht Hp HO]
  · isplitr; · iapply (ctx_cell o κ ν (nbr c b) .bar); iexact Hctx
    isplitl [HO]; · iexact HO
    isplitl [Ht]; · iexact Ht
    isplitl [Hp]
    · iapply (Entails.of_eq hp.symm)
      iexact Hp
    iapply (ctx_reached o κ ν (nbr c b) .bar); iexact Hctx
  iintro HO
  iapply Hk
  iexists W; iexact HO

/-- The two units of the barrier. -/
abbrev cr2 : Tally ℕ := Finsupp.single 1 1 + Finsupp.single 2 1

omit [FloatOps F] in
theorem bar_may : (levAts L lv : sProp 𝕄) ⊢ MayOwe (c : Thread nD τ) {(SemLoc.reg barS, 1), (SemLoc.reg barS, 2)} (owed c 3) :=
  MayOwe.of_levAts (fun p hp => by
      rcases Finset.mem_insert.mp hp with rfl | hp
      · show 1 ∈ L _; unfold L; rw [if_pos rfl]; decide
      · rw [Finset.mem_singleton.mp hp]; show 2 ∈ L _; unfold L; rw [if_pos rfl]; decide)
    (fun g i h => by
      obtain ⟨h1, h2, h3⟩ := owed_pos h
      unfold L; rw [if_pos h1]; exact Finset.mem_range.mpr h2)
    fun g i h p hp => by
      obtain ⟨h1, h2, h3⟩ := owed_pos h
      rcases Finset.mem_insert.mp hp with rfl | hp
      · show 1 < i; omega
      · rw [Finset.mem_singleton.mp hp]; show 2 < i; omega

set_option maxRecDepth 100000 in
theorem ctx_bar : ctx o κ ν ⊢ MayOwe (c : Thread nD τ) {(SemLoc.reg barS, 1), (SemLoc.reg barS, 2)} (owed c 3) := by
  have h1 := ctx_lev o κ ν
  have h2 := bar_may (F := F) (c := c)
  exact h1.trans h2

omit [FloatOps F] in
theorem cr2_mem : (cr2.support.image fun i => ((SemLoc.reg barS : SemLoc sig), i)) ⊆ {(SemLoc.reg barS, 1), (SemLoc.reg barS, 2)} := by
  intro p hp
  obtain ⟨i, hi, rfl⟩ := Finset.mem_image.mp hp
  rcases Finset.mem_union.mp (Finsupp.support_add hi) with h | h
  · rw [Finset.mem_singleton.mp (Finsupp.support_single_subset h)]; exact Finset.mem_insert_self _ _
  · rw [Finset.mem_singleton.mp (Finsupp.support_single_subset h)]; exact Finset.mem_insert_of_mem (Finset.mem_singleton_self _)

theorem bar_wait (k : Pg F) :
    iprop(ctx o κ ν ∗ posn c .bar 0 ∗ (crd c .bar 1 ∗ crd c .bar 2) ∗ Ow c 3)
      ⊢ iprop(((posn c .bar 1 ∗ barPay 0 c ∗ barPay 1 c ∗ Ow c 3) -∗ WP c k Q) -∗ WP c (waitC barS 2#32 k) Q) := by
  unfold waitC Ow posn
  simp only [semWaitWord, Prog.lift, Prog.bind_op, Prog.bind_ret]
  iintro ⟨#Hctx, ⟨Hat, -⟩, Hc, ⟨%W, HO⟩⟩ Hk
  have hex : (Rd o).expect (cell c .bar) 0 = 2 := Rd_expect o c .bar 0
  have hcr : iprop(crd c .bar 1 ∗ crd c .bar 2) ⊢ (cred (tallyOn ((c : Thread nD τ), SemLoc.reg barS) cr2) : sProp 𝕄) := by
    refine (cred_add _ _).2.trans (Entails.of_eq (congrArg cred ?_))
    exact (Pi.single_add (f := fun _ : GSem nD τ sig => Tally ℕ) _ _ _).symm
  ihave Hc := hcr $$ Hc
  iapply (Rounds.wp_wait_rest 𝒱₀ ER (Rd o) (c : Thread nD τ) none (κ := κ (c, .bar)) (wpE_semWait_eq 𝒱₀ (c : Thread nD τ) none Set.univ) (Set.mem_univ _)
      (k' := 2) (cr := cr2) (O := owed c 3) (W := W) {(SemLoc.reg barS, 1), (SemLoc.reg barS, 2)} (R := 0) (m := 0) (T := ∅)
      (by exact hex.symm) (by rw [Util.total_add, Util.total_single, Util.total_single]) cr2_mem) $$ [Hc HO Hat]
  · isplitr; · iapply (ctx_cell o κ ν c .bar); iexact Hctx
    isplitl [Hc]; · iexact Hc
    isplitl [HO]; · iexact HO
    isplitr; · iapply (ctx_bar o κ ν); iexact Hctx
    iexact Hat
  iintro ⟨HO, Hat, #Hr, Hp⟩
  have hp : bigSep ((Rd o).duties ((c : Thread nD τ), SemLoc.reg barS) 0 \ ∅) (fun d => (Rd o).payload ((c : Thread nD τ), SemLoc.reg barS) 0 d)
      = (iprop(barPay 0 c ∗ barPay 1 c) : sProp 𝕄) := by
    rw [Finset.sdiff_empty, show (Rd o).duties ((c : Thread nD τ), SemLoc.reg barS) 0 = insert 0 {1} from Rd_duties o c .bar 0]
    refine (bigSep_insert (by decide)).trans ?_
    rw [bigSep_singleton]
    exact congrArg₂ (fun a b : sProp 𝕄 => iprop(a ∗ b)) (Rd_payload o c .bar 0 0) (Rd_payload o c .bar 0 1)
  ihave Hp := (Entails.of_eq hp) $$ Hp
  icases Hp with ⟨Hp0, Hp1⟩
  iapply Hk
  isplitl [Hat]
  · isplitl [Hat]; · iexact Hat
    iexact Hr
  isplitl [Hp0]; · iexact Hp0
  isplitl [Hp1]; · iexact Hp1
  iexists _; iexact HO

/-! ## All slots freed at the start -/

omit [FloatOps F] in
theorem ar_slot_false (d : Fin 16) : iprop(slotOf ((c, .ar d) : Key) ∗ slotOf ((c, .ar d) : Key)) ⊢ (False : sProp 𝕄) := by
  obtain ⟨j, hj⟩ : ((amS d).view.set : Finset (Idx ((amS d).view.loc (c : Thread nD τ)))).Nonempty :=
    ⟨_, (amS d).view.emb_mem_set (fun a => ⟨0, by fin_cases a <;> decide⟩)⟩
  show iprop(any c (amS d) ∗ any c (amS d)) ⊢ (False : sProp 𝕄)
  unfold any owns
  iintro ⟨⟨%v, %f, -, Hf⟩, ⟨%w, %g, -, Hg⟩⟩
  iapply (pointsTo_overlap_false (ℓ := (amS d).view.loc (c : Thread nD τ)) (I := (amS d).view.set) (J := (amS d).view.set) (q := fullShare) (f := f) (g := g) hj hj)
  isplitl [Hf] <;> iassumption

theorem rv_first (q : Fin 2) (r : Fin 4) (s : Fin 2) :
    iprop(ctx o κ ν ∗ readerAt ES ((c, .rv q r s) : Key) 0 ∗ slotOf ((c, .rv q r s) : Key)) ⊢ iprop(|={Set.univ}=> rdr c (.rv q r s) 0) := by
  unfold rdr
  iintro ⟨#Hctx, Hr, Hs⟩
  iapply (Release.slot_release ES (Set.mem_univ (ν (c, .rv q r s))) (rv_slot_false q r s) 0)
  isplitr; · iapply (ctx_slot o κ ν (c, .rv q r s)); iexact Hctx
  isplitl [Hr] <;> iassumption

theorem ar_first (d : Fin 16) :
    iprop(ctx o κ ν ∗ readerAt ES ((c, .ar d) : Key) 0 ∗ any c (amS d)) ⊢ iprop(|={Set.univ}=> released ES ((c, .ar d) : Key) 1) := by
  iintro ⟨#Hctx, Hr, Hs⟩
  imod (Release.slot_release ES (Set.mem_univ (ν (c, .ar d))) (ar_slot_false d) 0) $$ [Hr Hs] with ⟨-, #H⟩
  · isplitr; · iapply (ctx_slot o κ ν (c, .ar d)); iexact Hctx
    isplitl [Hr]; · iexact Hr
    iapply (Entails.of_eq (show (any c (amS d) : sProp 𝕄) = slotOf ((c, .ar d) : Key) from rfl)); iexact Hs
  imodintro; iexact H

/-- The readers of the two slots of a ring. -/
abbrev rds (q : Fin 2) (r : Fin 4) (c : Dev nD) : sProp 𝕄 := iprop(readerAt ES ((c, .rv q r 0) : Key) 0 ∗ readerAt ES ((c, .rv q r 1) : Key) 0)
/-- The two slots of a ring. -/
abbrev sls (q : Fin 2) (r : Fin 4) (c : Dev nD) : sProp 𝕄 := iprop(slotOf ((c, .rv q r 0) : Key) ∗ slotOf ((c, .rv q r 1) : Key))
/-- Both slots of a ring free. -/
abbrev rd0 (q : Fin 2) (r : Fin 4) (c : Dev nD) : sProp 𝕄 := two (fun s k => rdr c (.rv q r s) k) 0

theorem free2 (q : Fin 2) (r : Fin 4) : iprop(ctx o κ ν ∗ rds q r c ∗ sls q r c) ⊢ iprop(|={Set.univ}=> (rd0 q r c ∗ relAt q r c 0)) := by
  iintro ⟨#Hctx, ⟨H0, H1⟩, S0, S1⟩
  imod (rv_first o κ ν q r 0) $$ [H0 S0] with H0
  · isplitr; · iexact Hctx
    isplitl [H0] <;> iassumption
  imod (rv_first o κ ν q r 1) $$ [H1 S1] with H1
  · isplitr; · iexact Hctx
    isplitl [H1] <;> iassumption
  imodintro
  unfold rd0 rdr relAt two freeS
  icases H0 with ⟨H0, #R0⟩
  icases H1 with ⟨H1, #R1⟩
  isplitl
  · isplitl [H0]
    · isplitl [H0]; · iexact H0
      iexact R0
    isplitl [H1]; · iexact H1
    iexact R1
  isplitr
  · isplitr; · iexact R0
    iapply (ctx_reached o κ ν c (.rv q r 0)); iexact Hctx
  isplitr; · iexact R1
  iapply (ctx_reached o κ ν c (.rv q r 1)); iexact Hctx

theorem free8 (q : Fin 2) : iprop(ctx o κ ν ∗ four (fun r => rds q r c) ∗ four (fun r => sls q r c))
    ⊢ iprop(|={Set.univ}=> (four (fun r => rd0 q r c) ∗ four (fun r => relAt q r c 0))) := by
  unfold four
  iintro ⟨#Hctx, ⟨A0, A1, A2, A3⟩, B0, B1, B2, B3⟩
  imod (free2 o κ ν q 0) $$ [A0 B0] with ⟨A0, B0⟩
  · isplitr; · iexact Hctx
    isplitl [A0] <;> iassumption
  imod (free2 o κ ν q 1) $$ [A1 B1] with ⟨A1, B1⟩
  · isplitr; · iexact Hctx
    isplitl [A1] <;> iassumption
  imod (free2 o κ ν q 2) $$ [A2 B2] with ⟨A2, B2⟩
  · isplitr; · iexact Hctx
    isplitl [A2] <;> iassumption
  imod (free2 o κ ν q 3) $$ [A3 B3] with ⟨A3, B3⟩
  · isplitr; · iexact Hctx
    isplitl [A3] <;> iassumption
  imodintro
  isplitl [A0 A1 A2 A3]
  · isplitl [A0]; · iexact A0
    isplitl [A1]; · iexact A1
    isplitl [A2] <;> iassumption
  isplitl [B0]; · iexact B0
  isplitl [B1]; · iexact B1
  isplitl [B2] <;> iassumption

omit [FloatOps F] in
theorem upd_all (P : Fin 16 → sProp 𝕄) : (bigSep Finset.univ fun d => iprop(|={Set.univ}=> P d)) ⊢ iprop(|={Set.univ}=> bigSep Finset.univ P) := bigSep_fupd _ _

theorem free_am : iprop(ctx o κ ν ∗ bigSep Finset.univ (fun d : Fin 16 => readerAt ES ((c, .ar d) : Key) 0) ∗ bigSep Finset.univ (fun d : Fin 16 => any c (amS d)))
    ⊢ iprop(|={Set.univ}=> amFree c) := by
  refine BIBase.Entails.trans ?_ (upd_all (F := F) fun d => released ES ((c, .ar d) : Key) 1)
  refine (sep_mono_r (Entails.of_eq (each_sep (fun d : Fin 16 => (readerAt ES ((c, .ar d) : Key) 0 : sProp 𝕄)) (fun d => any c (amS d))).symm)).trans ?_
  refine bigSep_with_persistent fun d _ => ?_
  exact ar_first o κ ν d

/-! ## The barrier as a whole -/

omit [FloatOps F] in
theorem rgt_lft : ∀ c : Dev nD, rgt (lft c) = c := by decide
omit [FloatOps F] in
theorem lft_rgt : ∀ c : Dev nD, lft (rgt c) = c := by decide

theorem start (k : Pg F) :
    iprop((ctx o κ ν ∗ four (fun r => relAt 0 r c 0) ∗ four (fun r => relAt 1 r c 0))
        ∗ (dutyTok ER (cell (lft c) .bar) 0 0 ∗ dutyTok ER (cell (rgt c) .bar) 0 1) ∗ posn c .bar 0 ∗ (crd c .bar 1 ∗ crd c .bar 2) ∗ Ow c 1
        ∗ stgs o c ∗ xb0 c)
      ⊢ iprop(((posn c .bar 1 ∗ (four (fun r => relAt 0 r (nxt r c) 0) ∗ four (fun r => relAt 1 r (nxt r c) 0)) ∗ Ow c 3 ∗ stgs o c ∗ xw o c) -∗ WP c k Q)
        -∗ WP c (barSigC c <| copyInC sxM swM <| waitC barS 2#32 k) Q) := by
  unfold barSigC four
  iintro ⟨⟨#Hctx, ⟨#A0, #A1, #A2, #A3⟩, ⟨#B0, #B1, #B2, #B3⟩⟩, ⟨T0, T1⟩, Hat, Hc, HO, Hs, Hx⟩ Hk
  iapply (bar_sig o κ ν 0) $$ [T0 HO]
  · isplitr; · iexact Hctx
    isplitl [T0]; · iexact T0
    isplitr
    · iapply (Entails.of_eq (show (iprop((relAt 0 0 c 0 ∗ relAt 0 1 c 0) ∗ (relAt 1 0 c 0 ∗ relAt 1 1 c 0)) : sProp 𝕄) = barPay (0 : Fin 2).val (nbr c 0) by
        show _ = iprop((relAt 0 0 (rgt (lft c)) 0 ∗ relAt 0 1 (rgt (lft c)) 0) ∗ (relAt 1 0 (rgt (lft c)) 0 ∗ relAt 1 1 (rgt (lft c)) 0)); rw [rgt_lft]))
      isplitr
      · isplitr; · iexact A0
        iexact A1
      isplitr; · iexact B0
      iexact B1
    iexact HO
  iintro HO
  iapply (bar_sig o κ ν 1) $$ [T1 HO]
  · isplitr; · iexact Hctx
    isplitl [T1]; · iexact T1
    isplitr
    · iapply (Entails.of_eq (show (iprop((relAt 0 2 c 0 ∗ relAt 0 3 c 0) ∗ (relAt 1 2 c 0 ∗ relAt 1 3 c 0)) : sProp 𝕄) = barPay (1 : Fin 2).val (nbr c 1) by
        show _ = iprop((relAt 0 2 (lft (rgt c)) 0 ∗ relAt 0 3 (lft (rgt c)) 0) ∗ (relAt 1 2 (lft (rgt c)) 0 ∗ relAt 1 3 (lft (rgt c)) 0)); rw [lft_rgt]))
      isplitr
      · isplitr; · iexact A2
        iexact A3
      isplitr; · iexact B2
      iexact B3
    iexact HO
  iintro HO
  iapply (copy_in o) $$ [Hs Hx]
  · isplitl [Hs] <;> iassumption
  iintro ⟨Hs, Hx⟩
  iapply (bar_wait o κ ν) $$ [Hat Hc HO]
  · isplitr; · iexact Hctx
    isplitl [Hat]; · iexact Hat
    isplitl [Hc]; · iexact Hc
    iexact HO
  iintro ⟨Hat, Hp0, Hp1, HO⟩
  ihave Hp0 := (Entails.of_eq (show (barPay 0 c : sProp 𝕄) = iprop((relAt 0 0 (nxt 0 c) 0 ∗ relAt 0 1 (nxt 1 c) 0) ∗ (relAt 1 0 (nxt 0 c) 0 ∗ relAt 1 1 (nxt 1 c) 0)) from rfl)) $$ Hp0
  ihave Hp1 := (Entails.of_eq (show (barPay 1 c : sProp 𝕄) = iprop((relAt 0 2 (nxt 2 c) 0 ∗ relAt 0 3 (nxt 3 c) 0) ∗ (relAt 1 2 (nxt 2 c) 0 ∗ relAt 1 3 (nxt 3 c) 0)) from rfl)) $$ Hp1
  icases Hp0 with ⟨⟨P0, P1⟩, Q0, Q1⟩
  icases Hp1 with ⟨⟨P2, P3⟩, Q2, Q3⟩
  iapply Hk
  isplitl [Hat]; · iexact Hat
  isplitl [P0 P1 P2 P3 Q0 Q1 Q2 Q3]
  · isplitl [P0 P1 P2 P3]
    · isplitl [P0]; · iexact P0
      isplitl [P1]; · iexact P1
      isplitl [P2] <;> iassumption
    isplitl [Q0]; · iexact Q0
    isplitl [Q1]; · iexact Q1
    isplitl [Q2] <;> iassumption
  isplitl [HO]; · iexact HO
  isplitl [Hs] <;> iassumption

end Cert.Ring
-- ==== Proof.Whole.lean ====
/-
# The body of the ring all-reduce

From what a device starts with to what it ends with.
-/
module

public import proofs.«01_k».proof.Proof.Enter

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv)

variable {F : FTy → Type} [FloatOps F]

local notation "𝕄" => MT nD τ sig ℕ (Elt F) ℕ UU ℕ

variable (o : Ops F) (κ : Dev nD × Kind → ℕ) (ν : Key → ℕ)
variable {c : Dev nD} {Q : PUnit.{1} → sProp (MT nD τ sig ℕ (Elt F) ℕ UU ℕ)}

/-! ## All kinds of cells -/

/-- The devices. -/
def sixteen : List (Fin 16) := [0, 1, 2, 3, 4, 5, 6, 7, 8, 9, 10, 11, 12, 13, 14, 15]
/-- The kinds, ring by ring. -/
def kinds : List Kind := .bar :: ([0, 1, 2, 3].flatMap fun r => [.sd 0 r 0, .rv 0 r 0, .sd 0 r 1, .rv 0 r 1, .cr 0 r])
  ++ ([0, 1, 2, 3].flatMap fun r => [.sd 1 r 0, .rv 1 r 0, .sd 1 r 1, .rv 1 r 1, .cr 1 r, .ou r 0, .ou r 1])
  ++ sixteen.map .am ++ sixteen.map .ar

omit [FloatOps F] in
theorem smono {P R S T : sProp 𝕄} (h : P ⊢ S) (g : R ⊢ T) : iprop(P ∗ R) ⊢ iprop(S ∗ T) := BI.sep_mono h g

theorem wp_end : Q ⟨⟩ ⊢ WP c (.ret ⟨⟩) Q := by
  unfold WP; rw [wp_ret]; iintro H; imodintro; iexact H

omit [FloatOps F] in
theorem assoc_eq (P R S : sProp 𝕄) : iprop((P ∗ R) ∗ S) = iprop(P ∗ R ∗ S) := equiv_iff.mp ⟨BI.sep_assoc, BI.sep_assoc'⟩

omit [FloatOps F] in
theorem sep_eq (P R : sProp 𝕄) : BI.sep P R = iprop(P ∗ R) := rfl

omit [FloatOps F] in
theorem kinds_split (P : Kind → sProp 𝕄) : bigSep Finset.univ P
    = iprop(P .bar ∗ (four fun r => iprop(((P (.sd 0 r 0) ∗ P (.rv 0 r 0)) ∗ (P (.sd 0 r 1) ∗ P (.rv 0 r 1))) ∗ P (.cr 0 r)))
      ∗ (four fun r => iprop(((P (.sd 1 r 0) ∗ P (.rv 1 r 0)) ∗ (P (.sd 1 r 1) ∗ P (.rv 1 r 1))) ∗ P (.cr 1 r) ∗ P (.ou r 0) ∗ P (.ou r 1)))
      ∗ bigSep Finset.univ (fun d : Fin 16 => P (.am d)) ∗ bigSep Finset.univ (fun d : Fin 16 => P (.ar d))) := by
  rw [bigSep_univ_eq_bigSepL kinds (by decide +kernel) (by decide +kernel), bigSep_univ_eq_bigSepL sixteen (by decide) (by decide) fun d : Fin 16 => P (.am d),
    bigSep_univ_eq_bigSepL sixteen (by decide) (by decide) fun d : Fin 16 => P (.ar d)]
  unfold four sixteen
  simp only [bigSepL, sep_eq]
  simp only [assoc_eq]
  rfl

/-! ## What device `c` starts with and ends with -/

/-- Of ring `r` in the reduce-scatter. -/
def gq0 (c : Dev nD) (r : Fin 4) : sProp 𝕄 := iprop(poss 0 r c 0 ∗ msgs 0 r c 0 0 ∗ creds 0 r c 0 0)
/-- Of ring `r` in the all-gather. -/
def gq1 (c : Dev nD) (r : Fin 4) : sProp 𝕄 :=
  iprop(poss 1 r c 0 ∗ msgs 1 r c 0 0 ∗ (payD 1 r c 0 ∗ getD 1 r c 0) ∗ (posn c (.ou r 0) 0 ∗ posn c (.ou r 1) 0)
    ∗ dutyTok ER (cell c (.ou r 0)) 0 0 ∗ bigSep (Finset.Ico 0 15) (fun t => dutyTok ER (cell c (.ou r (par t))) (oR t) 0))
/-- The buffers of ring `r`. -/
def ringM (c : Dev nD) (r : Fin 4) : sProp 𝕄 := iprop(any c (accM r) ∗ any c (rcvM r) ∗ any c (ownM r) ∗ any c (qrcM r) ∗ any c (deqM r))

/-- The tokens, places and credits. -/
def lin (c : Dev nD) : sProp 𝕄 :=
  iprop((posn c .bar 0 ∗ (crd c .bar 1 ∗ crd c .bar 2) ∗ (dutyTok ER (cell (lft c) .bar) 0 0 ∗ dutyTok ER (cell (rgt c) .bar) 0 1))
    ∗ (four (gq0 c) ∗ four (gq1 c)) ∗ amP c ∗ (posn c (.am c) 0 ∗ posn c (.ar c) 0)
    ∗ (four (fun r => rds 0 r c) ∗ four (fun r => rds 1 r c) ∗ bigSep Finset.univ (fun d : Fin 16 => readerAt ES ((c, .ar d) : Key) 0)))

/-- The buffers, whatever they hold. -/
def bufs (c : Dev nD) : sProp 𝕄 := iprop(four (ringM c) ∗ (∃ f, amM.view.loc (c : Thread nD τ) ↦[Finset.univ]{fullShare} f) ∗ xb0 c)

/-- What one of the slots of the maxima is before anything has been written to it. -/
theorem am_any (f : (cc0_scratch20 : Ref sig .tc).ty.Contents (Elt F)) (d : Fin 16) :
    (amM.view.loc (c : Thread nD τ) ↦[(amS d).view.set]{fullShare} f : sProp 𝕄) ⊢ any c (amS d) := pts_any (amS d) f

theorem am_anys : iprop(∃ f, amM.view.loc (c : Thread nD τ) ↦[Finset.univ]{fullShare} f) ⊢ (bigSep Finset.univ (fun d : Fin 16 => any c (amS d)) : sProp 𝕄) := by
  iintro ⟨%f, H⟩
  ihave H := (Entails.of_eq (am_split (c := c) f)) $$ H
  iapply (show bigSep Finset.univ (fun d : Fin 16 => (amM.view.loc (c : Thread nD τ) ↦[(amS d).view.set]{fullShare} f : sProp 𝕄)) ⊢ bigSep Finset.univ (fun d : Fin 16 => any c (amS d)) from
    bigSep_mono fun d _ => am_any f d)
  iexact H

omit [FloatOps F] in
theorem four_mono (P R : Fin 4 → sProp 𝕄) (h : ∀ r, P r ⊢ R r) : four P ⊢ four R := by
  unfold four
  exact smono (h 0) (smono (h 1) (smono (h 2) (h 3)))

/-- A ring's buffers as slots. -/
def ringS (c : Dev nD) (r : Fin 4) : sProp 𝕄 :=
  iprop((any c (slotM (accM r) 0) ∗ any c (slotM (accM r) 1)) ∗ sls 0 r c ∗ any c (ownM r) ∗ sls 1 r c ∗ (any c (slotM (deqM r) 0) ∗ any c (slotM (deqM r) 1)))

theorem ring_slots (r : Fin 4) : (ringM c r : sProp 𝕄) ⊢ ringS c r := by
  unfold ringM ringS
  refine smono (slots_of (accM r)) (smono (slots_of (rcvM r)) (smono BIBase.Entails.rfl (smono (slots_of (qrcM r)) (slots_of (deqM r)))))

theorem slots_ring (r : Fin 4) : (ringS c r : sProp 𝕄) ⊢ ringM c r := by
  unfold ringM ringS
  refine smono (of_slots (accM r)) (smono (of_slots (rcvM r)) (smono BIBase.Entails.rfl (smono (of_slots (qrcM r)) (of_slots (deqM r)))))

/-- What ring `r` keeps for the all-gather while the reduce-scatter runs. -/
def later (c : Dev nD) (r : Fin 4) : sProp 𝕄 :=
  iprop(gq1 c r ∗ rd0 1 r c ∗ any c (ownM r) ∗ (any c (slotM (deqM r) 0) ∗ any c (slotM (deqM r) 1))
    ∗ (any c (outB0 r c) ∗ bigSep (Finset.Ico 0 15) fun t => any c (outB r (stp t) c)))

omit [FloatOps F] in
theorem ico_sep (P R : ℕ → sProp 𝕄) (S : Finset ℕ) : (bigSep S fun d => iprop(P d ∗ R d)) = iprop(bigSep S P ∗ bigSep S R) := bigSep_sep _ _ _

theorem first_ring (r : Fin 4) : iprop(gq0 c r ∗ rd0 0 r c ∗ (any c (slotM (accM r) 0) ∗ any c (slotM (accM r) 1)))
    ⊢ (iprop(any c (slotM (accM r) 0) ∗ rsP c r) : sProp 𝕄) := by
  unfold gq0 rsP
  iintro ⟨⟨Hp, Hm, Hc⟩, Hr, A0, A1⟩
  isplitl [A0]; · iexact A0
  isplitl [Hp]; · iexact Hp
  isplitl [Hr]; · iexact Hr
  isplitl [A1]; · iexact A1
  isplitl [Hm]; · iexact Hm
  iexact Hc

theorem later_ring (r : Fin 4) : (later c r : sProp 𝕄) ⊢ iprop(any c (ownM r) ∗ agP c r) := by
  have hb := Entails.of_eq (ico_sep (F := F) (fun t => any c (outB r (stp t) c)) (fun t => dutyTok ER (cell c (.ou r (par t))) (oR t) 0) (Finset.Ico 0 15)).symm
  unfold later gq1 agP flw rem
  iintro ⟨⟨Hp, Hm, Hc, ⟨P0, P1⟩, T0, Ts⟩, Hr, Ho, ⟨D0, D1⟩, B0, Bs⟩
  isplitl [Ho]; · iexact Ho
  isplitl [Hp]; · iexact Hp
  isplitl [Hr]; · iexact Hr
  isplitl [Hm]; · iexact Hm
  isplitl [Hc]; · iexact Hc
  isplitl [P0]; · iexact P0
  isplitl [D0]; · iexact D0
  isplitl [P1 D1]
  · isplitl [P1]; · iexact P1
    iexact D1
  isplitl [B0]; · iexact B0
  isplitl [T0]; · iexact T0
  iapply hb
  isplitl [Bs]; · iexact Bs
  iexact Ts

/-- The cells of ring `r` at the end, the credits' not yet at their next round. -/
def endS (c : Dev nD) (r : Fin 4) : sProp 𝕄 := iprop((poss 0 r c 15 ∗ cwt 0 r c 13) ∗ (poss 1 r c 15 ∗ cwt 1 r c 13 ∗ (posn c (.ou r 0) 9 ∗ posn c (.ou r 1) 7)))

/-- The cells at the end. -/
def sems (c : Dev nD) : sProp 𝕄 :=
  iprop(posn c .bar 1 ∗ four (endS c) ∗ bigSep Finset.univ (amEnd (F := F) c) ∗ posn c (.am c) 0 ∗ posn c (.ar c) 0)

/-- What the reduce-scatter leaves of ring `r`, besides the reduced chunk. -/
def rsE (c : Dev nD) (r : Fin 4) : sProp 𝕄 := iprop((poss 0 r c 15 ∗ cwt 0 r c 13) ∗ sls 0 r c)

theorem rs_left (r : Fin 4) : rsI o c 15 r ⊢ iprop((owns (c : Thread nD τ) (slotM (accM r) 1) fullShare (accV o r 15 c) ∗ any c (slotM (accM r) 0)) ∗ rsE c r ∗ hrd r 15 c) := by
  unfold rsI rsRdr rsAcc rsE creds
  rw [if_neg (by decide), if_neg (by decide), if_neg (by decide)]
  iintro ⟨Hp, Hr, Ha, -, ⟨-, -, Hc⟩, Hh⟩
  isplitl [Ha]; · iexact Ha
  isplitr [Hh]
  · isplitl [Hp Hc]
    · isplitl [Hp]; · iexact Hp
      iexact Hc
    iexact Hr
  iexact Hh

/-- What the all-gather leaves of ring `r`. -/
theorem ag_left (r : Fin 4) : iprop(any c (slotM (accM r) 1) ∗ agE o c r ∗ rsE c r)
    ⊢ iprop(ringM c r ∗ endS c r ∗ bigSep (Finset.range 16) fun t => owns (c : Thread nD τ) (outT r c t) fullShare (deV o r t c)) := by
  have h15 : agRdr r c 15 = (sls 1 r c : sProp 𝕄) := rfl
  unfold agE rsE endS
  rw [h15]
  iintro ⟨A1, ⟨Hp, Hq, Ho, Hc, Hou, Hd, Hdn⟩, ⟨Hp0, Hc0⟩, Hs⟩
  ihave Hdn := (dn_out o r) $$ Hdn
  icases Hdn with ⟨Hout, A0⟩
  isplitl [A0 A1 Hq Ho Hd Hs]
  · iapply (slots_ring r)
    unfold ringS
    isplitl [A0 A1]
    · isplitl [A0]; · iexact A0
      iexact A1
    isplitl [Hs]; · iexact Hs
    isplitl [Ho]; · iexact Ho
    isplitl [Hq]; · iexact Hq
    iexact Hd
  isplitr [Hout]
  · isplitl [Hp0 Hc0]
    · isplitl [Hp0]; · iexact Hp0
      iexact Hc0
    isplitl [Hp]; · iexact Hp
    isplitl [Hc]; · iexact Hc
    iexact Hou
  iexact Hout

/-- The result of device `c`. -/
def outOk (c : Dev nD) (f : (main_v1 : Ref sig .tc).ty.Contents (Elt F)) : Prop :=
  ∀ (r : Fin 4) (t : Fin 16), (outT r c t.val).view.read (Elt F) f = deV o r t.val c

/-- What device `c` ends with. -/
def done (c : Dev nD) : sProp 𝕄 :=
  iprop((stgs o c ∗ xw o c) ∗ four (ringM c) ∗ (amM.view.loc (c : Thread nD τ) ↦[Finset.univ]{fullShare} (amAll o))
    ∗ (∃ f : (main_v1 : Ref sig .tc).ty.Contents (Elt F), ⌜outOk o c f⌝ ∗ (outM.view.loc (c : Thread nD τ) ↦[Finset.univ]{fullShare} f)) ∗ sems c ∗ Ow c 275)

theorem split3 (A B C : Fin 4 → sProp 𝕄) : four (fun r => iprop(A r ∗ B r ∗ C r)) ⊢ iprop(four A ∗ four B ∗ four C) :=
  (four_split A (fun r => iprop(B r ∗ C r))).trans (smono BIBase.Entails.rfl (four_split B C))
theorem join3 (A B C : Fin 4 → sProp 𝕄) : iprop(four A ∗ four B ∗ four C) ⊢ four (fun r => iprop(A r ∗ B r ∗ C r)) :=
  (smono BIBase.Entails.rfl (four_sep B C)).trans (four_sep A (fun r => iprop(B r ∗ C r)))

/-- The all-gather, and the buffers put together again. -/
theorem finish_ok :
    iprop(agX o κ ν c ∗ four (fun r => iprop(owns (c : Thread nD τ) (slotM (accM r) 1) fullShare (accV o r 15 c) ∗ any c (slotM (accM r) 0))) ∗ four (later c)
        ∗ four (rsE c) ∗ Ow c 148)
      ⊢ iprop(((four (ringM c) ∗ four (endS c)
          ∗ (∃ f : (main_v1 : Ref sig .tc).ty.Contents (Elt F), ⌜outOk o c f⌝ ∗ (outM.view.loc (c : Thread nD τ) ↦[Finset.univ]{fullShare} f)) ∗ Ow c 275) -∗ Q ⟨⟩)
        -∗ WP c (agPart c (mx o) (.ret ⟨⟩)) Q) := by
  iintro ⟨#HX, Ha, Hl, Hrs, HO⟩ Hk
  ihave Hl := ((four_mono _ _ (later_ring (c := c))).trans (four_split (fun r => any c (ownM r)) (agP c))) $$ Hl
  icases Hl with ⟨How, HP⟩
  iapply (ag_all o κ ν) $$ [Ha How HP HO]
  · isplitr; · iexact HX
    isplitl [Ha How]
    · iapply (four_mono (fun r => iprop((owns (c : Thread nD τ) (slotM (accM r) 1) fullShare (accV o r 15 c) ∗ any c (slotM (accM r) 0)) ∗ any c (ownM r)))
        (fun r => iprop(owns (c : Thread nD τ) (slotM (accM r) 1) fullShare (accV o r 15 c) ∗ any c (slotM (accM r) 0) ∗ any c (ownM r)))
        (fun r => BI.sep_assoc))
      iapply (four_sep (fun r => iprop(owns (c : Thread nD τ) (slotM (accM r) 1) fullShare (accV o r 15 c) ∗ any c (slotM (accM r) 0))) (fun r => any c (ownM r)))
      isplitl [Ha]; · iexact Ha
      iexact How
    isplitl [HP]; · iexact HP
    iexact HO
  iintro ⟨A1, HE, HO⟩
  iapply wp_end
  iapply Hk
  ihave H := ((join3 (fun r => any c (slotM (accM r) 1)) (agE o c) (rsE c)).trans ((four_mono _ _ (ag_left o (c := c))).trans
    (split3 (ringM c) (endS c) fun r => bigSep (Finset.range 16) fun t => owns (c : Thread nD τ) (outT r c t) fullShare (deV o r t c)))) $$ [A1 HE Hrs]
  · isplitl [A1]; · iexact A1
    isplitl [HE]; · iexact HE
    iexact Hrs
  icases H with ⟨HR, HS, Hout⟩
  isplitl [HR]; · iexact HR
  isplitl [HS]; · iexact HS
  isplitl [Hout]; · iapply (to_out o); iexact Hout
  iexact HO

/-- The body from after the barrier. -/
theorem rest_ok :
    iprop(ctx o κ ν ∗ amFree c ∗ (four (fun r => relAt 0 r (nxt r c) 0) ∗ four (fun r => relAt 1 r (nxt r c) 0))
        ∗ four (fun r => iprop(gq0 c r ∗ rd0 0 r c ∗ (any c (slotM (accM r) 0) ∗ any c (slotM (accM r) 1)))) ∗ four (later c) ∗ amP c ∗ xw o c ∗ Ow c 3)
      ⊢ iprop(((xw o c ∗ four (ringM c) ∗ (amM.view.loc (c : Thread nD τ) ↦[Finset.univ]{fullShare} (amAll o))
          ∗ (∃ f : (main_v1 : Ref sig .tc).ty.Contents (Elt F), ⌜outOk o c f⌝ ∗ (outM.view.loc (c : Thread nD τ) ↦[Finset.univ]{fullShare} f))
          ∗ four (endS c) ∗ bigSep Finset.univ (amEnd (F := F) c) ∗ Ow c 275) -∗ Q ⟨⟩)
        -∗ WP c (runs (rings.map (acc0C c)) <| runs (rings.map fun r => rsStartC c r 0) <|
            runs (steps.map fun u => runs (rings.map fun r => rsStep c r u)) (amPart c fun A => agPart c A (.ret ⟨⟩))) Q) := by
  have h34 : (Ow c 3 : sProp 𝕄) ⊢ Ow c 4 := Ow_skip c fun p => by cases p <;> simp only [ix] <;> omega
  iintro ⟨#Hctx, #Ham, ⟨#Hr0, #Hr1⟩, Hf, Hl, HamP, Hxw, HO⟩ Hk
  ihave Hf := ((four_mono _ _ (first_ring (c := c))).trans (four_split (fun r => any c (slotM (accM r) 0)) (rsP c))) $$ Hf
  icases Hf with ⟨A0, HP⟩
  ihave HO := h34 $$ HO
  iapply (rs_all o κ ν) $$ [A0 HP Hxw HO]
  · isplitl [Hxw]
    · unfold rsX
      isplitr; · iexact Hctx
      isplitr; · iexact Ham
      isplitr; · iexact Hr0
      iexact Hxw
    isplitl [A0]; · iexact A0
    isplitl [HP]; · iexact HP
    iexact HO
  iintro ⟨HX, HI, HO⟩
  ihave HI := ((four_mono _ _ (rs_left o (c := c))).trans (split3 (fun r => iprop(owns (c : Thread nD τ) (slotM (accM r) 1) fullShare (accV o r 15 c) ∗ any c (slotM (accM r) 0)))
    (rsE c) (fun r => hrd r 15 c))) $$ HI
  icases HI with ⟨HA, HE, #Hh⟩
  ihave HA := (four_split (fun r => owns (c : Thread nD τ) (slotM (accM r) 1) fullShare (accV o r 15 c)) (fun r => any c (slotM (accM r) 0))) $$ HA
  icases HA with ⟨HA1, HA0⟩
  iapply (am_all o κ ν) $$ [HA1 HamP HO]
  · isplitr
    · isplitr; · iexact Hctx
      isplitr; · iexact Ham
      iapply (four_at (fun r => hrd r 15 c) 0); iexact Hh
    isplitl [HA1]; · iexact HA1
    isplitl [HamP]; · iexact HamP
    iexact HO
  iintro ⟨HA1, Hpts, Hend, HO⟩
  iapply (finish_ok o κ ν) $$ [HA1 HA0 HE Hl HO]
  · isplitr
    · unfold agX
      isplitr; · iexact Hctx
      iexact Hr1
    isplitl [HA1 HA0]
    · iapply (four_sep (fun r => owns (c : Thread nD τ) (slotM (accM r) 1) fullShare (accV o r 15 c)) (fun r => any c (slotM (accM r) 0)))
      isplitl [HA1] <;> iassumption
    isplitl [Hl]; · iexact Hl
    isplitl [HE]; · iexact HE
    iexact HO
  iintro ⟨HR, HS, Hout, HO⟩
  iapply Hk
  unfold rsX
  icases HX with ⟨-, -, -, Hxw⟩
  isplitl [Hxw]; · iexact Hxw
  isplitl [HR]; · iexact HR
  isplitl [Hpts]; · iexact Hpts
  isplitl [Hout]; · iexact Hout
  isplitl [HS]; · iexact HS
  isplitl [Hend]; · iexact Hend
  iexact HO

/-- The body of device `c`. -/
theorem body_ok (f : (main_v1 : Ref sig .tc).ty.Contents (Elt F)) :
    iprop(ctx o κ ν ∗ lin c ∗ bufs c ∗ stgs o c ∗ (outM.view.loc (c : Thread nD τ) ↦[Finset.univ]{fullShare} f) ∗ Ow c 0)
      ⊢ iprop((done o c -∗ Q ⟨⟩) -∗ WP c (prog sxM swM c) Q) := by
  have h01 : (Ow c 0 : sProp 𝕄) ⊢ Ow c 1 := Ow_skip c fun p => by cases p <;> simp only [ix] <;> omega
  unfold lin bufs prog rsPart
  iintro ⟨#Hctx, ⟨⟨Hb, Hbc, Hbt⟩, ⟨Hg0, Hg1⟩, Ham, Hdd, Hd0, Hd1, Hda⟩, ⟨Hm, Hma, Hxb⟩, Hs, Hout, HO⟩ Hk
  ihave HO := h01 $$ HO
  ihave Hm := (four_mono _ _ (ring_slots (c := c))) $$ Hm
  ihave Hm := ((show four (ringS c) ⊢ (iprop(four (fun r => iprop(any c (slotM (accM r) 0) ∗ any c (slotM (accM r) 1))) ∗ four (fun r => sls 0 r c) ∗ four (fun r => any c (ownM r))
      ∗ four (fun r => sls 1 r c) ∗ four (fun r => iprop(any c (slotM (deqM r) 0) ∗ any c (slotM (deqM r) 1)))) : sProp 𝕄) from
    (split3 _ _ _).trans (smono BIBase.Entails.rfl (smono BIBase.Entails.rfl (split3 _ _ _))))) $$ Hm
  icases Hm with ⟨Ma, Mr, Mo, Mq, Md⟩
  imod (free8 o κ ν 0) $$ [Hd0 Mr] with ⟨Hd0, #R0⟩
  · isplitr; · iexact Hctx
    isplitl [Hd0] <;> iassumption
  imod (free8 o κ ν 1) $$ [Hd1 Mq] with ⟨Hd1, #R1⟩
  · isplitr; · iexact Hctx
    isplitl [Hd1] <;> iassumption
  ihave Hma := (am_anys (F := F) (c := c)) $$ Hma
  imod (free_am o κ ν) $$ [Hda Hma] with #Hfree
  · isplitr; · iexact Hctx
    isplitl [Hda] <;> iassumption
  ihave Hout := (out_of f) $$ Hout
  iapply (start o κ ν) $$ [Hbt Hb Hbc HO Hs Hxb]
  · isplitr
    · isplitr; · iexact Hctx
      isplitr; · iexact R0
      iexact R1
    isplitl [Hbt]; · iexact Hbt
    isplitl [Hb]; · iexact Hb
    isplitl [Hbc]; · iexact Hbc
    isplitl [HO]; · iexact HO
    isplitl [Hs]; · iexact Hs
    iexact Hxb
  iintro ⟨Hb, Hrel, HO, Hs, Hxw⟩
  iapply (rest_ok o κ ν) $$ [Hrel Hg0 Hd0 Ma Hg1 Hd1 Mo Md Hout Ham Hxw HO]
  · isplitr; · iexact Hctx
    isplitr; · iexact Hfree
    isplitl [Hrel]; · iexact Hrel
    isplitl [Hg0 Hd0 Ma]
    · iapply (join3 (gq0 c) (fun r => rd0 0 r c) (fun r => iprop(any c (slotM (accM r) 0) ∗ any c (slotM (accM r) 1))))
      isplitl [Hg0]; · iexact Hg0
      isplitl [Hd0] <;> iassumption
    isplitl [Hg1 Hd1 Mo Md Hout]
    · iapply (show (iprop(four (gq1 c) ∗ four (fun r => rd0 1 r c) ∗ four (fun r => any c (ownM r)) ∗ four (fun r => iprop(any c (slotM (deqM r) 0) ∗ any c (slotM (deqM r) 1)))
          ∗ four (fun r => iprop(any c (outB0 r c) ∗ bigSep (Finset.Ico 0 15) fun t => any c (outB r (stp t) c)))) : sProp 𝕄) ⊢ four (later c) from
        (smono BIBase.Entails.rfl (smono BIBase.Entails.rfl (join3 _ _ _))).trans (join3 _ _ _))
      isplitl [Hg1]; · iexact Hg1
      isplitl [Hd1]; · iexact Hd1
      isplitl [Mo]; · iexact Mo
      isplitl [Md]; · iexact Md
      iexact Hout
    isplitl [Ham]; · iexact Ham
    isplitl [Hxw]; · iexact Hxw
    iexact HO
  iintro ⟨Hxw, HR, Hpts, Hout, HS, Hend, HO⟩
  iapply Hk
  unfold done sems
  isplitl [Hs Hxw]
  · isplitl [Hs] <;> iassumption
  isplitl [HR]; · iexact HR
  isplitl [Hpts]; · iexact Hpts
  isplitl [Hout]; · iexact Hout
  isplitr [HO]
  · isplitl [Hb]; · iexact Hb
    isplitl [HS]; · iexact HS
    isplitl [Hend]; · iexact Hend
    iexact Hdd
  iexact HO

end Cert.Ring
-- ==== Proof.Deal.lean ====
/-
# What the launch deals to the devices

Tokens and credits, by the device that uses them.
-/
module

public import proofs.«01_k».proof.Proof.Whole

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv)

variable {F : FTy → Type} [FloatOps F]

local notation "𝕄" => MT nD τ sig ℕ (Elt F) ℕ UU ℕ

variable (o : Ops F) (κ : Dev nD × Kind → ℕ) (ν : Key → ℕ)
variable {c : Dev nD}

/-! ## Tokens, by the device that uses them -/

/-- The duties a device pays: the barrier; by phase and ring the arrivals, the sends and the credits; the copies to the
    result; the sends and the arrivals of the maxima. -/
abbrev Tk : Type := Fin 2 ⊕ (Fin 2 × Fin 4 × (Fin 15 ⊕ Fin 15 ⊕ Fin 13)) ⊕ (Fin 4 × (Fin 1 ⊕ Fin 15)) ⊕ (Fin 16 × (Fin 1 ⊕ Fin 1))

/-- Cell, round and number of a duty that device `c` pays. -/
def tk (c : Dev nD) : Tk → (Dev nD × Kind) × ℕ × ℕ
  | .inl b => ((if b = 0 then lft c else rgt c, .bar), 0, b.val)
  | .inr (.inl (q, r, .inl u)) => ((nxt r c, .rv q r (par u.val)), u.val / 2, 0)
  | .inr (.inl (q, r, .inr (.inl u))) => ((c, .sd q r (par u.val)), u.val / 2, 0)
  | .inr (.inl (q, r, .inr (.inr k))) => ((prv r c, .cr q r), 0, k.val)
  | .inr (.inr (.inl (r, .inl _))) => ((c, .ou r 0), 0, 0)
  | .inr (.inr (.inl (r, .inr t))) => ((c, .ou r (par t.val)), oR t.val, 0)
  | .inr (.inr (.inr (d, .inl _))) => ((c, .am d), 0, 0)
  | .inr (.inr (.inr (d, .inr _))) => ((d, .ar c), 0, 0)

/-- Who pays a duty. -/
def who : (Dev nD × Kind) × ℕ × ℕ → Dev nD × Tk
  | ((e, .bar), _, d) => if d = 0 then (rgt e, .inl 0) else (lft e, .inl 1)
  | ((e, .rv q r s), n, _) => (prv r e, .inr (.inl (q, r, .inl ⟨(2 * n + s.val) % 15, Nat.mod_lt _ (by decide)⟩)))
  | ((e, .sd q r s), n, _) => (e, .inr (.inl (q, r, .inr (.inl ⟨(2 * n + s.val) % 15, Nat.mod_lt _ (by decide)⟩))))
  | ((e, .cr q r), _, d) => (nxt r e, .inr (.inl (q, r, .inr (.inr ⟨d % 13, Nat.mod_lt _ (by decide)⟩))))
  | ((e, .ou r s), n, _) => (e, .inr (.inr (.inl (r, if s = 0 ∧ n = 0 then .inl 0 else .inr ⟨(2 * (n + s.val - 1) + s.val) % 15, Nat.mod_lt _ (by decide)⟩))))
  | ((e, .am d), _, _) => (e, .inr (.inr (.inr (d, .inl 0))))
  | ((e, .ar d), _, _) => (d, .inr (.inr (.inr (e, .inr 0))))

theorem mod_two (u : Fin 15) : (⟨(2 * (u.val / 2) + (par u.val).val) % 15, Nat.mod_lt _ (by decide)⟩ : Fin 15) = u := by
  apply Fin.ext; show (2 * (u.val / 2) + u.val % 2) % 15 = u.val; omega

theorem who_tk (c : Dev nD) : ∀ x, who (tk c x) = (c, x)
  | .inl b => by
    match b with
    | 0 => show (rgt (lft c), _) = _; rw [rgt_lft]
    | 1 => show (lft (rgt c), _) = _; rw [lft_rgt]
  | .inr (.inl (q, r, .inl u)) => by
    show (prv r (nxt r c), (Sum.inr (.inl (q, r, .inl _)) : Tk)) = _
    rw [prv_nxt, mod_two]
  | .inr (.inl (q, r, .inr (.inl u))) => by
    show (c, (Sum.inr (.inl (q, r, .inr (.inl _))) : Tk)) = _
    rw [mod_two]
  | .inr (.inl (q, r, .inr (.inr k))) => by
    show (nxt r (prv r c), (Sum.inr (.inl (q, r, .inr (.inr _))) : Tk)) = _
    have h : (⟨k.val % 13, Nat.mod_lt _ (by decide)⟩ : Fin 13) = k := Fin.ext (Nat.mod_eq_of_lt k.isLt)
    rw [nxt_prv, h]
  | .inr (.inr (.inl (r, .inl b))) => by
    rw [show b = 0 from Subsingleton.elim _ _]; rfl
  | .inr (.inr (.inl (r, .inr t))) => by
    show (c, (Sum.inr (.inr (.inl (r, if par t.val = 0 ∧ oR t.val = 0 then .inl 0 else .inr ⟨(2 * (oR t.val + (par t.val).val - 1) + (par t.val).val) % 15, _⟩))) : Tk)) = _
    revert t; clear * - r c;
    intro t
    have h : ∀ t : Fin 15, (if par t.val = 0 ∧ oR t.val = 0 then (.inl 0 : Fin 1 ⊕ Fin 15) else .inr ⟨(2 * (oR t.val + (par t.val).val - 1) + (par t.val).val) % 15, Nat.mod_lt _ (by decide)⟩) = .inr t := by decide +kernel
    rw [h t]
  | .inr (.inr (.inr (d, .inl b))) => by
    rw [show b = 0 from Subsingleton.elim _ _]; rfl
  | .inr (.inr (.inr (d, .inr b))) => by
    rw [show b = 0 from Subsingleton.elim _ _]; rfl

/-- Cells as kinds on devices. -/
theorem cell_inj {e e' : Dev nD × Kind} (h : cell e.1 e.2 = cell e'.1 e'.2) : e = e' :=
  Prod.ext (congrArg (fun g : GSem nD τ sig => g.1.1) h) (semOf_inj (congrArg Prod.snd h))

/-- A duty's token as the launch deals it. -/
def tokOf (x : Dev nD × Tk) : GSem nD τ sig × ℕ × ℕ := (cell (tk x.1 x.2).1.1 (tk x.1 x.2).1.2, (tk x.1 x.2).2)

theorem tokOf_inj : Function.Injective tokOf := by
  intro x y h
  have h1 := cell_inj (congrArg Prod.fst h)
  have h2 : (tk x.1 x.2).2 = (tk y.1 y.2).2 := (congrArg Prod.snd h : (tokOf x).2 = (tokOf y).2)
  have h3 : tk x.1 x.2 = tk y.1 y.2 := Prod.ext h1 h2
  have h4 := congrArg who h3
  rw [who_tk, who_tk] at h4
  exact h4

/-! ## Write tokens -/

abbrev Wt : Type := (Fin 2 × Fin 4 × Fin 15) ⊕ Fin 16

/-- The slot a device writes to, and which time it is. -/
def wt (c : Dev nD) : Wt → Key × ℕ
  | .inl (q, r, u) => ((nxt r c, .rv q r (par u.val)), u.val / 2)
  | .inr d => ((d, .ar c), 0)

def wwho : Key × ℕ → Dev nD × Wt
  | ((e, .rv q r s), n) => (prv r e, .inl (q, r, ⟨(2 * n + s.val) % 15, Nat.mod_lt _ (by decide)⟩))
  | ((e, .ar d), _) => (d, .inr e)
  | ((e, _), _) => (e, .inr 0)

theorem wwho_wt (c : Dev nD) : ∀ x, wwho (wt c x) = (c, x)
  | .inl (q, r, u) => by
    show (prv r (nxt r c), (Sum.inl (q, r, _) : Wt)) = _
    rw [prv_nxt, mod_two]
  | .inr d => rfl

theorem wt_inj : Function.Injective fun x : Dev nD × Wt => wt x.1 x.2 := by
  intro x y h
  have h4 := congrArg wwho (show wt x.1 x.2 = wt y.1 y.2 from h)
  rw [wwho_wt, wwho_wt] at h4
  exact h4

theorem wt_lt (c : Dev nD) : ∀ x, (wt c x).2 < 8
  | .inl (q, r, u) => by show u.val / 2 < 8; omega
  | .inr d => by show 0 < 8; omega

/-! ## Payments -/

abbrev Py : Type := Fin 2 ⊕ (Fin 2 × Fin 4 × (Fin 15 ⊕ Fin 13)) ⊕ Fin 16

def py : Py → Pay
  | .inl b => .bar b
  | .inr (.inl (q, r, .inl u)) => .st q r u
  | .inr (.inl (q, r, .inr k)) => .cr q r k
  | .inr (.inr d) => .am d

def yp : Pay → Py
  | .bar b => .inl b
  | .st q r u => .inr (.inl (q, r, .inl u))
  | .cr q r k => .inr (.inl (q, r, .inr k))
  | .am d => .inr (.inr d)

theorem py_inj : Function.Injective py := Function.LeftInverse.injective (g := yp) (by rintro (_ | ⟨_, _, _ | _⟩ | _) <;> rfl)

omit [FloatOps F] in
/-- What is held of each is held of each along an injection. -/
theorem pick {I J : Type} [Fintype I] [Fintype J] [DecidableEq J] (f : I → J) (hf : Function.Injective f) (P : J → sProp 𝕄) :
    bigSep Finset.univ P ⊢ bigSep Finset.univ fun i => P (f i) := by
  have h := bigSep_map (s := Finset.univ) (⟨f, hf⟩ : I ↪ J) (Φ := P)
  exact BIBase.Entails.trans (bigSep_subset (Finset.subset_univ (Finset.univ.map ⟨f, hf⟩))) (Entails.of_eq h)

omit [FloatOps F] in
theorem sum_eq {I J : Type} [Fintype I] [Fintype J] (P : I ⊕ J → sProp 𝕄) :
    bigSep Finset.univ P = iprop(bigSep Finset.univ (fun i => P (.inl i)) ∗ bigSep Finset.univ fun j => P (.inr j)) := bigSep_univ_sum P
omit [FloatOps F] in
theorem prod_eq {I J : Type} [Fintype I] [Fintype J] (P : I × J → sProp 𝕄) :
    bigSep Finset.univ P = bigSep Finset.univ fun i => bigSep Finset.univ fun j => P (i, j) := bigSep_univ_prod P
omit [FloatOps F] in
theorem one_eq (P : Fin 1 → sProp 𝕄) : bigSep Finset.univ P = P 0 := bigSep_univ_eq_bigSepL [0] (by decide) (by decide) P
omit [FloatOps F] in
theorem pair_eq (P : Fin 2 → sProp 𝕄) : bigSep Finset.univ P = iprop(P 0 ∗ P 1) := bigSep_univ_eq_bigSepL [0, 1] (by decide) (by decide) P
omit [FloatOps F] in
theorem ico_eq (n : ℕ) (P : ℕ → sProp 𝕄) : (bigSep Finset.univ fun t : Fin n => P t.val) = bigSep (Finset.Ico 0 n) P :=
  (univ_range n P).trans (by rw [Finset.range_eq_Ico])

/-! ## The shares of one device -/

/-- The token of a duty. -/
abbrev dtk (e : Dev nD) (k : Kind) (n d : ℕ) : sProp 𝕄 := dutyTok ER (cell e k) n d

/-- Ring `r`'s tokens in phase `q`. -/
def ringT (c : Dev nD) (q : Fin 2) (r : Fin 4) : sProp 𝕄 :=
  iprop(bigSep (Finset.Ico 0 15) (fun u => dtk (nxt r c) (.rv q r (par u)) (u / 2) 0) ∗ bigSep (Finset.Ico 0 15) (fun u => dtk c (.sd q r (par u)) (u / 2) 0)
    ∗ bigSep (Finset.Ico 0 13) (fun k => dtk (prv r c) (.cr q r) 0 k))
def ringO (c : Dev nD) (r : Fin 4) : sProp 𝕄 := iprop(dtk c (.ou r 0) 0 0 ∗ bigSep (Finset.Ico 0 15) (fun t => dtk c (.ou r (par t)) (oR t) 0))

omit [FloatOps F] in
theorem tokens_eq (c : Dev nD) : (bigSep Finset.univ fun x : Tk => dtk (F := F) (tk c x).1.1 (tk c x).1.2 (tk c x).2.1 (tk c x).2.2)
    = iprop((dtk (lft c) .bar 0 0 ∗ dtk (rgt c) .bar 0 1) ∗ (four (ringT c 0) ∗ four (ringT c 1)) ∗ four (ringO c)
      ∗ bigSep Finset.univ fun d : Fin 16 => iprop(dtk c (.am d) 0 0 ∗ dtk d (.ar c) 0 0)) := by
  rw [sum_eq, sum_eq, sum_eq, pair_eq, prod_eq, prod_eq, prod_eq, pair_eq, prod_eq, prod_eq, four_univ, four_univ, four_univ]
  refine congrArg _ ?_
  refine congr (congrArg _ ?_) ?_
  · refine congr (congrArg _ ?_) ?_
    · refine congrArg four (funext fun r => ?_)
      rw [sum_eq, sum_eq]
      exact congr (congrArg _ (ico_eq 15 fun u => dtk (nxt r c) (.rv 0 r (par u)) (u / 2) 0))
        (congr (congrArg _ (ico_eq 15 fun u => dtk c (.sd 0 r (par u)) (u / 2) 0)) (ico_eq 13 fun k => dtk (prv r c) (.cr 0 r) 0 k))
    · refine congrArg four (funext fun r => ?_)
      rw [sum_eq, sum_eq]
      exact congr (congrArg _ (ico_eq 15 fun u => dtk (nxt r c) (.rv 1 r (par u)) (u / 2) 0))
        (congr (congrArg _ (ico_eq 15 fun u => dtk c (.sd 1 r (par u)) (u / 2) 0)) (ico_eq 13 fun k => dtk (prv r c) (.cr 1 r) 0 k))
  · refine congr (congrArg _ ?_) ?_
    · refine congrArg four (funext fun r => ?_)
      unfold ringO
      rw [sum_eq, one_eq]
      exact congrArg (fun X => iprop(dtk c (.ou r 0) 0 0 ∗ X)) (ico_eq 15 fun t => dtk c (.ou r (par t)) (oR t) 0)
    · refine bigSep_congr fun d _ => ?_
      rw [sum_eq, one_eq, one_eq]
      rfl

/-- Write tokens. -/
abbrev wtk (k : Key) (n : ℕ) : sProp 𝕄 := writeTok ES k n

omit [FloatOps F] in
theorem writes_eq (c : Dev nD) : (bigSep Finset.univ fun x : Wt => wtk (F := F) (wt c x).1 ((wt c x).2 + 1))
    = iprop(((four fun r => bigSep (Finset.Ico 0 15) fun u => wtk (nxt r c, .rv 0 r (par u)) (u / 2 + 1))
        ∗ (four fun r => bigSep (Finset.Ico 0 15) fun u => wtk (nxt r c, .rv 1 r (par u)) (u / 2 + 1)))
      ∗ bigSep Finset.univ fun d : Fin 16 => wtk (d, .ar c) 1) := by
  rw [sum_eq, prod_eq, pair_eq, prod_eq, prod_eq, four_univ, four_univ]
  refine congrArg (fun X => iprop(X ∗ _)) ?_
  refine congr (congrArg _ ?_) ?_
  · exact congrArg four (funext fun r => ico_eq 15 fun u => wtk (nxt r c, .rv 0 r (par u)) (u / 2 + 1))
  · exact congrArg four (funext fun r => ico_eq 15 fun u => wtk (nxt r c, .rv 1 r (par u)) (u / 2 + 1))

/-! ## The credits at launch -/

/-- What the launch credits device `c` for payment `p`. -/
abbrev lcr (c : Dev nD) (p : Pay) : sProp 𝕄 := Pipeline.launchCred (fun d => due d p) c

omit [FloatOps F] in
theorem lcr_bar (c : Dev nD) (b : Fin 2) : lcr (F := F) c (.bar b) ⊢ crd c .bar (1 + b.val) := by
  match b with
  | 0 => exact Pipeline.launchCred_tallyAt (semOf .bar) lft rgt lft_rgt rgt_lft 1 1 c
  | 1 => exact Pipeline.launchCred_tallyAt (semOf .bar) rgt lft rgt_lft lft_rgt 2 1 c
omit [FloatOps F] in
theorem lcr_st (c : Dev nD) (q : Fin 2) (r : Fin 4) (u : Fin 15) :
    lcr (F := F) c (.st q r u) ⊢ crd c (.rv q r (par u.val)) (4 + 144 * q.val + 8 * u.val + 2 * r.val) :=
  Pipeline.launchCred_tallyAt (semOf (.rv q r (par u.val))) (nxt r) (prv r) (nxt_prv r) (prv_nxt r) _ _ c
omit [FloatOps F] in
theorem lcr_cr (c : Dev nD) (q : Fin 2) (r : Fin 4) (k : Fin 13) :
    lcr (F := F) c (.cr q r k) ⊢ crd c (.cr q r) (3 + 144 * q.val + 8 * (k.val + 1 + q.val) + 2 * r.val) :=
  Pipeline.launchCred_tallyAt (semOf (.cr q r)) (prv r) (nxt r) (prv_nxt r) (nxt_prv r) _ _ c

/-- All payments of maxima to device `d`, at device `d`. -/
def amSum (c d : Dev nD) : CellTallies nD τ sig ℕ := if d = c then ∑ e, due e (.am c) else 0

theorem amSum_tc (c d : Dev nD) (g : GSem nD τ sig) (h : amSum c d g ≠ 0) : g.1 = (d.tc : Thread nD τ) := by
  unfold amSum at h
  by_cases hd : d = c
  · rw [if_pos hd, Finset.sum_apply] at h
    obtain ⟨e, -, he⟩ := Finset.exists_ne_zero_of_sum_ne_zero h
    by_contra hg
    refine he ?_
    unfold due
    refine tallyAt_ne_cell (fun hh => hg ?_) _ _
    rw [hd, hh]; rfl
  · rw [if_neg hd] at h; exact absurd rfl h

omit [FloatOps F] in
theorem lcr_am (c : Dev nD) : lcr (F := F) c (.am c) ⊢ bigSep (Finset.univ.erase c) fun d : Fin 16 => crd c (.ar d) (131 + c.val) := by
  have h1 : lcr (F := F) c (.am c) = cred (amSum c c) :=
    Pipeline.launchCred_of_sum (fun d => due d (.am c)) (amSum c) (by
      unfold amSum; rw [Finset.sum_ite_eq' Finset.univ c, if_pos (Finset.mem_univ _)]) (amSum_tc c) c
  have h2 : amSum c c = ∑ e, due e (.am c) := if_pos rfl
  rw [h1, h2, Pipeline.cred_finsetSum]
  refine BIBase.Entails.trans (bigSep_subset (Finset.erase_subset c Finset.univ)) (Entails.of_eq (bigSep_congr fun d hd => ?_))
  have h3 : amt d (.am c) = NA := if_neg fun h => Finset.ne_of_mem_erase hd h.symm
  show cred (tallyAt (cell c (.ar d)) (131 + c.val) (amt d (.am c))) = _
  rw [h3]; rfl

/-- Ring `r`'s credits in phase `q`. -/
def ringC (c : Dev nD) (q : Fin 2) (r : Fin 4) : sProp 𝕄 :=
  iprop(bigSep (Finset.Ico 0 15) (fun v => crd c (.rv q r (par v)) (4 + 144 * q.val + 8 * v + 2 * r.val))
    ∗ bigSep (Finset.Ico 0 13) (fun i => crd c (.cr q r) (3 + 144 * q.val + 8 * (i + 1 + q.val) + 2 * r.val)))

omit [FloatOps F] in
theorem ring_cred (c : Dev nD) (q : Fin 2) (r : Fin 4) :
    (bigSep Finset.univ fun x : Fin 15 ⊕ Fin 13 => lcr (F := F) c (py (.inr (.inl (q, r, x))))) ⊢ ringC c q r := by
  unfold ringC
  rw [sum_eq, ← ico_eq 15, ← ico_eq 13]
  exact smono (bigSep_mono fun u _ => lcr_st c q r u) (bigSep_mono fun k _ => lcr_cr c q r k)

omit [FloatOps F] in
theorem ring_creds (c : Dev nD) (q : Fin 2) :
    (bigSep Finset.univ fun x : Fin 4 × (Fin 15 ⊕ Fin 13) => lcr (F := F) c (py (.inr (.inl (q, x))))) ⊢ four (ringC c q) := by
  rw [prod_eq, four_univ]
  exact four_mono _ _ fun r => ring_cred c q r

omit [FloatOps F] in
/-- All credits of device `c`. -/
theorem credits (c : Dev nD) : (Pipeline.launchCred (fun d => owed d 0) c : sProp 𝕄)
    ⊢ iprop((crd c .bar 1 ∗ crd c .bar 2) ∗ (four (ringC c 0) ∗ four (ringC c 1)) ∗ bigSep (Finset.univ.erase c) fun d : Fin 16 => crd c (.ar d) (131 + c.val)) := by
  have h0 : (fun d : Dev nD => owed d 0) = fun d => ∑ p ∈ Finset.univ, due d p := funext fun d => by
    unfold owed; rw [Finset.filter_true_of_mem fun p _ => Nat.zero_le _]
  rw [h0, Pipeline.launchCred_sum]
  refine (pick py py_inj _).trans ?_
  rw [sum_eq, sum_eq, pair_eq, prod_eq, pair_eq]
  exact smono (smono (lcr_bar c 0) (lcr_bar c 1)) (smono (smono (ring_creds c 0) (ring_creds c 1)) ((bigSep_elim (Finset.mem_univ c)).trans (lcr_am c)))

end Cert.Ring
-- ==== Proof.Cells.lean ====
/-
# A device's shares and its cells

What the launch deals one device, and the closing of its cells.
-/
module

public import proofs.«01_k».proof.Proof.Deal

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv)

variable {F : FTy → Type} [FloatOps F]

local notation "𝕄" => MT nD τ sig ℕ (Elt F) ℕ UU ℕ

variable (o : Ops F) (κ : Dev nD × Kind → ℕ) (ν : Key → ℕ)
variable {c : Dev nD}

/-! ## A device's shares put together -/

omit [FloatOps F] in
theorem msg_intro (q : Fin 2) (r : Fin 4) :
    iprop(ringT c q r ∗ bigSep (Finset.Ico 0 15) (fun u => wtk (F := F) (nxt r c, .rv q r (par u)) (u / 2 + 1)) ∗ ringC c q r)
      ⊢ iprop(msgs q r c 0 0 ∗ bigSep (Finset.Ico 0 13) (fun j => dutyTok ER (cell (prv r c) (.cr q r)) 0 j)
          ∗ bigSep (Finset.Ico 0 13) (fun i => crd c (.cr q r) (3 + 144 * q.val + 8 * (i + 1 + q.val) + 2 * r.val))) := by
  have e1 := Entails.of_eq (ico_sep (F := F) (fun u => dtk c (.sd q r (par u)) (u / 2) 0) (fun u => wtk (nxt r c, .rv q r (par u)) (u / 2 + 1)) (Finset.Ico 0 15)).symm
  have e2 := Entails.of_eq (ico_sep (F := F) (fun u => dtk (nxt r c) (.rv q r (par u)) (u / 2) 0)
    (fun u => iprop(dtk c (.sd q r (par u)) (u / 2) 0 ∗ wtk (nxt r c, .rv q r (par u)) (u / 2 + 1))) (Finset.Ico 0 15)).symm
  unfold ringT ringC msgs
  iintro ⟨⟨T1, T2, T3⟩, W, C1, C2⟩
  isplitl [T1 T2 W C1]
  · isplitr [C1]
    · iapply (show bigSep (Finset.Ico 0 15) (fun u => iprop(dtk (F := F) (nxt r c) (.rv q r (par u)) (u / 2) 0 ∗ dtk c (.sd q r (par u)) (u / 2) 0 ∗ wtk (nxt r c, .rv q r (par u)) (u / 2 + 1)))
        ⊢ bigSep (Finset.Ico 0 15) (toks q r c) from BIBase.Entails.rfl)
      iapply e2
      isplitl [T1]; · iexact T1
      iapply e1
      isplitl [T2] <;> iassumption
    iexact C1
  isplitl [T3]; · iexact T3
  iexact C2

omit [FloatOps F] in
theorem cwt_zero (q : Fin 2) (r : Fin 4) : (posn c (.cr q r) 0 : sProp 𝕄) ⊢ cwt q r c (min 0 13) := by
  unfold posn cwt
  iintro ⟨H, -⟩
  iexists ∅
  isplitr; · ipureintro; exact ⟨Finset.empty_subset _, by decide⟩
  isplitl [H]; · iexact H
  rw [bigSep_empty]
  iempintro

/-- The cells of ring `r` in phase `q`. -/
abbrev ringK (P : Kind → sProp 𝕄) (q : Fin 2) (r : Fin 4) : sProp 𝕄 := iprop((P (.sd q r 0) ∗ P (.rv q r 0)) ∗ (P (.sd q r 1) ∗ P (.rv q r 1)))

omit [FloatOps F] in
theorem poss_zero (q : Fin 2) (r : Fin 4) : (ringK (fun k => posn c k 0) q r : sProp 𝕄) ⊢ poss q r c 0 := BIBase.Entails.rfl

omit [FloatOps F] in
theorem gq0_intro (r : Fin 4) :
    iprop((ringK (fun k => posn c k 0) 0 r ∗ posn c (.cr 0 r) 0) ∗ ringT c 0 r
        ∗ bigSep (Finset.Ico 0 15) (fun u => wtk (F := F) (nxt r c, .rv 0 r (par u)) (u / 2 + 1)) ∗ ringC c 0 r)
      ⊢ gq0 c r := by
  unfold gq0 creds
  iintro ⟨⟨P1, P2⟩, H⟩
  ihave H := (msg_intro 0 r) $$ H
  icases H with ⟨HM, H3, H4⟩
  isplitl [P1]; · iapply (poss_zero 0 r); iexact P1
  isplitl [HM]; · iexact HM
  isplitl [H3]; · iexact H3
  isplitl [H4]; · iexact H4
  iapply (cwt_zero 0 r); iexact P2

omit [FloatOps F] in
theorem gq1_intro (r : Fin 4) :
    iprop((ringK (fun k => posn c k 0) 1 r ∗ posn c (.cr 1 r) 0 ∗ posn c (.ou r 0) 0 ∗ posn c (.ou r 1) 0) ∗ (ringT c 1 r
        ∗ bigSep (Finset.Ico 0 15) (fun u => wtk (F := F) (nxt r c, .rv 1 r (par u)) (u / 2 + 1)) ∗ ringC c 1 r) ∗ ringO c r)
      ⊢ gq1 c r := by
  unfold gq1 ringO
  iintro ⟨⟨P1, P2, P3⟩, H, O1, O2⟩
  ihave H := (msg_intro 1 r) $$ H
  icases H with ⟨HM, H3, H4⟩
  isplitl [P1]; · iapply (poss_zero 1 r); iexact P1
  isplitl [HM]; · iexact HM
  isplitl [H3 H4 P2]
  · isplitl [H3]; · iexact H3
    isplitl [H4]; · iexact H4
    iapply (cwt_zero 1 r); iexact P2
  isplitl [P3]; · iexact P3
  isplitl [O1]; · iexact O1
  iexact O2

omit [FloatOps F] in
theorem amP_intro (c : Dev nD) :
    iprop((bigSep Finset.univ (fun d : Fin 16 => wtk (F := F) (d, .ar c) 1)) ∗ (bigSep Finset.univ fun d : Fin 16 => iprop(dtk c (.am d) 0 0 ∗ dtk d (.ar c) 0 0))
        ∗ (bigSep (Finset.univ.erase c) fun d : Fin 16 => crd c (.ar d) (131 + c.val))
        ∗ bigSep Finset.univ (fun d : Fin 16 => posn c (.am d) 0) ∗ bigSep Finset.univ (fun d : Fin 16 => posn c (.ar d) 0))
      ⊢ iprop(amP c ∗ (posn c (.am c) 0 ∗ posn c (.ar c) 0)) := by
  have e1 := take_one (fun d : Fin 16 => wtk (F := F) (d, .ar c) 1) c
  have e2 := take_one (fun d : Fin 16 => iprop(dtk (F := F) c (.am d) 0 0 ∗ dtk d (.ar c) 0 0)) c
  have e3 := take_one (fun d : Fin 16 => posn (F := F) c (.am d) 0) c
  have e4 := take_one (fun d : Fin 16 => posn (F := F) c (.ar d) 0) c
  have f1 := take_one (amTok (F := F) c) c
  have f2 := take_one (amIn (F := F) c) c
  have g1 : amTok (F := F) c c = iprop(emp) := if_pos rfl
  have g2 : amIn (F := F) c c = iprop(emp) := if_pos rfl
  have h1 : (bigSep (Finset.univ.erase c) (amTok (F := F) c)) = iprop(bigSep (Finset.univ.erase c) (fun d : Fin 16 => wtk (d, .ar c) 1)
      ∗ bigSep (Finset.univ.erase c) fun d : Fin 16 => iprop(dtk c (.am d) 0 0 ∗ dtk d (.ar c) 0 0)) :=
    (bigSep_congr fun d hd => if_neg (Finset.ne_of_mem_erase hd)).trans (bigSep_sep _ _ _)
  have h2 : (bigSep (Finset.univ.erase c) (amIn (F := F) c)) = iprop(bigSep (Finset.univ.erase c) (fun d : Fin 16 => crd c (.ar d) (131 + c.val))
      ∗ bigSep (Finset.univ.erase c) (fun d : Fin 16 => posn c (.am d) 0) ∗ bigSep (Finset.univ.erase c) fun d : Fin 16 => posn c (.ar d) 0) :=
    ((bigSep_congr fun d hd => if_neg (Finset.ne_of_mem_erase hd)).trans (bigSep_sep _ _ _)).trans (congrArg _ (bigSep_sep _ _ _))
  unfold amP
  rw [e1, e2, e3, e4, f1, f2, g1, g2, h1, h2]
  iintro ⟨⟨W0, W⟩, ⟨-, T⟩, C, ⟨A0, A⟩, R0, R⟩
  isplitr [A0 R0]
  · isplitl [W0]; · iexact W0
    isplitl [W T]
    · isplitr; · iempintro
      isplitl [W] <;> iassumption
    isplitr; · iempintro
    isplitl [C]; · iexact C
    isplitl [A] <;> iassumption
  isplitl [A0] <;> iassumption

theorem join4 (A B C D : Fin 4 → sProp 𝕄) : iprop(four A ∗ four B ∗ four C ∗ four D) ⊢ four (fun r => iprop(A r ∗ B r ∗ C r ∗ D r)) :=
  (smono BIBase.Entails.rfl (join3 B C D)).trans (four_sep A (fun r => iprop(B r ∗ C r ∗ D r)))

/-- What the launch deals device `c`, credits aside. -/
def share (c : Dev nD) : sProp 𝕄 :=
  iprop(bigSep Finset.univ (fun k : Kind => posn c k 0) ∗ (bigSep Finset.univ fun x : Tk => dtk (F := F) (tk c x).1.1 (tk c x).1.2 (tk c x).2.1 (tk c x).2.2)
    ∗ (bigSep Finset.univ fun x : Wt => wtk (F := F) (wt c x).1 ((wt c x).2 + 1)) ∗ bigSep Finset.univ (fun k : Kind => readerAt ES ((c, k) : Key) 0))

theorem lin_intro (c : Dev nD) : iprop(share c ∗ Pipeline.launchCred (fun d => owed d 0) c) ⊢ (lin c : sProp 𝕄) := by
  have e1 := Entails.of_eq (kinds_split (F := F) (fun k => posn c k 0))
  have e2 := Entails.of_eq (tokens_eq (F := F) c)
  have e3 := Entails.of_eq (writes_eq (F := F) c)
  have e4 := Entails.of_eq (kinds_split (F := F) (fun k => readerAt ES ((c, k) : Key) 0))
  unfold share lin
  iintro ⟨⟨HP, HT, HW, HR⟩, HC⟩
  ihave HP := e1 $$ HP
  ihave HT := e2 $$ HT
  ihave HW := e3 $$ HW
  ihave HR := e4 $$ HR
  ihave HC := (credits c) $$ HC
  icases HP with ⟨Pb, P0, P1, Pm, Pr⟩
  icases HT with ⟨Tb, ⟨T0, T1⟩, To, Tm⟩
  icases HW with ⟨⟨W0, W1⟩, Wm⟩
  icases HR with ⟨-, R0, R1, -, Rm⟩
  icases HC with ⟨Cb, ⟨C0, C1⟩, Cm⟩
  isplitl [Pb Cb Tb]
  · isplitl [Pb]; · iexact Pb
    isplitl [Cb]; · iexact Cb
    iexact Tb
  isplitl [P0 T0 W0 C0 P1 T1 W1 C1 To]
  · isplitl [P0 T0 W0 C0]
    · iapply ((join4 (fun r => iprop(ringK (fun k => posn c k 0) 0 r ∗ posn c (.cr 0 r) 0)) (ringT c 0)
          (fun r => bigSep (Finset.Ico 0 15) (fun u => wtk (F := F) (nxt r c, .rv 0 r (par u)) (u / 2 + 1))) (ringC c 0)).trans (four_mono _ _ gq0_intro))
      isplitl [P0]; · iexact P0
      isplitl [T0]; · iexact T0
      isplitl [W0]; · iexact W0
      iexact C0
    · iapply (((smono BIBase.Entails.rfl (smono (join3 (ringT c 1) (fun r => bigSep (Finset.Ico 0 15) (fun u => wtk (F := F) (nxt r c, .rv 1 r (par u)) (u / 2 + 1))) (ringC c 1)) BIBase.Entails.rfl)).trans
          (join3 (fun r => iprop(ringK (fun k => posn c k 0) 1 r ∗ posn c (.cr 1 r) 0 ∗ posn c (.ou r 0) 0 ∗ posn c (.ou r 1) 0)) _ (ringO c))).trans (four_mono _ _ gq1_intro))
      isplitl [P1]; · iexact P1
      isplitl [T1 W1 C1]
      · isplitl [T1]; · iexact T1
        isplitl [W1]; · iexact W1
        iexact C1
      iexact To
  ihave HA := (amP_intro c) $$ [Wm Tm Cm Pm Pr]
  · isplitl [Wm]; · iexact Wm
    isplitl [Tm]; · iexact Tm
    isplitl [Cm]; · iexact Cm
    isplitl [Pm] <;> iassumption
  icases HA with ⟨HA, HB⟩
  isplitl [HA]; · iexact HA
  isplitl [HB]; · iexact HB
  isplitl [R0]
  · iapply (four_mono (fun r => iprop(ringK (fun k => readerAt ES ((c, k) : Key) 0) 0 r ∗ readerAt ES ((c, .cr 0 r) : Key) 0)) (fun r => rds 0 r c) fun r => by
      iintro ⟨⟨⟨-, H0⟩, -, H1⟩, -⟩
      isplitl [H0] <;> iassumption)
    iexact R0
  isplitl [R1]
  · iapply (four_mono (fun r => iprop(ringK (fun k => readerAt ES ((c, k) : Key) 0) 1 r ∗ readerAt ES ((c, .cr 1 r) : Key) 0 ∗ readerAt ES ((c, .ou r 0) : Key) 0 ∗ readerAt ES ((c, .ou r 1) : Key) 0))
        (fun r => rds 1 r c) fun r => by
      iintro ⟨⟨⟨-, H0⟩, -, H1⟩, -⟩
      isplitl [H0] <;> iassumption)
    iexact R1
  iexact Rm

/-! ## Closing the cells -/

theorem shut (k : Kind) (n : ℕ) (h : ∀ n', n ≤ n' → dut c n' k = ∅) : iprop(ctx o κ ν ∗ posn c k n) ⊢ iprop(|={Set.univ}=> semVal (cell c k) 0) := by
  unfold posn
  iintro ⟨#Hctx, Hat, -⟩
  iapply (Rounds.cell_close ER (Rd o) (Set.mem_univ (κ (c, k))) (fun h => h) (R := n) fun n' hn => (Rd_duties o c k n').trans (h n' hn))
  isplitr; · iapply (ctx_cell o κ ν c k); iexact Hctx
  iexact Hat

theorem shut_cr (q : Fin 2) (r : Fin 4) : iprop(ctx o κ ν ∗ cwt q r c 13) ⊢ iprop(|={Set.univ}=> semVal (cell c (.cr q r)) 0) := by
  unfold cwt
  iintro ⟨#Hctx, %S, %hS, Hat, -⟩
  have hd : dut c 0 (.cr q r) = Finset.range 13 := rfl
  have hS' : Finset.range 13 ⊆ S := by
    have h0 : (Finset.range 13 \ S).card = 0 := by omega
    exact Finset.sdiff_eq_empty_iff_subset.mp (Finset.card_eq_zero.mp h0)
  imod (Rounds.fupd_skip ER (Rd o) (κ := κ (c, .cr q r)) (R := 0) (m := 13) (T := S) (g := cell c (.cr q r)) (by rw [Rd_duties, hd]; exact hS')
    (by rw [Rd_expect, hd, Finset.card_range]; rfl) (Set.mem_univ _)) $$ [Hat] with ⟨Hat, Hr⟩
  · isplitr; · iapply (ctx_cell o κ ν c (.cr q r)); iexact Hctx
    iexact Hat
  iapply (shut o κ ν (c := c) (.cr q r) 1 fun n' hn => if_neg (by omega))
  isplitr; · iexact Hctx
  unfold posn
  isplitl [Hat] <;> iassumption

omit [FloatOps F] in
theorem upd_two {A B : sProp 𝕄} : iprop((|={Set.univ}=> A) ∗ (|={Set.univ}=> B)) ⊢ iprop(|={Set.univ}=> (A ∗ B)) := by
  iintro ⟨>HA, >HB⟩
  imodintro
  isplitl [HA] <;> iassumption
omit [FloatOps F] in
theorem upd_four (P : Fin 4 → sProp 𝕄) : (four fun r => iprop(|={Set.univ}=> P r)) ⊢ iprop(|={Set.univ}=> four P) := by
  unfold four
  exact (smono BIBase.Entails.rfl ((smono BIBase.Entails.rfl upd_two).trans upd_two)).trans upd_two

omit [FloatOps F] in
theorem with_two {R A B A' B' : sProp 𝕄} [BI.Persistent R] (h : iprop(R ∗ A) ⊢ A') (h' : iprop(R ∗ B) ⊢ B') : iprop(R ∗ A ∗ B) ⊢ iprop(A' ∗ B') := by
  iintro ⟨#HR, HA, HB⟩
  isplitl [HA]
  · iapply h; isplitr; · iexact HR
    iexact HA
  iapply h'; isplitr; · iexact HR
  iexact HB
omit [FloatOps F] in
theorem with_four {R : sProp 𝕄} [BI.Persistent R] (P P' : Fin 4 → sProp 𝕄) (h : ∀ r, iprop(R ∗ P r) ⊢ P' r) : iprop(R ∗ four P) ⊢ four P' := by
  unfold four
  exact with_two (h 0) (with_two (h 1) (with_two (h 2) (h 3)))

/-- The closed cells of ring `r`. -/
abbrev shutS (c : Dev nD) (r : Fin 4) : sProp 𝕄 :=
  iprop((ringK (fun k => semVal (cell c k) 0) 0 r ∗ semVal (cell c (.cr 0 r)) 0)
    ∗ (ringK (fun k => semVal (cell c k) 0) 1 r ∗ semVal (cell c (.cr 1 r)) 0 ∗ semVal (cell c (.ou r 0)) 0 ∗ semVal (cell c (.ou r 1)) 0))

theorem shut_poss (q : Fin 2) (r : Fin 4) : iprop(ctx o κ ν ∗ poss q r c 15) ⊢ iprop(|={Set.univ}=> ringK (fun k => semVal (cell c k) 0) q r) := by
  have hs : ∀ (s : Fin 2) (n : ℕ), 15 ≤ 2 * n + s.val → ∀ n', n ≤ n' → dut c n' (.sd q r s) = ∅ := fun s n h n' hn => if_neg (by omega)
  have hr : ∀ (s : Fin 2) (n : ℕ), 15 ≤ 2 * n + s.val → ∀ n', n ≤ n' → dut c n' (.rv q r s) = ∅ := fun s n h n' hn => if_neg (by omega)
  have hp : (poss q r c 15 : sProp 𝕄) = iprop((posn c (.sd q r 1) 7 ∗ posn c (.rv q r 1) 7) ∗ (posn c (.sd q r 0) 8 ∗ posn c (.rv q r 0) 8)) := rfl
  rw [hp]
  iintro ⟨#Hctx, ⟨S1, R1⟩, S0, R0⟩
  imod (shut o κ ν (c := c) (.sd q r 1) 7 (hs 1 7 (by decide))) $$ [S1] with S1
  · isplitr; · iexact Hctx
    iexact S1
  imod (shut o κ ν (c := c) (.rv q r 1) 7 (hr 1 7 (by decide))) $$ [R1] with R1
  · isplitr; · iexact Hctx
    iexact R1
  imod (shut o κ ν (c := c) (.sd q r 0) 8 (hs 0 8 (by decide))) $$ [S0] with S0
  · isplitr; · iexact Hctx
    iexact S0
  imod (shut o κ ν (c := c) (.rv q r 0) 8 (hr 0 8 (by decide))) $$ [R0] with R0
  · isplitr; · iexact Hctx
    iexact R0
  imodintro
  isplitl [S0 R0]
  · isplitl [S0] <;> iassumption
  isplitl [S1] <;> iassumption

theorem shut_ring (r : Fin 4) : iprop(ctx o κ ν ∗ endS c r) ⊢ iprop(|={Set.univ}=> shutS c r) := by
  have ho : ∀ (s : Fin 2) (n : ℕ), 9 ≤ n + 2 * s.val → ∀ n', n ≤ n' → dut c n' (.ou r s) = ∅ := fun s n h n' hn => if_neg (by omega)
  unfold endS
  refine (with_two (with_two (shut_poss o κ ν 0 r) (shut_cr o κ ν 0 r)) (with_two (shut_poss o κ ν 1 r) (with_two (shut_cr o κ ν 1 r)
    (with_two (shut o κ ν (c := c) (.ou r 0) 9 (ho 0 9 (by decide))) (shut o κ ν (c := c) (.ou r 1) 7 (ho 1 7 (by decide))))))).trans ?_
  exact (smono upd_two ((smono BIBase.Entails.rfl ((smono BIBase.Entails.rfl upd_two).trans upd_two)).trans upd_two)).trans upd_two

theorem shut_am : iprop(ctx o κ ν ∗ bigSep Finset.univ (amEnd (F := F) c) ∗ posn c (.am c) 0 ∗ posn c (.ar c) 0)
    ⊢ iprop(|={Set.univ}=> bigSep Finset.univ (fun d : Fin 16 => iprop(semVal (cell c (.am d)) 0 ∗ semVal (cell c (.ar d)) 0))) := by
  have h1 : ∀ d : Fin 16, d ≠ c → iprop(ctx o κ ν ∗ amEnd c d) ⊢ iprop(|={Set.univ}=> (semVal (cell c (.am d)) 0 ∗ semVal (cell c (.ar d)) 0)) := by
    intro d hd
    unfold amEnd
    rw [if_neg hd]
    exact (with_two (shut o κ ν (c := c) (.am d) 1 fun n' hn => if_neg (by omega)) (shut o κ ν (c := c) (.ar d) 1 fun n' hn => if_neg (by omega))).trans upd_two
  have h2 : iprop(ctx o κ ν ∗ posn c (.am c) 0 ∗ posn c (.ar c) 0) ⊢ iprop(|={Set.univ}=> (semVal (cell c (.am c)) 0 ∗ semVal (cell c (.ar c)) 0)) :=
    (with_two (shut o κ ν (c := c) (.am c) 0 fun n' hn => if_neg fun h => h.2 rfl) (shut o κ ν (c := c) (.ar c) 0 fun n' hn => if_neg fun h => h.2 rfl)).trans upd_two
  have h3 : iprop(ctx o κ ν ∗ bigSep (Finset.univ.erase c) (amEnd (F := F) c))
      ⊢ bigSep (Finset.univ.erase c) (fun d : Fin 16 => iprop(|={Set.univ}=> (semVal (cell c (.am d)) 0 ∗ semVal (cell c (.ar d)) 0))) :=
    bigSep_with_persistent fun d hd => h1 d (Finset.ne_of_mem_erase hd)
  have e1 := Entails.of_eq (take_one (amEnd (F := F) c) c)
  have e2 := Entails.of_eq (take_one (fun d : Fin 16 => iprop(|={Set.univ}=> (semVal (cell c (.am d)) 0 ∗ semVal (cell c (.ar d)) 0 : sProp 𝕄))) c).symm
  iintro ⟨#Hctx, HE, HP⟩
  iapply (upd_all (fun d : Fin 16 => iprop(semVal (cell c (.am d)) 0 ∗ semVal (cell c (.ar d)) 0)))
  ihave HE := e1 $$ HE
  icases HE with ⟨-, HE⟩
  iapply e2
  isplitl [HP]
  · iapply h2
    isplitr; · iexact Hctx
    iexact HP
  iapply h3
  isplitr; · iexact Hctx
  iexact HE

/-- All cells of device `c` closed. -/
theorem shut_all : iprop(ctx o κ ν ∗ sems c) ⊢ iprop(|={Set.univ}=> bigSep Finset.univ (fun k : Kind => semVal (cell c k) 0)) := by
  have e1 := Entails.of_eq (kinds_split (F := F) (fun k => semVal (cell c k) 0)).symm
  have e2 := Entails.of_eq (each_sep (F := F) (fun d : Fin 16 => semVal (cell c (.am d)) 0) (fun d : Fin 16 => semVal (cell c (.ar d)) 0))
  unfold sems
  iintro ⟨#Hctx, Hb, HS, HA⟩
  imod (shut o κ ν (c := c) .bar 1 fun n' hn => if_neg (by omega)) $$ [Hb] with Hb
  · isplitr; · iexact Hctx
    iexact Hb
  imod ((with_four (endS c) _ (shut_ring o κ ν (c := c))).trans (upd_four (shutS c))) $$ [HS] with HS
  · isplitr; · iexact Hctx
    iexact HS
  imod (shut_am o κ ν (c := c)) $$ [HA] with HA
  · isplitr; · iexact Hctx
    iexact HA
  imodintro
  ihave HS := (four_split (fun r => iprop(ringK (fun k => semVal (cell c k) 0) 0 r ∗ semVal (cell c (.cr 0 r)) 0))
    (fun r => iprop(ringK (fun k => semVal (cell c k) 0) 1 r ∗ semVal (cell c (.cr 1 r)) 0 ∗ semVal (cell c (.ou r 0)) 0 ∗ semVal (cell c (.ou r 1)) 0))) $$ HS
  icases HS with ⟨H0, H1⟩
  ihave HA := e2 $$ HA
  icases HA with ⟨HA, HB⟩
  iapply e1
  isplitl [Hb]; · iexact Hb
  isplitl [H0]; · iexact H0
  isplitl [H1]; · iexact H1
  isplitl [HA] <;> iassumption

end Cert.Ring
-- ==== Proof.Fund.lean ====
/-
# The launch's elements

What the launch owns, and its dealing to the devices.
-/
module

public import proofs.«01_k».proof.Proof.Cells
public import proofs.«01_k».proof.Proof.Gen.KernelIdeal.Launch

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv)

variable {F : FTy → Type} [FloatOps F]

local notation "𝕄" => MT nD τ sig ℕ (Elt F) ℕ UU ℕ

variable (o : Ops F)
variable {c : Dev nD}

/-! ## The elements the launch owns -/

/-- Every device's cells. -/
def ringCells : Finset (GSem nD τ sig) := Finset.univ.map ⟨fun e : Dev nD × Kind => cell e.1 e.2, fun _ _ h => cell_inj h⟩
/-- Every duty's token. -/
def ringToks : Finset (GSem nD τ sig × ℕ × ℕ) := Finset.univ.map ⟨tokOf, tokOf_inj⟩

/-- The staging's element, the cells' and the slots'. -/
def u₀ : UU :=
  (initOf (Pipeline.cells cfgs cellOf_inj) (Pipeline.launchToks cfgs cellOf_inj),
    (initOf ringCells ringToks, Release.initSlots (Finset.univ : Finset Key) 8))

omit [FloatOps F] in
theorem own_u₀ : (ownU u₀ : sProp 𝕄) ⊢ iprop(BI.own (EP (initOf (Pipeline.cells cfgs cellOf_inj) (Pipeline.launchToks cfgs cellOf_inj)))
    ∗ BI.own (ER (initOf ringCells ringToks)) ∗ BI.own (ES (Release.initSlots (Finset.univ : Finset Key) 8))) :=
  (ownU_pair _ _).trans (smono BIBase.Entails.rfl (own_pair_emb EO (initOf ringCells ringToks) (Release.initSlots (Finset.univ : Finset Key) 8)))

/-- The slots' element, which device 0 carries. -/
def slotsAt (c : Dev nD) : sProp 𝕄 := if c = 0 then BI.own (ES (Release.initSlots (Finset.univ : Finset Key) 8)) else BI.emp

/-- The tokens device `c` pays with. -/
def tokens (c : Dev nD) : sProp 𝕄 := bigSep Finset.univ fun x : Tk => dtk (F := F) (tk c x).1.1 (tk c x).1.2 (tk c x).2.1 (tk c x).2.2

/-- What the launch deals device `c`. -/
def G (c : Dev nD) : sProp 𝕄 :=
  iprop((bigSep Finset.univ fun k : Kind => roundState ER (Rd o) (cell c k) 0) ∗ (bigSep Finset.univ fun k : Kind => posn c k 0) ∗ tokens c ∗ slotsAt c)

/-- A family at one member is the member. -/
theorem at_zero (P : sProp 𝕄) : P ⊢ bigSep Finset.univ fun c : Dev nD => (if c = 0 then P else BI.emp : sProp 𝕄) := by
  have e : (bigSep (Finset.univ.erase (0 : Dev nD)) fun c : Dev nD => (if c = 0 then P else BI.emp : sProp 𝕄)) = bigSep (Finset.univ.erase (0 : Dev nD)) fun _ => BI.emp :=
    bigSep_congr fun c hc => if_neg (Finset.ne_of_mem_erase hc)
  have e2 : (BI.emp : sProp 𝕄) ⊢ bigSep (Finset.univ.erase (0 : Dev nD)) fun _ => BI.emp := Entails.of_eq (bigSep_emp_const _).symm
  rw [bigSep_univ_at _ (0 : Dev nD), e, if_pos rfl]
  iintro H
  isplitl [H]; · iexact H
  iapply e2
  iempintro

/-- And back. -/
theorem of_zero (P : sProp 𝕄) : (bigSep Finset.univ fun c : Dev nD => (if c = 0 then P else BI.emp : sProp 𝕄)) ⊢ P :=
  BIBase.Entails.trans (bigSep_elim (Finset.mem_univ (0 : Dev nD))) (Entails.of_eq (if_pos rfl))

theorem cells_all (P : GSem nD τ sig → sProp 𝕄) :
    bigSep ringCells P = bigSep Finset.univ fun c : Dev nD => bigSep Finset.univ fun k : Kind => P (cell c k) := by
  unfold ringCells; rw [bigSep_map, bigSep_univ_prod]; rfl

theorem toks_all : bigSep ringToks (fun x => (dutyTok ER x.1 x.2.1 x.2.2 : sProp 𝕄)) = bigSep Finset.univ fun c : Dev nD => tokens c := by
  unfold ringToks tokens; rw [bigSep_map, bigSep_univ_prod]; rfl

theorem sep4 (A B C D : Dev nD → sProp 𝕄) : iprop(bigSep Finset.univ A ∗ bigSep Finset.univ B ∗ bigSep Finset.univ C ∗ bigSep Finset.univ D)
    ⊢ bigSep Finset.univ fun c : Dev nD => iprop(A c ∗ B c ∗ C c ∗ D c) := by
  refine Entails.of_eq ?_
  rw [bigSep_sep', bigSep_sep', bigSep_sep']

theorem sep2k (A B : Dev nD → Kind → sProp 𝕄) : iprop((bigSep Finset.univ fun c => bigSep Finset.univ (A c)) ∗ (bigSep Finset.univ fun c => bigSep Finset.univ (B c)))
    ⊢ bigSep Finset.univ fun c : Dev nD => bigSep Finset.univ fun k => iprop(A c k ∗ B c k) := by
  refine Entails.of_eq ?_
  rw [← bigSep_sep']
  exact bigSep_congr fun c _ => (bigSep_sep' _ _ _).symm

theorem fund_ring : iprop(BI.own (ER (initOf ringCells ringToks)) ∗ BI.own (ES (Release.initSlots (Finset.univ : Finset Key) 8)))
    ⊢ (|==> bigSep Finset.univ (G o) : sProp 𝕄) := by
  have e1 := Entails.of_eq (cells_all (F := F) fun g => roundState ER (Rd o) g 0)
  have e2 := Entails.of_eq (cells_all (F := F) fun g => atPos ER g 0 ∅ 0)
  have e3 := Entails.of_eq (cells_all (F := F) fun g => reached ER g 0)
  have e4 := Entails.of_eq (toks_all (F := F))
  have e5 := at_zero (F := F) (BI.own (ES (Release.initSlots (Finset.univ : Finset Key) 8)))
  have e6 := sep2k (F := F) (fun c k => atPos ER (cell c k) 0 ∅ 0) (fun c k => reached ER (cell c k) 0)
  have e7 := sep4 (F := F) (fun c => bigSep Finset.univ fun k : Kind => roundState ER (Rd o) (cell c k) 0) (fun c => bigSep Finset.univ fun k : Kind => posn c k 0)
    tokens slotsAt
  iintro ⟨HX, HS⟩
  imod (Rounds.fund ER (Rd o) ringCells ringToks) $$ HX with ⟨Hst, Hr, Hat, Htok⟩
  imodintro
  ihave Hst := e1 $$ Hst
  ihave Hat := e2 $$ Hat
  ihave Hr := e3 $$ Hr
  ihave Htok := e4 $$ Htok
  ihave HS := e5 $$ HS
  ihave Hp := e6 $$ [Hat Hr]
  · isplitl [Hat] <;> iassumption
  iapply (show _ ⊢ bigSep Finset.univ (G o) from e7)
  isplitl [Hst]; · iexact Hst
  isplitl [Hp]; · iexact Hp
  isplitl [Htok]; · iexact Htok
  iexact HS

/-! ## The semaphores -/

/-- The kernel's own semaphores: every kind but the barrier. -/
abbrev OwnK := {k : Kind // k ≠ .bar}
abbrev osem (k : OwnK) : SemLoc sig := semOf k.1

theorem osem_scoped : ∀ k : Kind, k ≠ .bar → (semOf k).isScoped .tc = true := by decide
theorem osem_stage : ∀ k : Kind, semOf k ≠ .dma (sem0_0 0) ∧ semOf k ≠ .dma (sem0_1 0) := by decide

theorem ownSemFacts : Pipeline.OwnSemFacts cfg0.spec osem where
  isScoped k := osem_scoped k.1 k.2
  inj k k' h := Subtype.ext (semOf_inj h)
  disj k w s := by
    match w with
    | 0 => rw [Subsingleton.elim s 0]; exact (osem_stage k.1).1
    | 1 => rw [Subsingleton.elim s 0]; exact (osem_stage k.1).2

omit [FloatOps F] in
theorem unscopedSems0_eq (c : Dev nD) : (unscopedSems0 c : sProp 𝕄) = semVal (cell c .bar) 0 := by
  unfold unscopedSems0; rw [bigSep_eq_bigSepL_of_eq [SemLoc.reg barS] (by decide) (by decide)]; rfl

abbrev own0 (c : Dev nD) : sProp 𝕄 := Pipeline.ownSems0 (Ix := ℕ) (Name := ℕ) (U := UU) (Lvl := ℕ) (Val := Elt F) (τ := τ) osem c

omit [FloatOps F] in
theorem swap (A B : sProp 𝕄) : iprop(A ∗ B) ⊢ iprop(B ∗ A) := by
  iintro ⟨HA, HB⟩; isplitl [HB] <;> iassumption

omit [FloatOps F] in
/-- The counters of all of a device's cells. -/
theorem sems_eq (c : Dev nD) : (iprop(own0 c ∗ unscopedSems0 c) : sProp 𝕄) = bigSep Finset.univ fun k : Kind => semVal (cell c k) 0 := by
  have h := bigSep_subtype_ne Kind.bar (fun k : Kind => (semVal (cell c k) 0 : sProp 𝕄))
  rw [unscopedSems0_eq, bigSep_univ_at _ Kind.bar, ← h]
  exact equiv_iff.mp ⟨swap _ _, swap _ _⟩

/-! ## The allocation -/

/-- The invariants of the cells and of the slots, at given names. -/
def known (κ : Dev nD × Kind → ℕ) (ν : Key → ℕ) : sProp 𝕄 :=
  iprop(bigSep Finset.univ (fun e : Dev nD × Kind => iprop(cellInv ER (Rd o) (κ e) (cell e.1 e.2) ∗ reached ER (cell e.1 e.2) 0))
    ∗ bigSep Finset.univ (fun e : Key => slotInv ES (ν e) e (slotOf e)))
instance known_persistent (κ : Dev nD × Kind → ℕ) (ν : Key → ℕ) : BI.Persistent (known o κ ν) := by unfold known; infer_instance

/-- What the global step makes of it. -/
def G' (c : Dev nD) : sProp 𝕄 := iprop(∃ κ ν, known o κ ν ∗ share c)

theorem core_alloc (c : Dev nD) :
    iprop(own0 c ∗ unscopedSems0 c ∗ G o c)
      ⊢ |={Set.univ}=> iprop((bigSep Finset.univ fun k : Kind => iprop(∃ κ : ℕ, cellInv ER (Rd o) κ (cell c k)))
          ∗ (bigSep Finset.univ fun k : Kind => posn c k 0) ∗ tokens c ∗ slotsAt c) := by
  have e1 := Entails.of_eq (sems_eq (F := F) c)
  unfold G
  iintro ⟨Hos, Hus, Hst, Hat, Htok, HS⟩
  ihave Hv := e1 $$ [Hos Hus]
  · isplitl [Hos] <;> iassumption
  imod (show iprop((bigSep Finset.univ fun k : Kind => semVal (cell c k) 0) ∗ bigSep Finset.univ fun k : Kind => roundState ER (Rd o) (cell c k) 0)
      ⊢ (|={Set.univ}=> bigSep Finset.univ fun k : Kind => iprop(∃ κ : ℕ, cellInv ER (Rd o) κ (cell c k)) : sProp 𝕄) from by
        rw [← bigSep_sep']
        exact (bigSep_mono fun k _ => (Rounds.body_intro ER (Rd o) (cell c k)).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

theorem split4 (A B C D : Dev nD → sProp 𝕄) : (bigSep Finset.univ fun c : Dev nD => iprop(A c ∗ B c ∗ C c ∗ D c))
    ⊢ iprop(bigSep Finset.univ A ∗ bigSep Finset.univ B ∗ bigSep Finset.univ C ∗ bigSep Finset.univ D) := by
  refine Entails.of_eq ?_
  rw [bigSep_sep', bigSep_sep', bigSep_sep']

theorem map_sub {A B : Type} [Fintype A] (f : A ↪ B) (s : Finset B) (h : ∀ a, f a ∈ s) : Finset.univ.map f ⊆ s := by
  intro y hy
  obtain ⟨x, -, rfl⟩ := Finset.mem_map.mp hy
  exact h x

theorem in_box {A : Type} [Fintype A] {n : ℕ} (y : A × ℕ) (h : y.2 < n) : y ∈ (Finset.univ : Finset A) ×ˢ Finset.range n :=
  Finset.mem_product.mpr ⟨Finset.mem_univ _, Finset.mem_range.mpr h⟩

set_option maxRecDepth 20000 in
/-- The write tokens, dealt to the writers. -/
theorem writes_all : bigSep ((Finset.univ : Finset Key) ×ˢ Finset.range 8) (fun x => (writeTok ES x.1 (x.2 + 1) : sProp 𝕄))
    ⊢ bigSep Finset.univ fun c : Dev nD => bigSep Finset.univ fun x : Wt => wtk (F := F) (wt c x).1 ((wt c x).2 + 1) := by
  have hs : Finset.univ.map ⟨fun x : Dev nD × Wt => wt x.1 x.2, wt_inj⟩ ⊆ (Finset.univ : Finset Key) ×ˢ Finset.range 8 := by
    have h1 : ∀ x : Dev nD × Wt, (wt x.1 x.2).2 < 8 := fun x => wt_lt x.1 x.2
    have h2 : ∀ x : Dev nD × Wt, wt x.1 x.2 ∈ (Finset.univ : Finset Key) ×ˢ Finset.range 8 := by
      intro x
      have h3 := h1 x
      generalize wt x.1 x.2 = y at h3 ⊢
      generalize 8 = n at h3 ⊢
      refine Finset.mem_product.2 ⟨?_, ?_⟩
      · exact Finset.mem_univ _
      · exact Finset.mem_range.2 h3
    generalize (Finset.univ : Finset Key) ×ˢ Finset.range 8 = S at h2 ⊢
    exact map_sub _ _ h2
  refine BIBase.Entails.trans (bigSep_subset hs) (Entails.of_eq ?_)
  rw [bigSep_map, bigSep_univ_prod]; rfl

theorem readers_all : bigSep (Finset.univ : Finset Key) (fun e => (readerAt ES e 0 : sProp 𝕄))
    ⊢ bigSep Finset.univ fun c : Dev nD => bigSep Finset.univ fun k : Kind => readerAt ES ((c, k) : Key) 0 := by
  refine Entails.of_eq ?_
  exact bigSep_univ_prod (fun e : Key => (readerAt ES e 0 : sProp 𝕄))

theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (smono (BI.bigSep_of_persistent S R) BIBase.Entails.rfl).trans (by rw [← bigSep_sep']; exact bigSep_mono h)

/-- The marks of round 0 alone. -/
theorem marks : (bigSep Finset.univ fun c : Dev nD => bigSep Finset.univ fun k : Kind => posn c k 0 : sProp 𝕄)
    ⊢ iprop((bigSep Finset.univ fun c : Dev nD => bigSep Finset.univ fun k : Kind => (atPos ER (cell c k) 0 ∅ 0 : sProp 𝕄))
      ∗ bigSep Finset.univ fun c : Dev nD => bigSep Finset.univ fun k : Kind => (reached ER (cell c k) 0 : sProp 𝕄)) := by
  refine Entails.of_eq ?_
  rw [← bigSep_sep']
  exact bigSep_congr fun c _ => (bigSep_congr fun k _ => rfl).trans (bigSep_sep' _ _ _)

theorem regroup :
    (bigSep Finset.univ fun c : Dev nD => iprop((bigSep Finset.univ fun k : Kind => iprop(∃ κ : ℕ, cellInv ER (Rd o) κ (cell c k)))
          ∗ (bigSep Finset.univ fun k : Kind => posn c k 0) ∗ tokens c ∗ slotsAt c) : sProp 𝕄)
      ⊢ |={Set.univ}=> bigSep Finset.univ (G' o) := by
  have e1 := split4 (F := F) (fun c => bigSep Finset.univ fun k : Kind => iprop(∃ κ : ℕ, cellInv ER (Rd o) κ (cell c k))) (fun c => bigSep Finset.univ fun k : Kind => posn c k 0)
    tokens slotsAt
  have e2 := of_zero (F := F) (BI.own (ES (Release.initSlots (Finset.univ : Finset Key) 8)))
  have e3 := Entails.of_eq (bigSep_univ_prod (fun e : Dev nD × Kind => (iprop(∃ κ : ℕ, cellInv ER (Rd o) κ (cell e.1 e.2)) : sProp 𝕄))).symm
  have e4 := Entails.of_eq (bigSep_univ_prod (fun e : Dev nD × Kind => (reached ER (cell e.1 e.2) 0 : sProp 𝕄))).symm
  have e5 := marks (F := F)
  have e6 := writes_all (F := F)
  have e7 := readers_all (F := F)
  have e8 := sep4 (F := F) (fun c => bigSep Finset.univ fun k : Kind => posn c k 0) tokens
    (fun c => bigSep Finset.univ fun x : Wt => wtk (F := F) (wt c x).1 ((wt c x).2 + 1)) (fun c => bigSep Finset.univ fun k : Kind => readerAt ES ((c, k) : Key) 0)
  have e9 := sep2k (F := F) (fun c k => atPos ER (cell c k) 0 ∅ 0) (fun c k => reached ER (cell c k) 0)
  have e10 (κ : Dev nD × Kind → ℕ) : iprop(bigSep Finset.univ (fun e : Dev nD × Kind => cellInv ER (Rd o) (κ e) (cell e.1 e.2)) ∗ bigSep Finset.univ fun e : Dev nD × Kind => reached ER (cell e.1 e.2) 0)
      ⊢ bigSep Finset.univ (fun e : Dev nD × Kind => iprop(cellInv ER (Rd o) (κ e) (cell e.1 e.2) ∗ reached ER (cell e.1 e.2) 0)) := Entails.of_eq (bigSep_sep' _ _ _).symm
  iintro H
  ihave H := e1 $$ H
  icases H with ⟨HI, Hp, Htok, HS⟩
  ihave HS := (show bigSep Finset.univ (slotsAt (F := F)) ⊢ BI.own (ES (Release.initSlots (Finset.univ : Finset Key) 8)) from e2) $$ HS
  imod (Release.slots_init ES (Finset.univ : Finset Key) 8 (fun e => (slotOf e : sProp 𝕄))) $$ HS with ⟨%ν, -, #Hsl, Hrd, Hwt⟩
  imodintro
  ihave HI := e3 $$ HI
  ihave HK := (BI.bigSep_exists_pi Finset.univ (fun (e : Dev nD × Kind) (κ : ℕ) => (cellInv ER (Rd o) κ (cell e.1 e.2) : sProp 𝕄))) $$ HI
  icases HK with ⟨%κ, #HI⟩
  ihave Hp := e5 $$ Hp
  icases Hp with ⟨Hat, #Hr⟩
  ihave Hp := e9 $$ [Hat]
  · isplitl [Hat]; · iexact Hat
    iexact Hr
  ihave #Hr' := e4 $$ Hr
  ihave Hwt := e6 $$ Hwt
  ihave Hrd := e7 $$ Hrd
  ihave #HC := (e10 κ) $$ []
  · isplitr; · iexact HI
    iexact Hr'
  iapply (each_with (R := known o κ ν) (Φ := fun c => share (F := F) c) (Ψ := G' o) fun c _ => by
    unfold G'; iintro ⟨HR, Hs⟩; iexists κ; iexists ν; isplitl [HR] <;> iassumption)
  isplitr
  · unfold known; isplitr; · iexact HC
    iexact Hsl
  iapply (show _ ⊢ bigSep Finset.univ (fun c => share (F := F) c) from e8)
  isplitl [Hp]; · iexact Hp
  isplitl [Htok]; · iexact Htok
  isplitl [Hwt] <;> iassumption

/-- The global step, of every device's semaphores at once. -/
theorem glob : (bigSep Finset.univ fun c => iprop(own0 c ∗ unscopedSems0 c ∗ G o c) : sProp 𝕄) ⊢ |={Set.univ}=> bigSep Finset.univ (G' o) :=
  ((bigSep_mono fun c _ => core_alloc o c).trans (bigSep_fupd _ _)).trans ((BI.fupd_mono (regroup o)).trans BI.fupd_trans)

end Cert.Ring
-- ==== Proof.Run.lean ====
/-
# One device's run

The kernel's data for the launch, and the body's soundness.
-/
module

public import proofs.«01_k».proof.Proof.Fund
public import proofs.«01_k».proof.Proof.Gen.KernelIdeal.Points

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv)

variable {F : FTy → Type} [FloatOps F]

local notation "𝕄" => MT nD τ sig ℕ (Elt F) ℕ UU ℕ

variable {c : Dev nD}
variable (m : (ℓ : Loc nD τ sig) → Buf (Elt F) ℓ) (ρ : Dev nD → PrngReg)

/-! ## The kernel's data -/

/-- The memory at launch. -/
def s₀ : MemSt nD τ sig (Elt F) := ⟨m, fun _ => 0, ρ⟩

/-- The two operands of every device, as staged. -/
def ops : Ops F where
  x c := (win0_0.blk (0 : Fin 1)).view.read (Elt F) (m ((c : Thread nD τ).loc main_arg0))
  w c := (win0_1.blk (0 : Fin 1)).view.read (Elt F) (m ((c : Thread nD τ).loc main_arg1))

omit [FloatOps F] in
theorem owed_end (c : Dev nD) : owed c 275 = 0 := by
  have h : (Finset.univ.filter fun p : Pay => 275 ≤ ix p) = ∅ := by
    refine Finset.filter_eq_empty_iff.mpr fun p _ => ?_
    cases p <;> simp only [ix] <;> omega
  unfold owed; rw [h, Finset.sum_empty]

/-- The result's buffer, at given contents. -/
def outPts (c : Dev nD) (f : (main_v1 : Ref sig .tc).ty.Contents (Elt F)) : sProp 𝕄 := outM.view.loc (c : Thread nD τ) ↦[Finset.univ]{fullShare} f

/-- What device `c` starts with, its buffers apart. -/
def start₀ (c : Dev nD) : sProp 𝕄 :=
  iprop((∃ κ ν, ctx (ops m) κ ν ∗ lin c) ∗ ∃ f, outPts c f)

def Φ₀ (c : Dev nD) : sProp 𝕄 := iprop(start₀ m c ∗ bufs c)
/-- What it ends with. -/
def Φ₁ (c : Dev nD) : sProp 𝕄 :=
  iprop(bufs c ∗ (bigSep Finset.univ fun k : Kind => semVal (cell c k) 0) ∗ ∃ f, ⌜outOk (ops m) c f⌝ ∗ outPts c f)

def dats (_ : Fin 1) (c : Dev nD) : Pipeline.Dat τ (Elt F) ℕ ℕ UU ℕ cfg0 c where
  A w := (s₀ m ρ).mem ((cfg0.win w).arr.view.loc (c : Thread nD τ))
  after w _ := match w with
    | ⟨0, _⟩ => (ops m).x c
    | ⟨1, _⟩ => (ops m).w c
  Φ t := match t with
    | ⟨0, _⟩ => Φ₀ m c
    | ⟨_ + 1, _⟩ => Φ₁ m c
  q _ := fullShare
  owed t := match t with
    | ⟨0, _⟩ => owed c 0
    | ⟨_ + 1, _⟩ => 0

/-! ## The buffers -/

omit [FloatOps F] in
theorem own_pts (c : Dev nD) (b : Ref sig .tc) (X : b.ty.Contents (Elt F)) :
    (owns (c : Thread nD τ) (Memref.whole b) fullShare X : sProp 𝕄) ⊢ (Memref.whole b).view.loc (c : Thread nD τ) ↦[Finset.univ]{fullShare} X := by
  unfold owns; simp only [Memref.view_whole, View.read_whole, View.set_whole]
  iintro ⟨%f, %hf, H⟩
  subst hf
  iexact H

omit [FloatOps F] in
theorem pts_own (c : Dev nD) (b : Ref sig .tc) (X : b.ty.Contents (Elt F)) :
    ((Memref.whole b).view.loc (c : Thread nD τ) ↦[Finset.univ]{fullShare} X : sProp 𝕄) ⊢ owns (c : Thread nD τ) (Memref.whole b) fullShare X := by
  unfold owns; simp only [Memref.view_whole, View.read_whole, View.set_whole]
  iintro H
  iexists X
  isplitr; · ipureintro; rfl
  iexact H

/-- A whole buffer at some contents. -/
abbrev some' (c : Dev nD) (b : Ref sig .tc) : sProp 𝕄 := iprop(∃ f : Buf (Elt F) ((c : Thread nD τ).loc b), ((c : Thread nD τ).loc b) ↦{fullShare} f)

omit [FloatOps F] in
theorem any_some (c : Dev nD) (b : Ref sig .tc) : (any c (Memref.whole b) : sProp 𝕄) = some' c b := by
  refine equiv_iff.mp ⟨show any c (Memref.whole b) ⊢ some' c b from ?_, show some' c b ⊢ any c (Memref.whole b) from ?_⟩
  · iintro ⟨%v, H⟩
    ihave H := (own_pts c b v) $$ H
    iexists v; iexact H
  · iintro ⟨%f, H⟩
    iexists f
    iapply (pts_own c b f); iexact H

omit [FloatOps F] in
theorem ring0_eq (c : Dev nD) : (ringM c 0 : sProp 𝕄) = iprop(some' c cc0_scratch0 ∗ some' c cc0_scratch4 ∗ some' c cc0_scratch12 ∗ some' c cc0_scratch16 ∗ some' c cc0_scratch8) := by
  unfold ringM
  rw [← any_some c cc0_scratch0, ← any_some c cc0_scratch4, ← any_some c cc0_scratch12, ← any_some c cc0_scratch16, ← any_some c cc0_scratch8]
  rfl
omit [FloatOps F] in
theorem ring1_eq (c : Dev nD) : (ringM c 1 : sProp 𝕄) = iprop(some' c cc0_scratch1 ∗ some' c cc0_scratch5 ∗ some' c cc0_scratch13 ∗ some' c cc0_scratch17 ∗ some' c cc0_scratch9) := by
  unfold ringM
  rw [← any_some c cc0_scratch1, ← any_some c cc0_scratch5, ← any_some c cc0_scratch13, ← any_some c cc0_scratch17, ← any_some c cc0_scratch9]
  rfl
omit [FloatOps F] in
theorem ring2_eq (c : Dev nD) : (ringM c 2 : sProp 𝕄) = iprop(some' c cc0_scratch2 ∗ some' c cc0_scratch6 ∗ some' c cc0_scratch14 ∗ some' c cc0_scratch18 ∗ some' c cc0_scratch10) := by
  unfold ringM
  rw [← any_some c cc0_scratch2, ← any_some c cc0_scratch6, ← any_some c cc0_scratch14, ← any_some c cc0_scratch18, ← any_some c cc0_scratch10]
  rfl
omit [FloatOps F] in
theorem ring3_eq (c : Dev nD) : (ringM c 3 : sProp 𝕄) = iprop(some' c cc0_scratch3 ∗ some' c cc0_scratch7 ∗ some' c cc0_scratch15 ∗ some' c cc0_scratch19 ∗ some' c cc0_scratch11) := by
  unfold ringM
  rw [← any_some c cc0_scratch3, ← any_some c cc0_scratch7, ← any_some c cc0_scratch15, ← any_some c cc0_scratch19, ← any_some c cc0_scratch11]
  rfl

omit [FloatOps F] in
theorem scoped_bufs (c : Dev nD) : (Pipeline.scopedRest cfg0.spec c : sProp 𝕄) ⊢ bufs c := by
  have e := Entails.of_eq (scopedRest0_eq (Ix := ℕ) (Val := Elt F) (Name := ℕ) (U := UU) (Lvl := ℕ) c)
  have e2 : iprop(some' (F := F) c cc0_scratch51 ∗ some' c cc0_scratch52) ⊢ (xb0 c : sProp 𝕄) := BIBase.Entails.rfl
  have e3 : (some' (F := F) c cc0_scratch20 : sProp 𝕄) ⊢ iprop(∃ f, amM.view.loc (c : Thread nD τ) ↦[Finset.univ]{fullShare} f) := BIBase.Entails.rfl
  refine e.trans ?_
  unfold bufs four
  rw [ring0_eq, ring1_eq, ring2_eq, ring3_eq]
  iintro ⟨H0, H1, H2, H3, H4, H5, H6, H7, H8, H9, H10, H11, H12, H13, H14, H15, H16, H17, H18, H19, H20, H51, H52⟩
  isplitr [H20 H51 H52]
  · isplitl [H0 H4 H12 H16 H8]
    · isplitl [H0]; · iexact H0
      isplitl [H4]; · iexact H4
      isplitl [H12]; · iexact H12
      isplitl [H16]; · iexact H16
      iexact H8
    isplitl [H1 H5 H13 H17 H9]
    · isplitl [H1]; · iexact H1
      isplitl [H5]; · iexact H5
      isplitl [H13]; · iexact H13
      isplitl [H17]; · iexact H17
      iexact H9
    isplitl [H2 H6 H14 H18 H10]
    · isplitl [H2]; · iexact H2
      isplitl [H6]; · iexact H6
      isplitl [H14]; · iexact H14
      isplitl [H18]; · iexact H18
      iexact H10
    isplitl [H3]; · iexact H3
    isplitl [H7]; · iexact H7
    isplitl [H15]; · iexact H15
    isplitl [H19]; · iexact H19
    iexact H11
  isplitl [H20]
  · iapply e3; iexact H20
  iapply e2
  isplitl [H51] <;> iassumption

omit [FloatOps F] in
theorem bufs_scoped (c : Dev nD) : (bufs c : sProp 𝕄) ⊢ Pipeline.scopedRest cfg0.spec c := by
  have e := Entails.of_eq (scopedRest0_eq (Ix := ℕ) (Val := Elt F) (Name := ℕ) (U := UU) (Lvl := ℕ) c).symm
  have e2 : (xb0 c : sProp 𝕄) ⊢ iprop(some' (F := F) c cc0_scratch51 ∗ some' c cc0_scratch52) := BIBase.Entails.rfl
  have e3 : iprop(∃ f, amM.view.loc (c : Thread nD τ) ↦[Finset.univ]{fullShare} f) ⊢ (some' (F := F) c cc0_scratch20 : sProp 𝕄) := BIBase.Entails.rfl
  refine BIBase.Entails.trans ?_ e
  unfold bufs four
  rw [ring0_eq, ring1_eq, ring2_eq, ring3_eq]
  iintro ⟨⟨⟨H0, H4, H12, H16, H8⟩, ⟨H1, H5, H13, H17, H9⟩, ⟨H2, H6, H14, H18, H10⟩, ⟨H3, H7, H15, H19, H11⟩⟩, H20, Hx⟩
  ihave H20 := e3 $$ H20
  ihave Hx := e2 $$ Hx
  icases Hx with ⟨H51, H52⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H51]; · iexact H51
  iexact H52

/-! ## The body -/

theorem before_x (c : Dev nD) (d) : (dats m ρ 0 c).before (0 : Fin 2) t0_0 d = (ops m).x c := by
  unfold Pipeline.Dat.before; rw [if_pos (fetch0_0 t0_0)]; rfl
theorem before_w (c : Dev nD) (d) : (dats m ρ 0 c).before (1 : Fin 2) t0_0 d = (ops m).w c := by
  unfold Pipeline.Dat.before; rw [if_pos (fetch0_1 t0_0)]; rfl

def bodyPre (c : Dev nD) : sProp 𝕄 :=
  iprop(Φ₀ m c ∗ (dats m ρ 0 c).owesAt 0 t0_0.castSucc
    ∗ (∃ d, owns (c : Thread nD τ) sxM fullShare ((dats m ρ 0 c).before (0 : Fin 2) t0_0 d))
    ∗ (∃ d, owns (c : Thread nD τ) swM fullShare ((dats m ρ 0 c).before (1 : Fin 2) t0_0 d)))

def bodyPost (c : Dev nD) : sProp 𝕄 :=
  iprop(Φ₁ m c ∗ (dats m ρ 0 c).owesAt 0 t0_0.succ ∗ owns (c : Thread nD τ) sxM fullShare ((ops m).x c) ∗ owns (c : Thread nD τ) swM fullShare ((ops m).w c))

/-- What the body is entered with, as its proof takes it. -/
theorem pre_open (c : Dev nD) : bodyPre m ρ c ⊢ iprop((∃ κ ν, ctx (ops m) κ ν ∗ lin c) ∗ (∃ f, outPts c f) ∗ bufs c ∗ stgs (ops m) c ∗ Ow c 0) := by
  have e1 := own_pts (F := F) c cc0_stg0_0 ((ops m).x c)
  have e2 := own_pts (F := F) c cc0_stg1_0 ((ops m).w c)
  unfold bodyPre Φ₀ start₀ Pipeline.Dat.owesAt Pipeline.owesWithin
  rw [show (dats m ρ 0 c).owed t0_0.castSucc = owed c 0 from rfl]
  have e3 : iprop(∃ d, owns (c : Thread nD τ) sxM fullShare ((dats m ρ 0 c).before (0 : Fin 2) t0_0 d)) ⊢ (owns (c : Thread nD τ) sxM fullShare ((ops m).x c) : sProp 𝕄) := by
    iintro ⟨%d, H⟩; rw [before_x m ρ c d]; iexact H
  have e4 : iprop(∃ d, owns (c : Thread nD τ) swM fullShare ((dats m ρ 0 c).before (1 : Fin 2) t0_0 d)) ⊢ (owns (c : Thread nD τ) swM fullShare ((ops m).w c) : sProp 𝕄) := by
    iintro ⟨%d, H⟩; rw [before_w m ρ c d]; iexact H
  iintro ⟨⟨⟨Hc, Hout⟩, Hb⟩, ⟨%W, -, HO⟩, Hx, Hw⟩
  ihave Hx := e3 $$ Hx
  ihave Hw := e4 $$ Hw
  ihave Hx := e1 $$ Hx
  ihave Hw := e2 $$ Hw
  isplitl [Hc]; · iexact Hc
  isplitl [Hout]; · iexact Hout
  isplitl [Hb]; · iexact Hb
  isplitl [Hx Hw]
  · unfold stgs; isplitl [Hx] <;> iassumption
  unfold Ow; iexists W; iexact HO

/-- What the body leaves, as the launch takes it. -/
theorem post_close (κ : Dev nD × Kind → ℕ) (ν : Key → ℕ) (c : Dev nD) : iprop(ctx (ops m) κ ν ∗ done (ops m) c) ⊢ |={Set.univ}=> bodyPost m ρ c := by
  have e1 := pts_own (F := F) c cc0_stg0_0 ((ops m).x c)
  have e2 := pts_own (F := F) c cc0_stg1_0 ((ops m).w c)
  have e3 : (Ow c 275 : sProp 𝕄) ⊢ ∃ W, owes (c : Thread nD τ) 0 W := by unfold Ow; rw [owed_end]
  have e4 : (xw (ops m) c : sProp 𝕄) ⊢ xb0 c := by
    unfold xw xb0; iintro ⟨H1, H2⟩
    isplitl [H1]
    · iexists _; iexact H1
    iexists _; iexact H2
  unfold done bodyPost Φ₁ Pipeline.Dat.owesAt Pipeline.owesWithin stgs bufs
  rw [show (dats m ρ 0 c).owed t0_0.succ = 0 from rfl]
  iintro ⟨#Hctx, ⟨⟨Hx, Hw⟩, Hxw⟩, HR, Hm, ⟨%f, %hf, Hout⟩, Hs, HO⟩
  imod (shut_all (ops m) κ ν (c := c)) $$ [Hs] with Hs
  · isplitr; · iexact Hctx
    iexact Hs
  imodintro
  ihave Hx := e1 $$ Hx
  ihave Hw := e2 $$ Hw
  ihave HO := e3 $$ HO
  ihave Hxw := e4 $$ Hxw
  isplitl [HR Hm Hxw Hs Hout]
  · isplitl [HR Hm Hxw]
    · isplitl [HR]; · iexact HR
      isplitl [Hm]
      · iexists _; iexact Hm
      iexact Hxw
    isplitl [Hs]; · iexact Hs
    iexists f
    isplitr; · ipureintro; exact hf
    unfold outPts; iexact Hout
  isplitl [HO]
  · icases HO with ⟨%W, HO⟩
    iexists W
    isplitr; · ipureintro; exact fun _ _ => Or.inl trivial
    iexact HO
  isplitl [Hx] <;> iassumption

theorem wp_upd (c : Dev nD) (p : Pg F) (Q : sProp 𝕄) : WP c p (fun _ => iprop(|={Set.univ}=> Q)) ⊢ WP c p (fun _ => Q) := wp_fupd _ _ _ _ _

theorem wp_dev (c : Dev nD) (k : Dev nD → Pg F) (Q : PUnit.{1} → sProp 𝕄) : WP c (k c) Q ⊢ WP c (.op .deviceId k) Q := by
  unfold WP; rw [wp_deviceId]

theorem sound (c : Dev nD) : bodyPre m ρ c ⊢ WP c (.op .deviceId fun c => prog sxM swM c) (fun _ => bodyPost m ρ c) := by
  refine (pre_open m ρ c).trans ?_
  refine BIBase.Entails.trans ?_ (wp_upd c _ _)
  refine BIBase.Entails.trans ?_ (wp_dev c _ _)
  unfold outPts
  iintro ⟨⟨%κ, %ν, #Hctx, Hlin⟩, ⟨%f, Hout⟩, Hb, Hs, HO⟩
  iapply (body_ok (ops m) κ ν (c := c) f) $$ [Hlin Hout Hb Hs HO]
  · isplitr; · iexact Hctx
    isplitl [Hlin]; · iexact Hlin
    isplitl [Hb]; · iexact Hb
    isplitl [Hs]; · iexact Hs
    isplitl [Hout] <;> iassumption
  iintro Hd
  iapply (post_close m ρ κ ν c)
  isplitr; · iexact Hctx
  iexact Hd

end Cert.Ring
-- ==== Proof.Refold.lean ====
/-
# The printed body is the list of commands
-/
module

public import proofs.«01_k».proof.Proof.Body

public section

noncomputable section

namespace Cert.Ring

open Cert.KernelIdeal Cert.KernelIdeal.Gen
open Idealize.ShloMosaic
open Idealize.ShloMosaic.TcCoe
open Idealize.SL Idealize.SL.Sem

variable {F : FTy → Type} [FloatOps F]

/-- The body as printed, on its buffers. -/
abbrev bodyK (x0 : Memref sig .tc .vmem S4096x256 .bf16) (h0 : x0.IsWhole) (x1 : Memref sig .tc .vmem S256x8192 .bf16) (h1 : x1.IsWhole) : Pg F :=
  cc0__ar_body x0 h0 x1 h1 (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scratch38 cc0_scratch39 cc0_scratch40 cc0_scratch41 cc0_scratch42 cc0_scratch43 cc0_scratch44 cc0_scratch45 cc0_scratch46 cc0_scratch47 cc0_scratch48 cc0_scratch49 cc0_scratch50 (Memref.whole cc0_scratch51) (Memref.isWhole_whole _) (Memref.whole cc0_scratch52) (Memref.isWhole_whole _)

/-- Two programs that begin with the same operation are equal when they go on alike. -/
theorem op_step {β : Type} {e : TpuEff nD τ sig (Elt F) Λ₀ .tc β} {f k : β → Pg F} (h : ∀ x, f x = k x) : (Prog.op e f : Pg F) = Prog.op e k :=
  congrArg (Prog.op e) (funext h)

theorem bind_bind {E : Type → Type} {α β γ : Type} (p : Prog E α) (f : α → Prog E β) (g : β → Prog E γ) :
    Prog.bind (Prog.bind p f) g = Prog.bind p fun x => Prog.bind (f x) g := Prog.bind_assoc p f g

/-- A conditional prefix of one operation. -/
theorem dite_step {p q : Prop} {dp : Decidable p} {dq : Decidable q} {α β : Type} {P : Pg F} {k : Pg F} {P' : p → Pg F}
    {J : Prog (TpuEff nD τ sig (Elt F) Λ₀ .tc) α} {f : α → Prog (TpuEff nD τ sig (Elt F) Λ₀ .tc) β} {g : β → Pg F}
    (hpq : p ↔ q) (hA : ∀ h, P' h = P) (hk : k = Prog.bind (Prog.bind J f) g) :
    (if q then Prog.bind P (fun _ => k) else k) = Prog.bind (Prog.bind (dite p (fun h => Prog.bind (P' h) fun _ => J) fun _ => J) f) g := by
  by_cases h : p
  · rw [dif_pos h, if_pos (hpq.mp h), hA h, bind_bind, bind_bind, hk]
    congr 1
    funext ⟨⟩
    rw [bind_bind]
  · rw [dif_neg h, if_neg fun h' => h (hpq.mpr h'), hk]

/-- A conditional prefix of two operations. -/
theorem dite_step2 {p q : Prop} {dp : Decidable p} {dq : Decidable q} {α β : Type} {P : Pg F} {k : Pg F} {P' P'' : p → Pg F}
    {J : Prog (TpuEff nD τ sig (Elt F) Λ₀ .tc) α} {f : α → Prog (TpuEff nD τ sig (Elt F) Λ₀ .tc) β} {g : β → Pg F}
    (hpq : p ↔ q) (hA : ∀ h, Prog.bind (P' h) (fun _ => P'' h) = P) (hk : k = Prog.bind (Prog.bind J f) g) :
    (if q then Prog.bind P (fun _ => k) else k) = Prog.bind (Prog.bind (dite p (fun h => Prog.bind (P' h) fun _ => Prog.bind (P'' h) fun _ => J) fun _ => J) f) g := by
  have e : (fun h => Prog.bind (P' h) fun _ => Prog.bind (P'' h) fun _ => J) = fun h => Prog.bind (Prog.bind (P' h) fun _ => P'' h) fun _ => J :=
    funext fun h => (bind_bind _ _ _).symm
  rw [e]
  exact dite_step hpq hA hk

theorem ret_step {α : Type} {k : Pg F} {f : PUnit → Prog (TpuEff nD τ sig (Elt F) Λ₀ .tc) α} {g : α → Pg F}
    (hk : k = Prog.bind (f ⟨⟩) g) : k = Prog.bind (Prog.bind (.ret ⟨⟩) f) g := hk

theorem amS_of {c : Dev nD} {o6 : Fin 3 → ℕ} {h6 : ∀ a, o6 a + S1x8x128.size a ≤ S16x8x128.size a} (e6 : o6 = ![c.val, 0, 0]) :
    ((Memref.whole cc0_scratch20 : Memref sig .tc .vmem S16x8x128 .f32).slice (Rect.unit (s := S16x8x128) o6 S1x8x128.size h6) (fun _ => rfl)).squeeze S8x128 squeezes_S1x8x128_S8x128 = amS c := by
  subst e6; rfl

theorem sem_of (A : DmaSems sig S16) {d : Fin 16} {o5 : Fin 1 → ℕ} {h5 : ∀ a, o5 a + S1.size a ≤ S16.size a} (e5 : o5 = ![d.val]) :
    ((A.slice (Rect.unit (s := S16) o5 S1.size h5)).squeeze S_ squeezes_S1_S_).sem = dsem16 A d := by
  subst e5; rfl

/-- A transfer named by equal operands is the same transfer. -/
theorem enq_of {c : Dev nD} {d : Fin 16} {m m' : Memref sig .tc .vmem S8x128 .f32} {e : Dev nD} {s1 s2 : DmaSem sig} {w4} {w1} {w2}
    {w3 : DmaTarget.Typed .vmem (.dma s2) (.remote (Dev.tc e : Thread nD τ) m' (.dma s1) w4)}
    (hm : m = amS c) (hm' : m' = amS c) (he : e = d) (h1 : s1 = dsem16 cc0_scratch41 d) (h2 : s2 = dsem16 cc0_scratch42 c) :
    (Prog.lift (.enqueueDma m (.remote (Dev.tc e) m' (.dma s1) w4) (.dma s2) w1 w2 w3) : Pg F) = amSendP c d := by
  subst hm; subst hm'; subst he; subst h1; subst h2; rfl

/-- A wait named by equal operands is the same wait. -/
theorem wait_of {c : Dev nD} {d : Fin 16} {m1 m2 m3 m4 : Memref sig .tc .vmem S8x128 .f32} {s1 s2 : DmaSem sig} {w1 w2 w3 w4}
    (h1 : m1 = amS d) (h2 : m2 = amS c) (h3 : m3 = amS c) (h4 : m4 = amS d) (hs1 : s1 = dsem16 cc0_scratch41 d) (hs2 : s2 = dsem16 cc0_scratch42 d) :
    (Prog.bind (Prog.lift (.waitDma2 s1 m1 m2 w1 w2)) (fun _ => Prog.lift (.waitDma2 s2 m3 m4 w3 w4)) : Pg F) = amWaitP c d := by
  subst h1; subst h2; subst h3; subst h4; subst hs1; subst hs2; rfl

variable (x0 : Memref sig .tc .vmem S4096x256 .bf16) (h0 : x0.IsWhole) (x1 : Memref sig .tc .vmem S256x8192 .bf16) (h1 : x1.IsWhole)

set_option maxRecDepth 100000 in
set_option maxHeartbeats 40000000 in
/-- The printed body is the list of commands. -/
theorem body_eq : (Prog.op .deviceId (fun c => prog x0 x1 c) : Pg F) = bodyK x0 h0 x1 h1 := by
  refine op_step fun c => ?_
  repeat (refine op_step fun x => ?_)
  unfold k0_part99 k0_part100 k0_part101 k0_part102
  repeat (first
    | (refine dite_step (F := F) ?_ (fun h => ?_) ?_
       · clear * - c; revert c; decide +kernel
       · refine enq_of (amS_of ?_) (amS_of ?_) rfl (sem_of _ rfl) (sem_of _ ?_) <;> (clear * - c; revert c; decide +kernel))
    | (refine dite_step2 (F := F) ?_ (fun h => ?_) ?_
       · clear * - c; revert c; decide +kernel
       · refine wait_of (amS_of rfl) (amS_of ?_) (amS_of ?_) (amS_of rfl) (sem_of _ rfl) (sem_of _ rfl) <;> (clear * - c; revert c; decide +kernel))
    | refine ret_step (F := F) ?_)
  repeat (refine op_step fun x => ?_)
  rfl

end Cert.Ring
-- ==== Proof.Launch.lean ====
/-
# The kernel's run

The launch, and what every execution ends with.
-/
module

public import proofs.«01_k».proof.Proof.Run
public import proofs.«01_k».proof.Proof.Refold

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv)

variable {F : FTy → Type} [FloatOps F]

local notation "𝕄" => MT nD τ sig ℕ (Elt F) ℕ UU ℕ

variable (m : (ℓ : Loc nD τ sig) → Buf (Elt F) ℓ) (ρ : Dev nD → PrngReg)

/-- The table's row is the body as it is called. -/
theorem row_eq : defs₀ (F := F) .tc cfg0.body (cfg0.bodyArgs t0_0 (cfg0.slots t0_0)) = bodyAt0 t0_0 := by
  unfold defs₀; rw [Defs.onTc_tc]

theorem row_prog : defs₀ (F := F) .tc cfg0.body (cfg0.bodyArgs t0_0 (cfg0.slots t0_0)) = Prog.op .deviceId (fun c => prog sxM swM c) :=
  row_eq.trans (body_eq (st0_0 t0_0) (hstage0_0 0) (st0_1 t0_0) (hstage0_1 0)).symm

set_option maxRecDepth 100000 in
/-- The library's body obligation on core `c`. -/
theorem body_obligation (c : Dev nD) : Pipeline.BodyObligation (dats (F := F) m ρ 0 c) (defs₀ (F := F)) 𝒱₀ 0 Set.univ := fun t => by
  rw [fin_N0 t]
  rw [bigSep_W0, bigSep_W0, row_prog]
  refine triple_restated (sound m ρ c) rfl ?_ fun _ => ?_
  · exact .rfl
  · exact .rfl

theorem share_eq (c : Dev nD) (w : Fin cfg0.W) : (dats m ρ 0 c).share w = fullShare := by unfold Pipeline.Dat.share; split <;> rfl

theorem owed_start (c : Dev nD) : owed c 0 = owed c 1 := owed_skip c fun p => by cases p <;> simp only [ix] <;> omega

set_option maxRecDepth 100000 in
theorem wait_stage (c : Dev nD) (q : SemLoc sig) (O : CellTallies nD τ sig ℕ) (hO : O = owed c 0 ∨ O = 0) :
    (levAts L lv : sProp 𝕄) ⊢ MayWait (c : Thread nD τ) q 0 O := by
  have h1 := mayWait (F := F) c q (i := 0) (n := 1) (by omega) (by omega)
  rcases hO with rfl | rfl
  · rw [owed_start]; exact h1
  · rw [MayWait_zero]; iintro -; iempintro

theorem waits (c : Dev nD) : (levAts L lv : sProp 𝕄) ⊢ Pipeline.cellsWaits cfgs (dats m ρ) 0 0 c :=
  Pipeline.cellsWaits_intro cfgs (dats m ρ) 0 0 c fun w s t =>
    wait_stage c _ _ (by
      rcases t with ⟨_ | _, ht⟩
      · exact Or.inl rfl
      · exact Or.inr rfl)

theorem rest_out (c : Dev nD) : (Pipeline.unscopedRestP Pipeline.Prefetch.none cfg0.spec c (fun b => m ((c : Thread nD τ).loc b)) : sProp 𝕄) ⊢ outPts c (m ((c : Thread nD τ).loc main_v1)) := by
  have e := Entails.of_eq (unscopedRest0_eq (Ix := ℕ) (Val := Elt F) (Name := ℕ) (U := UU) (Lvl := ℕ) c (fun b => m ((c : Thread nD τ).loc b)))
  rw [Pipeline.unscopedRestP_none]
  exact e

theorem known_ctx (o : Ops F) (κ : Dev nD × Kind → ℕ) (ν : Key → ℕ) : iprop(known o κ ν ∗ levAts L lv) ⊢ ctx o κ ν := by
  unfold known ctx
  iintro ⟨⟨H1, H2⟩, H3⟩
  isplitl [H1]; · iexact H1
  isplitl [H2] <;> iassumption

theorem start_intro (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ G' (ops m) c)
      ⊢ |={Set.univ}=> iprop(start₀ m c ∗ emp) := by
  have e1 := rest_out (F := F) m c
  unfold G' start₀
  iintro ⟨Hrest, Hlev, Hcr, -, ⟨%κ, %ν, HK, Hsh⟩⟩
  ihave Hout := e1 $$ Hrest
  ihave Hctx := (known_ctx (ops m) κ ν) $$ [HK Hlev]
  · isplitl [HK] <;> iassumption
  ihave Hlin := (lin_intro (F := F) c) $$ [Hsh Hcr]
  · isplitl [Hsh] <;> iassumption
  imodintro
  isplitl
  · isplitr [Hout]
    · iexists κ; iexists ν
      isplitl [Hctx] <;> iassumption
    iexists _; iexact Hout
  · iempintro

theorem phi0_intro (c : Dev nD) :
    iprop(start₀ m c ∗ Pipeline.prefHeld Pipeline.Prefetch.none c (fun _ => fullShare.right) (fun k => k.elim0) ∗ Pipeline.scopedRest cfg0.spec c)
      ⊢ (dats m ρ 0 c).Φ 0 := by
  have e := scoped_bufs (F := F) c
  rw [show (dats m ρ 0 c).Φ 0 = Φ₀ m c from rfl]
  unfold Φ₀
  iintro ⟨Hs, -, Hr⟩
  ihave Hr := e $$ Hr
  isplitl [Hs] <;> iassumption

/-- What device `c`'s exit keeps: its barrier's counter and the result. -/
def kept (c : Dev nD) : sProp 𝕄 := iprop(unscopedSems0 c ∗ ∃ f, ⌜outOk (ops m) c f⌝ ∗ outPts c f)

theorem phi1_exit (c : Dev nD) :
    (dats m ρ 0 c).Φ (Fin.last cfg0.N) ⊢ iprop(kept m c ∗ Pipeline.ownSems0 osem c ∗ Pipeline.scopedRest cfg0.spec c) := by
  have e := bufs_scoped (F := F) c
  have e2 := Entails.of_eq (sems_eq (F := F) c).symm
  rw [show (dats m ρ 0 c).Φ (Fin.last cfg0.N) = Φ₁ m c from rfl]
  unfold Φ₁ kept
  iintro ⟨Hb, Hs, Hout⟩
  ihave Hb := e $$ Hb
  ihave Hs := e2 $$ Hs
  icases Hs with ⟨Ho, Hu⟩
  isplitl [Hu Hout]
  · isplitl [Hu] <;> iassumption
  isplitl [Ho] <;> iassumption

theorem read_out (c : Dev nD) (s' : Phys nD τ sig (Elt F)) (f : (main_v1 : Ref sig .tc).ty.Contents (Elt F)) :
    iprop(outPts c f ∗ SI s') ⊢ (⌜s'.mem.mem ((c : Thread nD τ).loc main_v1) = f⌝ : sProp 𝕄) := by
  unfold outPts
  iintro ⟨H, HSI⟩
  ihave %h := (SI_pointsTo_agree) $$ [H HSI]
  · isplitl [HSI] <;> iassumption
  ipureintro
  exact funext fun i => h i (Finset.mem_univ i)

theorem read_kept (c : Dev nD) (s' : Phys nD τ sig (Elt F)) :
    iprop(kept m c ∗ emp ∗ SI s') ⊢ |={Set.univ}=> iprop(⌜(∀ sm : SemLoc sig, sm.isScoped .tc = false → s'.mem.sem ((c.tc : Thread nD τ), sm) = 0)
      ∧ outOk (ops m) c (s'.mem.mem ((c : Thread nD τ).loc main_v1))⌝ ∗ SI s') := by
  unfold kept
  iintro ⟨⟨Hu, ⟨%f, %hf, Hout⟩⟩, -, HSI⟩
  ihave %h1 := (read_out c s' f) $$ [Hout HSI]
  · isplitl [Hout] <;> iassumption
  ihave %h2 := (tcUnscoped_read c s') $$ [Hu HSI]
  · isplitl [Hu] <;> iassumption
  imodintro
  isplitr; · ipureintro; exact ⟨h2, h1 ▸ hf⟩
  iexact HSI

/-! ## The run -/

/-- What a device's final memory is: the operands as they were, the result as the kernel computes it. -/
def final (r : MemSt nD τ sig (Elt F)) : Prop :=
  (∀ c : Dev nD, r.mem ((c : Thread nD τ).loc main_arg0) = m ((c : Thread nD τ).loc main_arg0)
    ∧ r.mem ((c : Thread nD τ).loc main_arg1) = m ((c : Thread nD τ).loc main_arg1)
    ∧ outOk (ops m) c (r.mem ((c : Thread nD τ).loc main_v1)))
  ∧ r.sem = fun _ => 0

set_option maxRecDepth 100000 in
/-- Over any float values, from any memory with zero counters: every weakly fair execution ends, the operands unchanged,
    every counter at zero, and every device's result what the kernel computes. -/
theorem run_main : θ_run (defs (F := F)) (onTc (τ := τ) (main (F := F))) (s₀ m ρ) (fun r => final m r.2) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => block_pos0 w) (harr := arr_whole0) (hstage := stage_whole0) (hshare := share_eq m ρ)
    (hdistinct := winFacts0.arr_inj)
    (O₀ := fun d => owed d 0) (howed₀ := fun _ => rfl) (howedN := fun _ => rfl)
    (L := L) (lv := lv) (hL := L_of_ne) (hwaits := waits m ρ)
    (G := G (ops m)) (G' := G' (ops m)) (u₀ := u₀)
    (hu₀ := by
      have e := own_u₀ (F := F)
      have e2 := fund_ring (ops m)
      iintro Hu
      ihave H := e $$ Hu
      icases H with ⟨HP, HX⟩
      imod e2 $$ HX with HG
      imodintro
      isplitl [HP] <;> iassumption)
    (hglob := glob (ops m))
    (hA := fun _ _ => rfl) (hpf := fun _ k => k.elim0)
    (X := start₀ m) (Y := kept m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ outOk (ops m) c (s.mem ((c : Thread nD τ).loc main_v1)))
    (hY := fun c s' => read_kept m c s')
    (hQ := fun _ h hs => ⟨fun c => ⟨((h c).1 0).trans ((dats (F := F) m ρ 0 c).arrAt_in (0 : Fin 2) rfl _),
      ((h c).1 1).trans ((dats (F := F) m ρ 0 c).arrAt_in (1 : Fin 2) rfl _), (h c).2.2.2⟩, sem_eq_zero hs fun c => (h c).2.2.1⟩)

end Cert.Ring
-- ==== Proof.Frames.lean ====
/-
# The frames

The three runs, read as their frames. The kernel and its idealization have the same text.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Ring

open Idealize.ShloMosaic Idealize.SL.Sem

variable {F : FTy → Type} [FloatOps F]

theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

set_option maxRecDepth 100000 in
/-- The two programs' kernel function is the same text. -/
theorem body_same : (Cert.Kernel.cc0__ar_body (F := F)) = Cert.KernelIdeal.cc0__ar_body (F := F) := rfl

set_option maxRecDepth 100000 in
theorem defs₀_same : (Cert.Kernel.defs₀ (F := F)) = Cert.KernelIdeal.defs₀ (F := F) := by
  unfold Cert.Kernel.defs₀ Cert.KernelIdeal.defs₀
  refine congrArg Defs.onTc (funext fun l => ?_)
  have hl : l = (0 : Fin 1) := Subsingleton.elim (α := Fin 1) l 0
  subst hl
  funext a
  rw [body_same]

set_option maxRecDepth 100000 in
theorem defs_same : (Cert.Kernel.defs (F := F)) = Cert.KernelIdeal.defs (F := F) := by
  unfold Cert.Kernel.defs Cert.KernelIdeal.defs
  rw [defs₀_same]
  rfl

set_option maxRecDepth 100000 in
theorem frame_kernel : Cert.quiescent_Kernel := fun m ρ _ => by
  rw [defs_same]
  exact (θ_run (Cert.KernelIdeal.defs (F := Bits)) (onTc (τ := Cert.KernelIdeal.τ) (Cert.KernelIdeal.main (F := Bits))) ⟨m, fun _ => 0, ρ⟩).mono
    (Q := fun r => final (F := Bits) m r.2)
    (Q' := fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)
    (fun _ h => ⟨fun c => ⟨(h.1 c).1, (h.1 c).2.1⟩, h.2⟩) (run_main (F := Bits) m ρ)

/-- The reference declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Ring
-- ==== Proof.Quant.lean ====
/-
# The two quantisers

The kernel multiplies by the inverse of the scale and clips to `[0, 127]`; the reference divides by the scale and clips
to `[-127, 127]`. On what a rectifier leaves, at the largest entry's scale, the two agree: at zero and at infinity both
give zero.
-/
module

public import Idealize.ShloMosaic.Lib.IdealHost

public section

noncomputable section

namespace Cert.Ring

open Idealize.ShloMosaic

/-- The bound of the quantised values. -/
abbrev b127 : EReal := ((127 : ℝ) : EReal)

theorem b127_nonneg : (0 : EReal) ≤ b127 := EReal.coe_nonneg.mpr (by norm_num)
theorem neg127_nonpos : ((-127 : ℝ) : EReal) ≤ 0 := EReal.coe_nonpos.mpr (by norm_num)

/-- The kernel's value of an entry. -/
@[expose] def kq (A y : EReal) : EReal :=
  (((Ideal.fptosi 8 (min b127 (max 0 (Ideal.liftRound Ideal.roundHalfEven (max y 0 * Ideal.div b127 A))))).toInt : ℝ) : EReal) * Ideal.div A b127
/-- The reference's value of an entry. -/
@[expose] def rq (A y : EReal) : EReal :=
  min b127 (max (((-127 : ℝ) : EReal)) (Ideal.liftRound Ideal.roundHalfEven (Ideal.div (max y 0) (Ideal.div A b127)))) * Ideal.div A b127

theorem roundHalfEven_nonneg {r : ℝ} (h : 0 ≤ r) : 0 ≤ Ideal.roundHalfEven r := by
  have hf : 0 ≤ ⌊r⌋ := Int.floor_nonneg.mpr h
  unfold Ideal.roundHalfEven
  dsimp only
  split
  · exact hf
  · split
    · omega
    · split <;> omega

theorem roundHalfEven_zero : Ideal.roundHalfEven 0 = 0 := by
  unfold Ideal.roundHalfEven
  dsimp only
  rw [Int.floor_zero, if_pos (by norm_num)]

/-- A whole number of `[0, 127]`, converted to a byte and back. -/
theorem fptosi_int (k : ℤ) (h0 : 0 ≤ k) (h1 : k ≤ 127) : (Ideal.fptosi 8 (((k : ℝ)) : EReal)).toInt = k := by
  have h : (0 : ℝ) ≤ (k : ℝ) := by exact_mod_cast h0
  unfold Ideal.fptosi
  rw [Ideal.toIntClamped_coe, if_pos h, Int.floor_intCast]
  have e : max (-((2 ^ (8 - 1) : ℕ) : ℤ)) (min (((2 ^ (8 - 1) : ℕ) : ℤ) - 1) k) = k := by norm_num; omega
  rw [e]
  have : ∀ j : Fin 128, (BitVec.ofInt 8 (j.val : ℤ)).toInt = (j.val : ℤ) := by decide
  have hj := this ⟨k.toNat, by omega⟩
  simpa [Int.toNat_of_nonneg h0] using hj

theorem div_pos_real {a b : ℝ} (hb : b ≠ 0) : Ideal.div (a : EReal) (b : EReal) = ((a / b : ℝ) : EReal) := by
  rw [Ideal.div_coe hb, ← EReal.coe_mul, mul_one_div]

/-- The quantisers agree. -/
theorem kq_eq_rq (A y : EReal) (hA : 0 ≤ A) (hy : y ≤ A) : kq A y = rq A y := by
  unfold kq rq
  induction A with
  | bot => exact absurd hA (by simp)
  | top =>
    have e1 : Ideal.div ⊤ b127 = ⊤ := by
      rw [Ideal.div_coe (by norm_num)]; exact EReal.top_mul_coe_of_pos (by norm_num)
    have e2 : ∀ x : EReal, Ideal.div x ⊤ = 0 := fun x => by unfold Ideal.div; rw [if_neg (by simp), EReal.inv_top, mul_zero]
    rw [e1, e2, e2, mul_zero]
    have e3 : Ideal.liftRound Ideal.roundHalfEven 0 = 0 := by
      have := Ideal.liftRound_coe 0 Ideal.roundHalfEven
      rw [roundHalfEven_zero] at this; simpa using this
    rw [e3]
    have e4 : min b127 (max 0 (0 : EReal)) = (((0 : ℤ) : ℝ) : EReal) := by
      rw [max_self, min_eq_right]
      · simp
      · exact b127_nonneg
    have e5 : min b127 (max (((-127 : ℝ) : EReal)) 0) = 0 := by
      rw [max_eq_right, min_eq_right]
      · exact b127_nonneg
      · exact neg127_nonpos
    rw [e4, e5, fptosi_int 0 le_rfl (by norm_num)]
    simp
  | coe a =>
    have ha : 0 ≤ a := by exact_mod_cast hA
    rcases ha.eq_or_lt with rfl | ha
    · have e : Ideal.div ((0 : ℝ) : EReal) b127 = 0 := by rw [div_pos_real (by norm_num)]; simp
      rw [e, mul_zero, mul_zero]
    · obtain ⟨z, hz0, hz⟩ : ∃ z : ℝ, 0 ≤ z ∧ max y 0 = (z : EReal) := by
        induction y with
        | bot => exact ⟨0, le_rfl, by simp⟩
        | top => exact absurd hy (by simp)
        | coe y => exact ⟨max y 0, le_max_right _ _, (EReal.coe_strictMono.monotone.map_max (a := y) (b := 0)).symm⟩
      have hs : a / 127 ≠ 0 := by positivity
      rw [hz, div_pos_real ha.ne', div_pos_real (by norm_num), div_pos_real hs, ← EReal.coe_mul z, Ideal.liftRound_coe, Ideal.liftRound_coe]
      have hv : z * (127 / a) = z / (a / 127) := by field_simp
      have hv0 : 0 ≤ z / (a / 127) := by positivity
      rw [hv]
      have hn := roundHalfEven_nonneg hv0
      generalize Ideal.roundHalfEven (z / (a / 127)) = n at hn
      have hn' : (0 : ℝ) ≤ (n : ℝ) := by exact_mod_cast hn
      have e1 : max (0 : EReal) ((n : ℝ) : EReal) = ((n : ℝ) : EReal) := max_eq_right (by exact_mod_cast hn')
      have e2 : max (((-127 : ℝ) : EReal)) ((n : ℝ) : EReal) = ((n : ℝ) : EReal) :=
        max_eq_right (by exact_mod_cast (by linarith : (-127 : ℝ) ≤ (n : ℝ)))
      have e3 : min b127 ((n : ℝ) : EReal) = (((min 127 n : ℤ) : ℝ) : EReal) := by
        push_cast; exact (EReal.coe_strictMono.monotone.map_min (a := 127) (b := (n : ℝ))).symm
      rw [e1, e2, e3, fptosi_int _ (by omega) (by omega)]

theorem ofBits_127 : Ideal.ofBits .f32 0x42FE0000#32 = b127 := by
  simp [Ideal.ofBits, Ideal.ieee]
  rw [← EReal.coe_mul]; exact congrArg _ (by norm_num)
theorem ofBits_neg127 : Ideal.ofBits .f32 0xC2FE0000#32 = ((-127 : ℝ) : EReal) := by
  simp [Ideal.ofBits, Ideal.ieee]
  rw [← EReal.coe_mul]; exact congrArg _ (by norm_num)
theorem ofBits_ninf : Ideal.ofBits .f32 0xFF800000#32 = ⊥ := by
  simp [Ideal.ofBits, Ideal.ieee]

end Cert.Ring
-- ==== Proof.Sums.lean ====
/-
# The sums and the maximum over the extended reals

What the ring leaves in a chunk after fifteen steps is the sum over all devices of their products, and what the
devices agree on as the largest entry is the largest entry of the whole rectified product.
-/
module

public import proofs.«01_k».proof.Proof.Buffers
public import proofs.«01_k».proof.Proof.Quant
public import Idealize.ShloMosaic.Lib.MatmulPlain
public import Idealize.ShloMosaic.Lib.KernelVsHost

@[expose] public section

noncomputable section

namespace Cert.Ring

open Cert.KernelIdeal Cert.KernelIdeal.Gen
open Idealize.ShloMosaic Idealize.ShloMosaic.ValueIdx
open Idealize.ShloMosaic.TcCoe
open scoped BigOperators

/-! ## Maxima -/

theorem foldl_max_le {ι : Type} (x : ι → EReal) (b : EReal) : ∀ (l : List ι) (z : EReal),
    l.foldl (fun r i => max r (x i)) z ≤ b ↔ z ≤ b ∧ ∀ i ∈ l, x i ≤ b
  | [], z => by simp
  | a :: l, z => by
    rw [List.foldl_cons, foldl_max_le x b l, max_le_iff, List.forall_mem_cons, and_assoc]

theorem foldl_all_le {s : Shape} (x : s.Idx → EReal) (b : EReal) :
    ((List.finRange s.numel).map s.rowMajor.symm).foldl (fun r i => max r (x i)) ⊥ ≤ b ↔ ∀ i, x i ≤ b := by
  rw [foldl_max_le]
  constructor
  · rintro ⟨-, h⟩ i
    exact h i (List.mem_map.mpr ⟨s.rowMajor i, List.mem_finRange _, s.rowMajor.symm_apply_apply i⟩)
  · exact fun h => ⟨bot_le, fun i _ => h i⟩

/-- A maximum over all elements is below `b` exactly where every element is. -/
theorem reduceMax_le {s t : Shape} {axes : List (Fin s.rank)} (x : FVec Ideal s .f32) (h : s.Reduces axes t) (ht : ∀ d, t.size d = 1)
    (hφ hacc) (j : t.Idx) (b : EReal) :
    multiReduction (F := Ideal) .maximumf axes t x 0xFF800000#32 h hφ hacc j ≤ b ↔ ∀ i, x i ≤ b := by
  rw [multiReduction_maximumf_eq_reduceFold, reduceFold_eq_foldl_of_size_one h ht]
  have e : (FloatOps.ofBits (F := Ideal) .f32 0xFF800000#32 : Ideal .f32) = (⊥ : EReal) := ofBits_ninf
  rw [e]
  exact foldl_all_le (s := s) x b

/-- The host's maximum into a scalar. -/
theorem hostMax_le {s : Shape} {axes : List (Fin s.rank)} (x : FVec Ideal s .f32) (h : s.ReducesTo axes ⟨0, ![]⟩) (hu) (j) (b : EReal) :
    Host.reduce FloatOps.maximumf x (constant (F := Ideal) ⟨0, ![]⟩ .f32 0xFF800000#32) h hu j ≤ b ↔ ∀ i, x i ≤ b := by
  rw [Host.reduce_eq_foldl, List.filter_eq_self.2 fun i _ => decide_eq_true (funext fun d => d.elim0)]
  have e : (constant (F := Ideal) ⟨0, ![]⟩ .f32 0xFF800000#32) (Shape.Idx.first hu) = (⊥ : EReal) := ofBits_ninf
  rw [e]
  exact foldl_all_le (s := s) x b

theorem shapeCast_le {s t : Shape} (x : s.Idx → EReal) (h : s.ShapeCasts t) (b : EReal) :
    (∀ j, shapeCast t x h j ≤ b) ↔ ∀ i, x i ≤ b := by
  constructor
  · intro H i
    have := H ((Shape.reshapeEquiv h).symm i)
    unfold shapeCast at this
    rwa [Equiv.apply_symm_apply] at this
  · exact fun H j => H _

/-- The same read out of a scalar's shape. -/
theorem extractMax_le {s t t' : Shape} {axes : List (Fin s.rank)} (x : FVec Ideal s .f32) (h : s.Reduces axes t) (ht : ∀ d, t.size d = 1)
    (hφ hacc) (hc : t.ShapeCasts t') (pos : Fin t'.rank → ℕ) (hp : ∀ a, pos a < t'.size a) (b : EReal) :
    extractAt pos (shapeCast t' (multiReduction (F := Ideal) .maximumf axes t x 0xFF800000#32 h hφ hacc) hc) hp ≤ b ↔ ∀ i, x i ≤ b :=
  reduceMax_le x h ht hφ hacc _ b

theorem s1_one : ∀ d, S1.size d = 1 := by decide

theorem chunkMax_le (v : Vec Ideal S256x2048 .bf16) (b : EReal) : chunkMax (F := Ideal) (up v) ≤ b ↔ ∀ i, (v i : EReal) ≤ b := by
  have h := extractMax_le (shapeCast S1x256x2048 (extf (F := Ideal) .f32 (shapeCast S256x2048 (up v) shapeCasts_S1x256x2048_S256x2048) bitsLt_bf16_f32) shapeCasts_S256x2048_S1x256x2048)
    reduces_S1x256x2048_S1 s1_one (.inl rfl) rfl shapeCasts_S1_S1x1x1 ![0, 0, 0] inpos_S1x1x1_p0_0_0 b
  have h1 := shapeCast_le (extf (F := Ideal) .f32 (shapeCast S256x2048 (up v) shapeCasts_S1x256x2048_S256x2048) bitsLt_bf16_f32) shapeCasts_S256x2048_S1x256x2048 b
  have h2 : (∀ i, (shapeCast S256x2048 (up v) shapeCasts_S1x256x2048_S256x2048 i : EReal) ≤ b) ↔ ∀ i, (v i : EReal) ≤ b := by
    rw [shapeCast_shapeCast v]
  exact h.trans (h1.trans h2)

theorem allMax_le (v : Vec Ideal S16x8x128 .f32) (b : EReal) : allMax (F := Ideal) v ≤ b ↔ ∀ i, (v i : EReal) ≤ b := by
  refine (extractMax_le _ reduces_S1x16x8x128_S1 s1_one _ _ shapeCasts_S1_S1x1x1x1 ![0, 0, 0, 0] inpos_S1x1x1x1_p0_0_0_0 b).trans ?_
  exact shapeCast_le (fun i => (v i : EReal)) shapeCasts_S16x8x128_S1x16x8x128 b

theorem ofBits_zero : Ideal.ofBits .f32 0x00000000#32 = 0 := by simp [Ideal.ofBits, Ideal.ieee]

/-- The largest of four maxima and zero, spread over a slot. -/
theorem spread_max (a0 a1 a2 a3 : Ideal .f32) (i : S1x8x128.Idx) :
    (shapeCast S1x8x128 (broadcast S1x8x128 (Scalar.maximumf (F := Ideal) (Scalar.maximumf (F := Ideal) (Scalar.maximumf (F := Ideal) (Scalar.maximumf (F := Ideal)
      (Scalar.ofBits .f32 0x00000000#32) a0) a1) a2) a3)) shapeCasts_S1x8x128_S1x8x128 i : EReal)
      = max (max (max (max (Ideal.ofBits .f32 0x00000000#32) a0) a1) a2) a3 := rfl

variable (o : Ops Ideal)

/-- The largest entry of a device's chunks, zero at least. -/
def amC (c : Dev nD) : EReal :=
  max (max (max (max 0 (chunkMax (F := Ideal) (up (accV o 0 15 c)))) (chunkMax (F := Ideal) (up (accV o 1 15 c)))) (chunkMax (F := Ideal) (up (accV o 2 15 c))))
    (chunkMax (F := Ideal) (up (accV o 3 15 c)))

theorem amC_le (c : Dev nD) (b : EReal) : amC o c ≤ b ↔ 0 ≤ b ∧ ∀ (r : Fin 4) i, (accV o r 15 c i : EReal) ≤ b := by
  unfold amC
  rw [max_le_iff, max_le_iff, max_le_iff, max_le_iff, chunkMax_le, chunkMax_le, chunkMax_le, chunkMax_le]
  constructor
  · rintro ⟨⟨⟨⟨h, h0⟩, h1⟩, h2⟩, h3⟩
    refine ⟨h, fun r => ?_⟩
    match r with
    | 0 => exact h0
    | 1 => exact h1
    | 2 => exact h2
    | 3 => exact h3
  · exact fun ⟨h, H⟩ => ⟨⟨⟨⟨h, H 0⟩, H 1⟩, H 2⟩, H 3⟩

theorem amV_eq (c : Dev nD) (i) : (amV o c i : EReal) = amC o c := by
  have h := spread_max (chunkMax (F := Ideal) (up (accV o 0 15 c))) (chunkMax (F := Ideal) (up (accV o 1 15 c)))
    (chunkMax (F := Ideal) (up (accV o 2 15 c))) (chunkMax (F := Ideal) (up (accV o 3 15 c))) i
  rw [ofBits_zero] at h
  exact h

theorem mx_le (b : EReal) : (mx o : EReal) ≤ b ↔ 0 ≤ b ∧ ∀ c (r : Fin 4) i, (accV o r 15 c i : EReal) ≤ b := by
  refine (allMax_le (amAll o) b).trans ?_
  have e : ∀ i : S16x8x128.Idx, (amAll o i : EReal) = amC o ⟨(i 0).val, (i 0).isLt⟩ := fun i => amV_eq o _ _
  constructor
  · intro H
    have H' : ∀ c, amC o c ≤ b := fun c => by
      have := H (fun a => match a with | 0 => c | 1 => ⟨0, by decide⟩ | 2 => ⟨0, by decide⟩)
      rwa [e] at this
    exact ⟨((amC_le o 0 b).mp (H' 0)).1, fun c => ((amC_le o c b).mp (H' c)).2⟩
  · intro H i
    rw [e]
    exact (amC_le o _ b).mpr ⟨H.1, H.2 _⟩

/-! ## Sums -/

theorem hrow {q : ℕ} (hq : q < 16) (i : Fin 256) : 256 * q + i.val < 4096 := by omega
theorem hcol (r : Fin 4) (j : Fin 2048) : 2048 * r.val + j.val < 8192 := by omega

/-- The operands as matrices of extended reals. -/
abbrev xE (d : Dev nD) : S4096x256.Idx → EReal := o.x d
abbrev wE (d : Dev nD) : S256x8192.Idx → EReal := o.w d

/-- A device's share of an entry of the whole product. -/
def D (d : Dev nD) (a : Fin 4096) (b : Fin 8192) : EReal := ∑ k : Fin 256, xE o d (ix2 a k) * wE o d (ix2 k b)

theorem prod_apply (c : Dev nD) (R : Fin 2 → ℕ) (hR) (r : Fin 4) (q : ℕ) (hq : q < 16) (e : R = ![256 * q, 0]) (i : Fin 256) (j : Fin 2048) :
    (prod o c R hR r (ix2 i j : S256x2048.Idx) : EReal) = D o c ⟨256 * q + i.val, hrow hq i⟩ ⟨2048 * r.val + j.val, hcol r j⟩ := by
  subst e
  refine (Ideal.matmul_plain_apply (M := 256) (K := 256) (N := 2048) (φ₁ := .bf16) (φ₂ := .bf16) none
    (xbM.view.readAt (Elt Ideal) (Rect.unit (s := S4096x256) ![256 * q, 0] S256x256.size hR).toLoadRect (o.x c))
    (wbM.view.readAt (Elt Ideal) (colR r).toLoadRect (o.w c)) (constant S256x2048 .f32 0x00000000#32) i j).trans ?_
  have e : (constant (F := Ideal) S256x2048 .f32 0x00000000#32 (ix2 i j) : EReal) = 0 := by
    show Ideal.ofBits .f32 0x00000000#32 = 0
    simp [Ideal.ofBits, Ideal.ieee]
  rw [e, zero_add]
  unfold D
  refine Finset.sum_congr rfl fun k _ => ?_
  have ex : (xbM.view.readAt (Elt Ideal) (Rect.unit (s := S4096x256) ![256 * q, 0] S256x256.size hR).toLoadRect (o.x c) (ix2 i k) : EReal)
      = xE o c (ix2 ⟨256 * q + i.val, hrow hq i⟩ k) := by
    refine congrArg (xE o c) (funext fun d => Fin.ext ?_)
    match d with
    | ⟨0, _⟩ => show 256 * q + 1 * i.val = 256 * q + i.val; omega
    | ⟨1, _⟩ => show 0 + 1 * k.val = k.val; omega
  have ew : (wbM.view.readAt (Elt Ideal) (colR r).toLoadRect (o.w c) (ix2 k j) : EReal)
      = wE o c (ix2 k ⟨2048 * r.val + j.val, hcol r j⟩) := by
    refine congrArg (wE o c) (funext fun d => Fin.ext ?_)
    match d with
    | ⟨0, _⟩ => show 0 + 1 * k.val = k.val; omega
    | ⟨1, _⟩ => show 2048 * r.val + 1 * j.val = 2048 * r.val + j.val; omega
  rw [ex, ew]

/-- The device `s` places before `c` on ring `r`. -/
def dv (r : Fin 4) (s : ℕ) (c : Dev nD) : Dev nD := ⟨(if r.val < 2 then c.val + 32 - s else c.val + s) % 16, Nat.mod_lt _ (by decide)⟩
/-- The chunk that device `c` sends in step `u` on ring `r`. -/
def ch (r : Fin 4) (u : ℕ) (c : Dev nD) : ℕ := (if r.val < 2 then c.val + 16 - u else c.val + u) % 16

theorem ch_lt (r : Fin 4) (u : ℕ) (c : Dev nD) : ch r u c < 16 := Nat.mod_lt _ (by decide)
theorem dv_zero : ∀ (r : Fin 4) (c : Dev nD), dv r 0 c = c := by decide +kernel
theorem dv_succ : ∀ (r : Fin 4) (s : Fin 16) (c : Dev nD), dv r (s.val + 1) c = dv r s.val (prv r c) := by decide +kernel
theorem ch_succ : ∀ (r : Fin 4) (u : Fin 15) (c : Dev nD), ch r u.val (prv r c) = ch r (u.val + 1) c := by decide +kernel
theorem ch_zero : ∀ (r : Fin 4) (c : Dev nD), k0_off1 c = ![256 * ch r 0 c, 0] := by decide +kernel
theorem xOff_eq : ∀ (r : Fin 4) (u : Fin 15) (c : Dev nD), xOff r u c = ![256 * ch r (u.val + 1) c, 0] := by decide +kernel
theorem dv_inj : ∀ (r : Fin 4) (c : Dev nD) (s s' : Fin 16), dv r s.val c = dv r s'.val c → s = s' := by decide +kernel
theorem ch_dv : ∀ (r : Fin 4) (t : Fin 16) (c : Dev nD), ch r 15 (dv r t.val c) = blk r c t.val := by decide +kernel
theorem ch_onto : ∀ (r : Fin 4) (q : Fin 16), ∃ c : Dev nD, ch r 15 c = q.val := by decide +kernel

theorem accV_sum (r : Fin 4) (i : Fin 256) (j : Fin 2048) : ∀ (u : ℕ), u ≤ 15 → ∀ c : Dev nD,
    (accV o r u c (ix2 i j : S256x2048.Idx) : EReal)
      = ∑ s ∈ Finset.range (u + 1), D o (dv r s c) ⟨256 * ch r u c + i.val, hrow (ch_lt r u c) i⟩ ⟨2048 * r.val + j.val, hcol r j⟩
  | 0, _, c => by
    rw [Finset.sum_range_one, dv_zero]
    exact prod_apply o c _ _ r _ (ch_lt r 0 c) (ch_zero r c) i j
  | u + 1, hu, c => by
    rw [Finset.sum_range_succ']
    have es : stp u = ⟨u, by omega⟩ := Fin.ext (Nat.mod_eq_of_lt (by omega))
    have e1 : (accV o r u (prv r c) (ix2 i j : S256x2048.Idx) : EReal)
        = ∑ s ∈ Finset.range (u + 1), D o (dv r (s + 1) c) ⟨256 * ch r (u + 1) c + i.val, hrow (ch_lt r (u + 1) c) i⟩ ⟨2048 * r.val + j.val, hcol r j⟩ := by
      rw [accV_sum r i j u (by omega) (prv r c)]
      refine Finset.sum_congr rfl fun s hs => ?_
      rw [Finset.mem_range] at hs
      rw [dv_succ r ⟨s, by omega⟩ c]
      congr 2
      rw [ch_succ r ⟨u, by omega⟩ c]
    have e2 : (prod o c (xOff r (stp u) c) (xOff_inb r (stp u) c) r (ix2 i j : S256x2048.Idx) : EReal)
        = D o (dv r 0 c) ⟨256 * ch r (u + 1) c + i.val, hrow (ch_lt r (u + 1) c) i⟩ ⟨2048 * r.val + j.val, hcol r j⟩ := by
      rw [dv_zero]
      refine prod_apply o c _ _ r _ (ch_lt r (u + 1) c) ?_ i j
      rw [es, xOff_eq]
    exact congrArg₂ (fun a b : EReal => a + b) e1 e2

/-- An entry of the whole product. -/
def Y (a : Fin 4096) (b : Fin 8192) : EReal := ∑ d : Dev nD, D o d a b

theorem accV_full (r : Fin 4) (c : Dev nD) (i : Fin 256) (j : Fin 2048) :
    (accV o r 15 c (ix2 i j : S256x2048.Idx) : EReal) = Y o ⟨256 * ch r 15 c + i.val, hrow (ch_lt r 15 c) i⟩ ⟨2048 * r.val + j.val, hcol r j⟩ := by
  rw [accV_sum o r i j 15 le_rfl c, Finset.sum_range]
  have hb : Function.Bijective (fun s : Fin 16 => dv r s.val c) :=
    Finite.injective_iff_bijective.mp fun s s' h => dv_inj r c s s' h
  exact hb.sum_comp fun d => D o d _ _

theorem mx_le_Y (b : EReal) : (mx o : EReal) ≤ b ↔ 0 ≤ b ∧ ∀ p q, Y o p q ≤ b := by
  rw [mx_le]
  refine and_congr_right fun _ => ⟨fun H p q => ?_, fun H c r i => ?_⟩
  · obtain ⟨c, hc⟩ := ch_onto ⟨q.val / 2048, by omega⟩ ⟨p.val / 256, by omega⟩
    have := H c ⟨q.val / 2048, by omega⟩ (ix2 (⟨p.val % 256, by omega⟩ : Fin 256) (⟨q.val % 2048, by omega⟩ : Fin 2048) : S256x2048.Idx)
    rw [accV_full] at this
    convert this using 2
    · apply Fin.ext; show p.val = 256 * ch _ 15 c + p.val % 256; rw [hc]; show p.val = 256 * (p.val / 256) + p.val % 256; omega
    · apply Fin.ext; show q.val = 2048 * (q.val / 2048) + q.val % 2048; omega
  · obtain ⟨i0, i1, rfl⟩ : ∃ (a : Fin 256) (b : Fin 2048), i = ix2 a b := ⟨i 0, i 1, eq_ix2 (n0 := 256) (n1 := 2048) i⟩
    rw [accV_full]
    exact H _ _

/-! ## The result -/

theorem quV_dv (r : Fin 4) : ∀ (t : ℕ), t ≤ 15 → ∀ c : Dev nD, quV o r t c = quV o r 0 (dv r t c)
  | 0, _, c => by rw [dv_zero]
  | t + 1, ht, c => by
    rw [dv_succ r ⟨t, by omega⟩ c]
    exact quV_dv r t (by omega) (prv r c)

/-- A chunk quantised and dequantised, at an element. -/
theorem dequant_quant (A : Ideal .f32) (v : Vec Ideal S256x2048 .bf16) (i : S256x2048.Idx) :
    (dequant (F := Ideal) (Scalar.divf A (Scalar.ofBits .f32 0x42FE0000#32)) (quant (F := Ideal) (Scalar.divf (Scalar.ofBits .f32 0x42FE0000#32) A) (up v)) i : EReal)
      = kq A (v i) := by
  have e : shapeCast S256x2048 (up v) shapeCasts_S1x256x2048_S256x2048 = v := shapeCast_shapeCast v _ _
  unfold kq
  rw [← ofBits_127, ← ofBits_zero, ← congrFun e i]
  rfl

theorem deV_apply (r : Fin 4) (t : Fin 16) (c : Dev nD) (i : S256x2048.Idx) :
    (deV o r t.val c i : EReal) = kq (mx o) (accV o r 15 (dv r t.val c) i) := by
  unfold deV
  rw [quV_dv o r t.val (by omega) c]
  exact dequant_quant (mx o) (accV o r 15 (dv r t.val c)) i

end Cert.Ring
-- ==== Proof.RefVal.lean ====
/-
# The reference's value, entry by entry

The reference's term read at an entry: the rectified product, quantised and dequantised at the scale of its largest
entry.
-/
module

public import proofs.«01_k».proof.Proof.Sums
public import proofs.«01_k».proof.Proof.Gen.ReferenceIdeal.Run

@[expose] public section

noncomputable section

namespace Cert.Ring.Ref

open Cert.ReferenceIdeal Cert.ReferenceIdeal.Gen
open Idealize.ShloMosaic Idealize.ShloMosaic.ValueIdx
open Idealize.ShloMosaic.TcCoe
open scoped BigOperators

variable (x : FVec Ideal S4096x4096 .bf16) (w : FVec Ideal S4096x8192 .bf16)

/-- The rectified product. -/
def relu : FVec Ideal S4096x8192 .f32 :=
  maximumf (Host.dotGeneral dot_S4096x4096_S4096x8192_S4096x8192_1_0_0_1_n_n none (extf .f32 x bitsLt_bf16_f32) (extf .f32 w bitsLt_bf16_f32))
    (broadcastInDim S4096x8192 ![] bcast_S_S4096x8192 (constant S_ .f32 0x00000000#32))
/-- Its largest entry. -/
def amax : FVec Ideal S_ .f32 := Host.reduce FloatOps.maximumf (Host.absf (relu x w)) (constant S_ .f32 0xFF800000#32) reducesTo_S4096x8192_S_d0_1 h_S_
/-- The result. -/
def result : FVec Ideal S4096x8192 .bf16 :=
  truncf .bf16 (mulf (minimumf (broadcastInDim S4096x8192 ![] bcast_S_S4096x8192 (id (constant S_ .f32 0x42FE0000#32)))
    (maximumf (broadcastInDim S4096x8192 ![] bcast_S_S4096x8192 (id (constant S_ .f32 0xC2FE0000#32)))
      (Host.roundeven (Host.divf (relu x w) (broadcastInDim S4096x8192 ![] bcast_S_S4096x8192 (Host.divf (amax x w) (constant S_ .f32 0x42FE0000#32)))))))
    (broadcastInDim S4096x8192 ![] bcast_S_S4096x8192 (Host.divf (amax x w) (constant S_ .f32 0x42FE0000#32)))) bitsLt_bf16_f32

/-- An entry of the product. -/
def P (a : Fin 4096) (b : Fin 8192) : EReal := ∑ k : Fin 4096, (show EReal from x (ix2 a k)) * (show EReal from w (ix2 k b))

theorem dot_apply (a : Fin 4096) (b : Fin 8192) :
    (Host.dotGeneral (F := Ideal) dot_S4096x4096_S4096x8192_S4096x8192_1_0_0_1_n_n none (extf .f32 x bitsLt_bf16_f32) (extf .f32 w bitsLt_bf16_f32) (ix2 a b : S4096x8192.Idx) : EReal)
      = P x w a b := by
  have h := Ideal.matmul_plain_apply (M := 4096) (K := 4096) (N := 8192) (φ₁ := .bf16) (φ₂ := .bf16) none x w (fun _ => (0 : EReal)) a b
  rw [zero_add] at h
  refine Eq.trans ?_ h
  refine (Ideal.dotGeneral_apply _ _ _ _ _ _).trans ?_
  exact ((Ideal.matmul_apply _ _ _ _ _ _).trans (zero_add _)).symm

theorem relu_apply (a : Fin 4096) (b : Fin 8192) : (relu x w (ix2 a b : S4096x8192.Idx) : EReal) = max (P x w a b) 0 := by
  rw [← dot_apply, ← ofBits_zero]
  rfl

theorem amax_le (b : EReal) : (amax x w ix0 : EReal) ≤ b ↔ 0 ≤ b ∧ ∀ p q, P x w p q ≤ b := by
  unfold amax
  refine (hostMax_le (Host.absf (relu x w)) reducesTo_S4096x8192_S_d0_1 h_S_ ix0 b).trans ?_
  have e : ∀ p q, (Host.absf (relu x w) (ix2 p q : S4096x8192.Idx) : EReal) = max (P x w p q) 0 := fun p q => by
    rw [← relu_apply]
    show max (relu x w (ix2 p q) : EReal) (-(relu x w (ix2 p q) : EReal)) = _
    rw [relu_apply]
    refine max_eq_left (le_trans ?_ (le_max_right _ (0 : EReal)))
    rw [EReal.neg_le, neg_zero]
    exact le_max_right _ _
  constructor
  · intro H
    have H' : ∀ p q, max (P x w p q) 0 ≤ b := fun p q => by rw [← e]; exact H _
    exact ⟨(max_le_iff.mp (H' 0 0)).2, fun p q => (max_le_iff.mp (H' p q)).1⟩
  · rintro ⟨h0, H⟩ i
    obtain ⟨p, q, rfl⟩ : ∃ (p : Fin 4096) (q : Fin 8192), i = ix2 p q := ⟨i 0, i 1, eq_ix2 (n0 := 4096) (n1 := 8192) i⟩
    rw [e]
    exact max_le (H p q) h0

theorem result_apply (a : Fin 4096) (b : Fin 8192) : (result x w (ix2 a b : S4096x8192.Idx) : EReal) = rq (amax x w ix0) (P x w a b) := by
  unfold rq result
  rw [← relu_apply, ← ofBits_127, ← ofBits_neg127, ← broadcastInDim_scalar_apply bcast_S_S4096x8192 (amax x w) (ix2 a b)]
  rfl

end Cert.Ring.Ref
-- ==== Proof.Values.lean ====
/-
# The value claim

Each block of a device's result is the reference's block: the ring's sums are the whole product's entries, the agreed
scale is the whole product's largest entry, and the two quantisers agree.
-/
module

public import proofs.«01_k».proof.Defs
public import proofs.«01_k».proof.Proof.RefVal
public import proofs.«01_k».proof.Proof.Launch

@[expose] public section

noncomputable section

namespace Cert.Ring

open Cert.KernelIdeal Cert.KernelIdeal.Gen
open Idealize.ShloMosaic Idealize.ShloMosaic.ValueIdx
open Idealize.ShloMosaic.TcCoe
open Idealize.SL.Sem
open scoped BigOperators

section
variable (m : (ℓ : Loc nD τ sig) → Buf (Elt Ideal) ℓ)

theorem ops_x (c : Dev nD) : (ops m).x c = m ((c : Thread nD τ).loc main_arg0) := by
  have hz : (fun a => win0_0.index (0 : Fin 1) a * main_arg0.ty.shape.size a) = fun _ => 0 := funext fun a => by fin_cases a <;> decide
  exact Memref.read_access_unit_zero (Elt Ideal) main_arg0 hz (fun a => by fin_cases a <;> decide) (m ((c : Thread nD τ).loc main_arg0))
theorem ops_w (c : Dev nD) : (ops m).w c = m ((c : Thread nD τ).loc main_arg1) := by
  have hz : (fun a => win0_1.index (0 : Fin 1) a * main_arg1.ty.shape.size a) = fun _ => 0 := funext fun a => by fin_cases a <;> decide
  exact Memref.read_access_unit_zero (Elt Ideal) main_arg1 hz (fun a => by fin_cases a <;> decide) (m ((c : Thread nD τ).loc main_arg1))
end

variable (o : Ops Ideal) (x : FVec Ideal Cert.ReferenceIdeal.S4096x4096 .bf16) (w : FVec Ideal Cert.ReferenceIdeal.S4096x8192 .bf16)

theorem hdev (d : Dev nD) (k : Fin 256) : 256 * d.val + k.val < 4096 := by
  have : d.val < 16 := d.isLt
  omega

/-- The devices' operands are the blocks of the reference's. -/
structure Cut : Prop where
  hx : ∀ (d : Dev nD) (a : Fin 4096) (k : Fin 256), xE o d (ix2 a k) = x (ix2 a ⟨256 * d.val + k.val, hdev d k⟩)
  hw : ∀ (d : Dev nD) (k : Fin 256) (b : Fin 8192), wE o d (ix2 k b) = w (ix2 ⟨256 * d.val + k.val, hdev d k⟩ b)

variable {o x w}

theorem Y_eq (h : Cut o x w) (a : Fin 4096) (b : Fin 8192) : Y o a b = Ref.P x w a b := by
  unfold Y D Ref.P
  rw [← Equiv.sum_comp (finProdFinEquiv : Fin 16 × Fin 256 ≃ Fin (16 * 256)), Fintype.sum_prod_type]
  refine Finset.sum_congr rfl fun d _ => Finset.sum_congr rfl fun k _ => ?_
  rw [h.hx, h.hw]
  have e : (⟨256 * d.val + k.val, hdev d k⟩ : Fin 4096) = finProdFinEquiv (d, k) := Fin.ext (by
    show 256 * d.val + k.val = k.val + 256 * d.val; omega)
  rw [e]

theorem mx_eq (h : Cut o x w) : (mx o : EReal) = Ref.amax x w ix0 := by
  refine le_antisymm ?_ ?_
  · rw [mx_le_Y]
    have := (Ref.amax_le x w _).mp le_rfl
    exact ⟨this.1, fun p q => by rw [Y_eq h]; exact this.2 p q⟩
  · rw [Ref.amax_le]
    have := (mx_le_Y o _).mp le_rfl
    exact ⟨this.1, fun p q => by rw [← Y_eq h]; exact this.2 p q⟩

/-- A device's result is the reference's. -/
theorem out_eq (h : Cut o x w) (c : Dev nD) (f : (main_v1 : Ref sig .tc).ty.Contents (Elt Ideal)) (hf : outOk o c f) : f = Ref.result x w := by
  funext i
  obtain ⟨p, q, rfl⟩ : ∃ (p : Fin 4096) (q : Fin 8192), i = (ix2 p q : S4096x8192.Idx) := ⟨i 0, i 1, eq_ix2 (n0 := 4096) (n1 := 8192) i⟩
  obtain ⟨t, ht⟩ := blk_onto ⟨q.val / 2048, by omega⟩ c ⟨p.val / 256, by omega⟩
  have hr := congrFun (hf ⟨q.val / 2048, by omega⟩ t) (ix2 (⟨p.val % 256, by omega⟩ : Fin 256) (⟨q.val % 2048, by omega⟩ : Fin 2048) : S256x2048.Idx)
  have e1 := deV_apply o ⟨q.val / 2048, by omega⟩ t c (ix2 (⟨p.val % 256, by omega⟩ : Fin 256) (⟨q.val % 2048, by omega⟩ : Fin 2048) : S256x2048.Idx)
  rw [accV_full] at e1
  have ep : (⟨256 * ch ⟨q.val / 2048, by omega⟩ 15 (dv ⟨q.val / 2048, by omega⟩ t.val c) + p.val % 256, hrow (ch_lt _ 15 _) ⟨p.val % 256, by omega⟩⟩ : Fin 4096) = p := by
    apply Fin.ext
    show 256 * ch _ 15 (dv _ t.val c) + p.val % 256 = p.val
    rw [ch_dv, ht]
    show 256 * (p.val / 256) + p.val % 256 = p.val
    omega
  have eq : (⟨2048 * (q.val / 2048) + q.val % 2048, hcol ⟨q.val / 2048, by omega⟩ ⟨q.val % 2048, by omega⟩⟩ : Fin 8192) = q := by
    apply Fin.ext
    show 2048 * (q.val / 2048) + q.val % 2048 = q.val
    omega
  have e2 : (deV o ⟨q.val / 2048, by omega⟩ t.val c (ix2 (⟨p.val % 256, by omega⟩ : Fin 256) (⟨q.val % 2048, by omega⟩ : Fin 2048) : S256x2048.Idx) : EReal)
      = Ref.result x w (ix2 p q) := by
    refine e1.trans ?_
    have e3 : Y o ⟨256 * ch ⟨q.val / 2048, by omega⟩ 15 (dv ⟨q.val / 2048, by omega⟩ t.val c) + p.val % 256, hrow (ch_lt _ 15 _) ⟨p.val % 256, by omega⟩⟩
        ⟨2048 * (q.val / 2048) + q.val % 2048, hcol ⟨q.val / 2048, by omega⟩ ⟨q.val % 2048, by omega⟩⟩ = Ref.P x w p q := by
      rw [ep, eq, Y_eq h]
    refine (congrArg (kq (mx o)) e3).trans ?_
    rw [mx_eq h, Ref.result_apply]
    have := (Ref.amax_le x w _).mp le_rfl
    exact kq_eq_rq _ _ this.1 (this.2 p q)
  refine Eq.trans ?_ (hr.trans e2)
  refine congrArg f (funext fun d => Fin.ext ?_)
  have eo := oOffT_eq ⟨q.val / 2048, by omega⟩ c t.val t.isLt
  match d with
  | ⟨0, _⟩ =>
    show p.val = oOffT _ c t.val 0 + 1 * (p.val % 256)
    rw [eo, ht]
    show p.val = 256 * (p.val / 256) + 1 * (p.val % 256)
    omega
  | ⟨1, _⟩ =>
    show q.val = oOffT _ c t.val 1 + 1 * (q.val % 2048)
    rw [eo]
    show q.val = 2048 * (q.val / 2048) + 1 * (q.val % 2048)
    omega

theorem algebraic : Cert.algebraic_KernelIdeal_ReferenceIdeal := fun m g m' g' _ hblk =>
  ⟨Ref.result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun r h c => ⟨out_eq (o := ops m) ⟨fun d a k => by
        show (ops m).x d _ = _
        rw [ops_x m d, (hblk d).1]
        refine congrArg (m' _) (funext fun e => Fin.ext ?_)
        match e with
        | ⟨0, _⟩ => rfl
        | ⟨1, _⟩ => show d.val * 256 + k.val = 256 * d.val + k.val; omega,
      fun d k b => by
        show (ops m).w d _ = _
        rw [ops_w m d, (hblk d).2]
        refine congrArg (m' _) (funext fun e => Fin.ext ?_)
        match e with
        | ⟨0, _⟩ => show d.val * 256 + k.val = 256 * d.val + k.val; omega
        | ⟨1, _⟩ => rfl⟩ c _ (h.1 c).2.2, (h.1 c).1, (h.1 c).2.1⟩) (run_main (F := Ideal) m g),
    (θ_run Cert.ReferenceIdeal.defs _ _).mono (fun r h => h 0) (Cert.ReferenceIdeal.Value.run (F := Ideal) m' g')⟩

end Cert.Ring
-- ==== Proof.lean ====
/-
# The claims

The three frames, the idealization and the value claim, put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Values

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  exact ⟨Cert.Ring.frame_kernel, Cert.Ring.frame_ideal, Cert.Ring.frame_reference, trivial, Cert.Ring.algebraic⟩⟩

end Cert.Proof

end
